-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v33)) (v1 : (c : Dev Cert.KernelIdeal.nD) → Buf (Elt Ideal) ((c.tc : Thread Cert.KernelIdeal.nD Cert.KernelIdeal.τ).loc Cert.KernelIdeal.main_v34)) (v2 : (c : Dev Cert.KernelIdeal.nD) → Buf (Elt Ideal) ((c.tc : Thread Cert.KernelIdeal.nD Cert.KernelIdeal.τ).loc Cert.KernelIdeal.main_v30_1)) (v3 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_v34) = v1 c
          ∧ r.2.mem ((c.tc : Thread Cert.KernelIdeal.nD Cert.KernelIdeal.τ).loc Cert.KernelIdeal.main_v30_1) = v2 c
          ∧ r.2.mem ((c.tc : Thread Cert.KernelIdeal.nD Cert.KernelIdeal.τ).loc Cert.KernelIdeal.main_v23) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_v26_1) = v2 c
          ∧ r.2.mem ((c.tc : Thread Cert.ReferenceIdeal.nD Cert.ReferenceIdeal.τ).loc Cert.ReferenceIdeal.main_v17) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S12x160x128x96 : Shape := ⟨4, ![12, 160, 128, 96]⟩
abbrev S_ : Shape := ⟨0, ![]⟩
abbrev S12x160x128x192 : Shape := ⟨4, ![12, 160, 128, 192]⟩
abbrev S8x192 : Shape := ⟨2, ![8, 192]⟩
abbrev S1x32x128x192 : Shape := ⟨4, ![1, 32, 128, 192]⟩
abbrev S1x1x128x192 : Shape := ⟨4, ![1, 1, 128, 192]⟩
abbrev S128x192 : Shape := ⟨2, ![128, 192]⟩
abbrev S16x8x192 : Shape := ⟨3, ![16, 8, 192]⟩
abbrev S254 : Shape := ⟨1, ![254]⟩
abbrev S1 : Shape := ⟨1, ![1]⟩
abbrev S3x3x96x192 : Shape := ⟨4, ![3, 3, 96, 192]⟩
abbrev S1x160x128x96 : Shape := ⟨4, ![1, 160, 128, 96]⟩
abbrev S1x160x128x192 : Shape := ⟨4, ![1, 160, 128, 192]⟩
abbrev S162x3x96x128 : Shape := ⟨4, ![162, 3, 96, 128]⟩
abbrev S3x96x128 : Shape := ⟨3, ![3, 96, 128]⟩
abbrev S1x3x96x128 : Shape := ⟨4, ![1, 3, 96, 128]⟩
abbrev S96x128 : Shape := ⟨2, ![96, 128]⟩
abbrev S1x1x128x96 : Shape := ⟨4, ![1, 1, 128, 96]⟩
abbrev S128x96 : Shape := ⟨2, ![128, 96]⟩
abbrev S1x1x96x128 : Shape := ⟨4, ![1, 1, 96, 128]⟩
abbrev S1x8x128x192 : Shape := ⟨4, ![1, 8, 128, 192]⟩
abbrev S8x128x192 : Shape := ⟨3, ![8, 128, 192]⟩
abbrev S1024x192 : Shape := ⟨2, ![1024, 192]⟩
abbrev S96x1024 : Shape := ⟨2, ![96, 1024]⟩
abbrev S1x1x96x192 : Shape := ⟨4, ![1, 1, 96, 192]⟩
abbrev S96x192 : Shape := ⟨2, ![96, 192]⟩
abbrev S192 : Shape := ⟨1, ![192]⟩

abbrev nBuf : Space → Nat
  | .hbm => 68
  | .vmem => 12
  | .smem => 1
  | _ => 0

abbrev bufTy : (tb : Table) → Fin (tcTables nBuf tb) → BufTy
  | .hbm, ⟨0, _⟩ => ⟨S12x160x128x96, .fp8e4m3⟩
  | .hbm, ⟨1, _⟩ => ⟨S_, .f32⟩
  | .hbm, ⟨2, _⟩ => ⟨S12x160x128x192, .bf16⟩
  | .hbm, ⟨3, _⟩ => ⟨S8x192, .f32⟩
  | .hbm, ⟨4, _⟩ => ⟨S8x192, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S254, .i32⟩
  | .hbm, ⟨10, _⟩ => ⟨S_, .i32⟩
  | .hbm, ⟨11, _⟩ => ⟨S254, .i32⟩
  | .hbm, ⟨12, _⟩ => ⟨S254, .i32⟩
  | .hbm, ⟨13, _⟩ => ⟨S_, .i32⟩
  | .hbm, ⟨14, _⟩ => ⟨S254, .i32⟩
  | .hbm, ⟨15, _⟩ => ⟨S254, .i32⟩
  | .hbm, ⟨16, _⟩ => ⟨S254, .f32⟩
  | .hbm, ⟨17, _⟩ => ⟨S254, .f32⟩
  | .hbm, ⟨18, _⟩ => ⟨S254, .i1⟩
  | .hbm, ⟨19, _⟩ => ⟨S254, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S_, .f32⟩
  | .hbm, ⟨25, _⟩ => ⟨S_, .i1⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .f32⟩
  | .hbm, ⟨33, _⟩ => ⟨S_, .i1⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .f32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S_, .f32⟩
  | .hbm, ⟨60, _⟩ => ⟨S1, .f32⟩
  | .hbm, ⟨61, _⟩ => ⟨S3x3x96x192, .f32⟩
  | .hbm, ⟨62, _⟩ => ⟨S12x160x128x192, .fp8e5m2⟩
  | .hbm, ⟨63, _⟩ => ⟨S_, .f32⟩
  | .hbm, ⟨64, _⟩ => ⟨S3x3x96x192, .f32⟩
  | .hbm, ⟨65, _⟩ => ⟨S3x3x96x192, .f32⟩
  | .hbm, ⟨66, _⟩ => ⟨S_, .f32⟩
  | .hbm, ⟨67, _⟩ => ⟨S192, .f32⟩
  | .local _ .vmem, ⟨0, _⟩ => ⟨S1x32x128x192, .bf16⟩
  | .local _ .vmem, ⟨1, _⟩ => ⟨S1x32x128x192, .bf16⟩
  | .local _ .vmem, ⟨2, _⟩ => ⟨S8x192, .f32⟩
  | .local _ .vmem, ⟨3, _⟩ => ⟨S8x192, .f32⟩
  | .local _ .vmem, ⟨4, _⟩ => ⟨S1x160x128x96, .fp8e4m3⟩
  | .local _ .vmem, ⟨5, _⟩ => ⟨S1x160x128x96, .fp8e4m3⟩
  | .local _ .vmem, ⟨6, _⟩ => ⟨S1x160x128x192, .bf16⟩
  | .local _ .vmem, ⟨7, _⟩ => ⟨S1x160x128x192, .bf16⟩
  | .local _ .vmem, ⟨8, _⟩ => ⟨S3x3x96x192, .f32⟩
  | .local _ .vmem, ⟨9, _⟩ => ⟨S1x160x128x192, .fp8e5m2⟩
  | .local _ .vmem, ⟨10, _⟩ => ⟨S1x160x128x192, .fp8e5m2⟩
  | .local _ .vmem, ⟨11, _⟩ => ⟨S162x3x96x128, .fp8e4m3⟩
  | .local _ .smem, ⟨0, _⟩ => ⟨S1, .f32⟩
  | _, _ => ⟨S12x160x128x96, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_c_3 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_c_5 : Ref sig .tc := ⟨.hbm, 27, rfl⟩
abbrev main_v16 : Ref sig .tc := ⟨.hbm, 28, rfl⟩
abbrev main_c_6 : Ref sig .tc := ⟨.hbm, 29, rfl⟩
abbrev main_call0_v0 : Ref sig .tc := ⟨.hbm, 30, rfl⟩
abbrev main_v17 : Ref sig .tc := ⟨.hbm, 31, rfl⟩
abbrev main_cst_7 : Ref sig .tc := ⟨.hbm, 32, rfl⟩
abbrev main_v18 : Ref sig .tc := ⟨.hbm, 33, rfl⟩
abbrev main_c_8 : Ref sig .tc := ⟨.hbm, 34, rfl⟩
abbrev main_call1_v0 : Ref sig .tc := ⟨.hbm, 35, rfl⟩
abbrev main_v19 : Ref sig .tc := ⟨.hbm, 36, rfl⟩
abbrev main_c_9 : Ref sig .tc := ⟨.hbm, 37, rfl⟩
abbrev main_v20 : Ref sig .tc := ⟨.hbm, 38, rfl⟩
abbrev main_c_10 : Ref sig .tc := ⟨.hbm, 39, rfl⟩
abbrev main_c_11 : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_v21 : Ref sig .tc := ⟨.hbm, 44, rfl⟩
abbrev main_c_12 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_c_13 : Ref sig .tc := ⟨.hbm, 49, rfl⟩
abbrev main_v25 : Ref sig .tc := ⟨.hbm, 50, rfl⟩
abbrev main_c_14 : Ref sig .tc := ⟨.hbm, 51, rfl⟩
abbrev main_c_15 : Ref sig .tc := ⟨.hbm, 52, rfl⟩
abbrev main_call3_v0 : Ref sig .tc := ⟨.hbm, 53, rfl⟩
abbrev main_call3_v1 : Ref sig .tc := ⟨.hbm, 54, rfl⟩
abbrev main_call3_v2 : Ref sig .tc := ⟨.hbm, 55, rfl⟩
abbrev main_v26 : Ref sig .tc := ⟨.hbm, 56, rfl⟩
abbrev main_c_16 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30_0 : Ref sig .tc := ⟨.hbm, 61, rfl⟩
abbrev main_v30_1 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_cst_17 : Ref sig .tc := ⟨.hbm, 66, rfl⟩
abbrev main_v34 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg4_1 : Ref sig .tc := ⟨.vmem, 10, rfl⟩
abbrev cc1_scratch0 : Ref sig .tc := ⟨.vmem, 11, rfl⟩
abbrev cc1_stg0_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨2, ![12, 5], ![false, false]⟩

@[reducible] def k0_t1_loop : Scf.Loop 32 :=
  let c0_i32_2 : BitVec 32 := 0#32
  let c32_i32 : BitVec 32 := 32#32
  let v5 : BitVec 32 := Scalar.addi c0_i32_2 c32_i32
  let c1_i32 : BitVec 32 := 1#32
  ⟨c0_i32_2, v5, c1_i32⟩
def k0_off1 (k0_t1 : Fin k0_t1_loop.trips) : Fin 4 → Nat :=
  let c0 : Index := 0#32
  let c0_i32_2 : BitVec 32 := 0#32
  let c1_i32 : BitVec 32 := 1#32
  let arg5 : BitVec 32 := Scf.iv c0_i32_2 c1_i32 k0_t1
  let v6 : Index := Scalar.indexCast arg5
  let c0_4 : Index := 0#32
  let c0_5 : Index := 0#32
  ![0, v6.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x32x128x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev grid1 : Pipeline.Grid := ⟨1, ![12], ![false]⟩

@[reducible] def k1_t1_loop : Scf.Loop 32 :=
  let c0_i32_1 : BitVec 32 := 0#32
  let c160_i32 : BitVec 32 := 160#32
  let v4 : BitVec 32 := Scalar.addi c0_i32_1 c160_i32
  let c1_i32 : BitVec 32 := 1#32
  ⟨c0_i32_1, v4, c1_i32⟩
def k1_off1 (k1_t1 : Fin k1_t1_loop.trips) : Fin 4 → Nat :=
  let c0_6 : Index := 0#32
  let c0_i32_1 : BitVec 32 := 0#32
  let c1_i32 : BitVec 32 := 1#32
  let arg7 : BitVec 32 := Scf.iv c0_i32_1 c1_i32 k1_t1
  let v7 : Index := Scalar.indexCast arg7
  let c0_7 : Index := 0#32
  let c0_8 : Index := 0#32
  ![0, v7.toNat, 0, 0]
def k1_off2 (k1_t1 : Fin k1_t1_loop.trips) : Fin 4 → Nat :=
  let c0_i32_1 : BitVec 32 := 0#32
  let c1_i32 : BitVec 32 := 1#32
  let arg7 : BitVec 32 := Scf.iv c0_i32_1 c1_i32 k1_t1
  let c1_i32_12 : BitVec 32 := 1#32
  let v20 : BitVec 32 := Scalar.addi arg7 c1_i32_12
  let v21 : Index := Scalar.indexCast v20
  let c0_13 : Index := 0#32
  let c0_14 : Index := 0#32
  let c0_15 : Index := 0#32
  ![v21.toNat, 0, 0, 0]
def k1_off3 (k1_t1 : Fin k1_t1_loop.trips) : Fin 4 → Nat :=
  let c0_i32_1 : BitVec 32 := 0#32
  let c1_i32 : BitVec 32 := 1#32
  let arg7 : BitVec 32 := Scf.iv c0_i32_1 c1_i32 k1_t1
  let c1_i32_16 : BitVec 32 := 1#32
  let v25 : BitVec 32 := Scalar.addi arg7 c1_i32_16
  let v26 : Index := Scalar.indexCast v25
  let c1 : Index := 1#32
  let c0_17 : Index := 0#32
  let c0_18 : Index := 0#32
  ![v26.toNat, 1, 0, 0]
def k1_off4 (k1_t1 : Fin k1_t1_loop.trips) : Fin 4 → Nat :=
  let c0_i32_1 : BitVec 32 := 0#32
  let c1_i32 : BitVec 32 := 1#32
  let arg7 : BitVec 32 := Scf.iv c0_i32_1 c1_i32 k1_t1
  let c1_i32_19 : BitVec 32 := 1#32
  let v30 : BitVec 32 := Scalar.addi arg7 c1_i32_19
  let v31 : Index := Scalar.indexCast v30
  let c2 : Index := 2#32
  let c0_20 : Index := 0#32
  let c0_21 : Index := 0#32
  ![v31.toNat, 2, 0, 0]
@[reducible] def k1_t2_loop : Scf.Loop 32 :=
  let c0_i32_3 : BitVec 32 := 0#32
  let c20_i32 : BitVec 32 := 20#32
  let v6 : BitVec 32 := Scalar.addi c0_i32_3 c20_i32
  let c1_i32_4 : BitVec 32 := 1#32
  ⟨c0_i32_3, v6, c1_i32_4⟩
def k1_off5 (k1_t2 : Fin k1_t2_loop.trips) : Fin 4 → Nat :=
  let c0_6 : Index := 0#32
  let c0_i32_3 : BitVec 32 := 0#32
  let c1_i32_4 : BitVec 32 := 1#32
  let arg7 : BitVec 32 := Scf.iv c0_i32_3 c1_i32_4 k1_t2
  let c8_i32 : BitVec 32 := 8#32
  let v7 : BitVec 32 := Scalar.muli arg7 c8_i32
  let v8 : Index := Scalar.indexCast v7
  let c0_7 : Index := 0#32
  let c0_8 : Index := 0#32
  ![0, v8.toNat, 0, 0]
def k1_off6 (k1_t2 : Fin k1_t2_loop.trips) (c0_i32_13 : BitVec 32) (c0_i32_14 : BitVec 32) : Fin 4 → Nat :=
  let c0_i32_3 : BitVec 32 := 0#32
  let c1_i32_4 : BitVec 32 := 1#32
  let arg7 : BitVec 32 := Scf.iv c0_i32_3 c1_i32_4 k1_t2
  let c8_i32 : BitVec 32 := 8#32
  let v7 : BitVec 32 := Scalar.muli arg7 c8_i32
  let v25 : BitVec 32 := Scalar.addi v7 c0_i32_13
  let v26 : BitVec 32 := Scalar.addi v25 c0_i32_14
  let v27 : Index := Scalar.indexCast v26
  let c0_15 : Index := 0#32
  let c0_16 : Index := 0#32
  let c0_17 : Index := 0#32
  ![v27.toNat, 0, 0, 0]
def k1_off7 (k1_t2 : Fin k1_t2_loop.trips) (c0_i32_56 : BitVec 32) (c0_i32_57 : BitVec 32) : Fin 4 → Nat :=
  let c0_i32_3 : BitVec 32 := 0#32
  let c1_i32_4 : BitVec 32 := 1#32
  let arg7 : BitVec 32 := Scf.iv c0_i32_3 c1_i32_4 k1_t2
  let c8_i32 : BitVec 32 := 8#32
  let v7 : BitVec 32 := Scalar.muli arg7 c8_i32
  let v73 : BitVec 32 := Scalar.addi v7 c0_i32_56
  let v74 : BitVec 32 := Scalar.addi v73 c0_i32_57
  let v75 : Index := Scalar.indexCast v74
  let c1 : Index := 1#32
  let c0_58 : Index := 0#32
  let c0_59 : Index := 0#32
  ![v75.toNat, 1, 0, 0]
def k1_off8 (k1_t2 : Fin k1_t2_loop.trips) (c0_i32_104 : BitVec 32) (c0_i32_105 : BitVec 32) : Fin 4 → Nat :=
  let c0_i32_3 : BitVec 32 := 0#32
  let c1_i32_4 : BitVec 32 := 1#32
  let arg7 : BitVec 32 := Scf.iv c0_i32_3 c1_i32_4 k1_t2
  let c8_i32 : BitVec 32 := 8#32
  let v7 : BitVec 32 := Scalar.muli arg7 c8_i32
  let v121 : BitVec 32 := Scalar.addi v7 c0_i32_104
  let v122 : BitVec 32 := Scalar.addi v121 c0_i32_105
  let v123 : Index := Scalar.indexCast v122
  let c2 : Index := 2#32
  let c0_106 : Index := 0#32
  let c0_107 : Index := 0#32
  ![v123.toNat, 2, 0, 0]
def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_4 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 1 → Memref sig .tc .smem S1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1x160x128x96 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x160x128x192 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S3x3x96x192 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x160x128x192 .fp8e5m2 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceIdeal.lean ====
abbrev S12x160x128x96 : Shape := ⟨4, ![12, 160, 128, 96]⟩
abbrev S_ : Shape := ⟨0, ![]⟩
abbrev S12x160x128x192 : Shape := ⟨4, ![12, 160, 128, 192]⟩
abbrev S254 : Shape := ⟨1, ![254]⟩
abbrev S1 : Shape := ⟨1, ![1]⟩
abbrev S3x3x96x192 : Shape := ⟨4, ![3, 3, 96, 192]⟩
abbrev S245760x192 : Shape := ⟨2, ![245760, 192]⟩
abbrev S12x1x128x96 : Shape := ⟨4, ![12, 1, 128, 96]⟩
abbrev S12x161x128x96 : Shape := ⟨4, ![12, 161, 128, 96]⟩
abbrev S12x162x128x96 : Shape := ⟨4, ![12, 162, 128, 96]⟩
abbrev S12x162x1x96 : Shape := ⟨4, ![12, 162, 1, 96]⟩
abbrev S12x162x129x96 : Shape := ⟨4, ![12, 162, 129, 96]⟩
abbrev S12x162x130x96 : Shape := ⟨4, ![12, 162, 130, 96]⟩
abbrev S245760x96 : Shape := ⟨2, ![245760, 96]⟩
abbrev S96x192 : Shape := ⟨2, ![96, 192]⟩
abbrev S1x1x96x192 : Shape := ⟨4, ![1, 1, 96, 192]⟩
abbrev S192 : Shape := ⟨1, ![192]⟩

abbrev nBuf : Space → Nat
  | .hbm => 55
  | .vmem => 4
  | .smem => 1
  | _ => 0

abbrev bufTy : (tb : Table) → Fin (tcTables nBuf tb) → BufTy
  | .hbm, ⟨0, _⟩ => ⟨S12x160x128x96, .fp8e4m3⟩
  | .hbm, ⟨1, _⟩ => ⟨S_, .f32⟩
  | .hbm, ⟨2, _⟩ => ⟨S12x160x128x192, .bf16⟩
  | .hbm, ⟨3, _⟩ => ⟨S12x160x128x192, .f32⟩
  | .hbm, ⟨4, _⟩ => ⟨S12x160x128x192, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S254, .i32⟩
  | .hbm, ⟨10, _⟩ => ⟨S_, .i32⟩
  | .hbm, ⟨11, _⟩ => ⟨S254, .i32⟩
  | .hbm, ⟨12, _⟩ => ⟨S254, .i32⟩
  | .hbm, ⟨13, _⟩ => ⟨S254, .f32⟩
  | .hbm, ⟨14, _⟩ => ⟨S_, .f32⟩
  | .hbm, ⟨15, _⟩ => ⟨S254, .f32⟩
  | .hbm, ⟨16, _⟩ => ⟨S254, .f32⟩
  | .hbm, ⟨17, _⟩ => ⟨S_, .f32⟩
  | .hbm, ⟨18, _⟩ => ⟨S_, .i1⟩
  | .hbm, ⟨19, _⟩ => ⟨S_, .f32⟩
  | .hbm, ⟨20, _⟩ => ⟨S_, .i1⟩
  | .hbm, ⟨21, _⟩ => ⟨S_, .i1⟩
  | .hbm, ⟨22, _⟩ => ⟨S254, .f32⟩
  | .hbm, ⟨23, _⟩ => ⟨S254, .i1⟩
  | .hbm, ⟨24, _⟩ => ⟨S_, .f32⟩
  | .hbm, ⟨25, _⟩ => ⟨S_, .f32⟩
  | .hbm, ⟨26, _⟩ => ⟨S254, .f32⟩
  | .hbm, ⟨27, _⟩ => ⟨S254, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S254, .f32⟩
  | .hbm, ⟨34, _⟩ => ⟨S254, .f32⟩
  | .hbm, ⟨35, _⟩ => ⟨S_, .f32⟩
  | .hbm, ⟨36, _⟩ => ⟨S254, .f32⟩
  | .hbm, ⟨37, _⟩ => ⟨S254, .i1⟩
  | .hbm, ⟨38, _⟩ => ⟨S_, .f32⟩
  | .hbm, ⟨39, _⟩ => ⟨S_, .f32⟩
  | .hbm, ⟨40, _⟩ => ⟨S254, .f32⟩
  | .hbm, ⟨41, _⟩ => ⟨S254, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S1, .f32⟩
  | .hbm, ⟨48, _⟩ => ⟨S3x3x96x192, .f32⟩
  | .hbm, ⟨49, _⟩ => ⟨S12x160x128x192, .fp8e5m2⟩
  | .hbm, ⟨50, _⟩ => ⟨S_, .f32⟩
  | .hbm, ⟨51, _⟩ => ⟨S3x3x96x192, .f32⟩
  | .hbm, ⟨52, _⟩ => ⟨S3x3x96x192, .f32⟩
  | .hbm, ⟨53, _⟩ => ⟨S_, .f32⟩
  | .hbm, ⟨54, _⟩ => ⟨S192, .f32⟩
  | .local _ .vmem, ⟨0, _⟩ => ⟨S12x160x128x96, .fp8e4m3⟩
  | .local _ .vmem, ⟨1, _⟩ => ⟨S12x160x128x192, .bf16⟩
  | .local _ .vmem, ⟨2, _⟩ => ⟨S3x3x96x192, .f32⟩
  | .local _ .vmem, ⟨3, _⟩ => ⟨S12x160x128x192, .fp8e5m2⟩
  | .local _ .smem, ⟨0, _⟩ => ⟨S1, .f32⟩
  | _, _ => ⟨S12x160x128x96, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_cst_5 : Ref sig .tc := ⟨.hbm, 28, rfl⟩
abbrev main_v16 : Ref sig .tc := ⟨.hbm, 29, rfl⟩
abbrev main_cst_6 : Ref sig .tc := ⟨.hbm, 30, rfl⟩
abbrev main_call1_v0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_7 : Ref sig .tc := ⟨.hbm, 35, rfl⟩
abbrev main_v20 : Ref sig .tc := ⟨.hbm, 36, rfl⟩
abbrev main_v21 : Ref sig .tc := ⟨.hbm, 37, rfl⟩
abbrev main_cst_8 : Ref sig .tc := ⟨.hbm, 38, rfl⟩
abbrev main_call2_v0 : Ref sig .tc := ⟨.hbm, 39, rfl⟩
abbrev main_call2_v1 : Ref sig .tc := ⟨.hbm, 40, rfl⟩
abbrev main_v22 : Ref sig .tc := ⟨.hbm, 41, rfl⟩
abbrev main_cst_9 : Ref sig .tc := ⟨.hbm, 42, rfl⟩
abbrev main_v23 : Ref sig .tc := ⟨.hbm, 43, rfl⟩
abbrev main_cst_10 : Ref sig .tc := ⟨.hbm, 44, rfl⟩
abbrev main_call3_v0 : Ref sig .tc := ⟨.hbm, 45, rfl⟩
abbrev main_v24 : Ref sig .tc := ⟨.hbm, 46, rfl⟩
abbrev main_v25 : Ref sig .tc := ⟨.hbm, 47, rfl⟩
abbrev main_v26_0 : Ref sig .tc := ⟨.hbm, 48, rfl⟩
abbrev main_v26_1 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_11 : Ref sig .tc := ⟨.hbm, 53, rfl⟩
abbrev main_v30 : Ref sig .tc := ⟨.hbm, 54, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x160x128x96 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12x160x128x192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x3x96x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12x160x128x192 .fp8e5m2 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.KernelRun.Stats.lean ====
/- The first call (the statistics of the gradient), at any contents of the buffers when it is entered: its blocks, the
   run of its body in both cases of its conditional, what its outputs hold after each point, and its obligation. -/
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents: the elaborator recurses once per coordinate of the long axes
set_option maxRecDepth 16384

noncomputable section

namespace Cert.Kernel.Whole

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 0 of @main: custom_call 0, `cc0_stats` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 60 = 0 :=
  (fun t => by
    have ht : t.val < 60 := Nat.lt_of_lt_of_eq t.isLt N_0
    have e0 : (grid0.coords t 0).val = t.val / 5 % 12 := Pipeline.Grid.coords_val t 0 (by decide) rfl
    have e1 : (grid0.coords t 1).val = t.val / 1 % 5 := Pipeline.Grid.coords_val t 1 (by decide) rfl
    simp only [cond0_0, e0, e1]
    word_cmp
   : ∀ t : Fin grid0.N, cond0_0 (grid0.coords t) ↔ t.val % 60 = 0)

/-! ## The kernel body on any staging memrefs: a subtype the run finds -/

/-- One staging buffer of output window 1, through which its contents are stated (`View.read_writes_of_cover`: the
    choice does not matter). -/
abbrev VO0_1 : View sig .tc .vmem S8x192 .f32 := (Memref.whole cc0_stg1_0 : Memref sig .tc .vmem S8x192 .f32).view
/-- One staging buffer of output window 2, through which its contents are stated (`View.read_writes_of_cover`: the
    choice does not matter). -/
abbrev VO0_2 : View sig .tc .vmem S8x192 .f32 := (Memref.whole cc0_stg2_0 : Memref sig .tc .vmem S8x192 .f32).view
/-- Each window's current staging memref at point `t`, spelled as the pipeline passes it (`bodyAt0`), and its wholeness. -/
abbrev ms0_0 (t : Fin cfg0.N) : Memref sig .tc .vmem S1x32x128x192 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x192 .f32 := win0_2.stage (cfg0.slots t 2)
abbrev hs0_2 (t : Fin cfg0.N) : (ms0_2 t).IsWhole := hstage0_2 ((cfg0.slots t 2).cast nbuf0_2)

-- (the run's proof term is large: the definition's epilogue — `abstractNestedProofs` — walks it past the default budget)
set_option maxHeartbeats 1000000 in
/-- What the body's stores leave in each output's staging memref, as pieces (last first) IN CASE A (`scf.if` 0 taken: points 0), WITH the
    proof that on whole staging memrefs — the inputs' at their contents, the other outputs' at
    anything, the body runs to the continuation holding the inputs' as they were,
    each output's buffer with its pieces written: the printed functions are their skeletons
    (`*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S1x32x128x192 .bf16) (harg2 : arg2.IsWhole) (arg3 : Memref sig .tc .vmem S8x192 .f32) (harg3 : arg3.IsWhole) (arg4 : Memref sig .tc .vmem S8x192 .f32) (harg4 : arg4.IsWhole) (hc0 : cond0_0 i)
    (x0 : Vec F S1x32x128x192 .bf16) :
    Σ' (L1 : List (View.Piece (Elt F) S8x192 .f32)), { L2 : List (View.Piece (Elt F) S8x192 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d)
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2)) -∗ K ⟨⟩))
          ⊢ wp frame (wpE (defs₀ (F := F)) Variants.none c none) E (cc0_stats i arg2 harg2 arg3 harg3 arg4 harg4) K } := by
  refine ⟨?_, ?_, fun E K => ?run⟩
  case run =>
    simp only [cc0_stats_eq_skeleton]; unfold cc0_stats_skel
    unfold owns
    iintro ⟨⟨%f0, %hf0, H0⟩, ⟨%d1, %f1, -, H1⟩, ⟨%d2, %f2, -, H2⟩, Hk⟩
    obtain rfl := harg2.eq_unread hf0
    sl_exec (disch := first | sl_exact hc0)
    sl_step
    iapply Hk
    isplitl [H0]
    · iexists _; isplitr; · ipureintro; exact harg2.read_unread _
      iexact H0
    isplitl [H1]; · iexists _; iexact H1
    iexists _; iexact H2

/-- Case A's pieces for output 1 tile its block (33 stores of `S8x192`, checked by the kernel's evaluation: Lib/Ring.lean `Piece.tiledL`, linear in the pieces, through a loop's `@[irreducible]` trip theorem too), so they cover it. -/
theorem cover0_A_1 (c : Dev nD) (i : grid0.Coords) (arg2 : Memref sig .tc .vmem S1x32x128x192 .bf16) (harg2 : arg2.IsWhole) (arg3 : Memref sig .tc .vmem S8x192 .f32) (harg3 : arg3.IsWhole) (arg4 : Memref sig .tc .vmem S8x192 .f32) (harg4 : arg4.IsWhole) (hc0 : cond0_0 i)
    (x0 : Vec F S1x32x128x192 .bf16) (y : S8x192.Idx) :
    ∃ pc ∈ (kernelRun0_A c i arg2 harg2 arg3 harg3 arg4 harg4 hc0 x0).1, y ∈ pc.1.set :=
  View.cover_of_tiledL (kernelRun0_A c i arg2 harg2 arg3 harg3 arg4 harg4 hc0 x0).1 S8x192.size (by sl_kernel_rfl) y

/-- What case A leaves in output 1's staging buffer: its pieces read back over junk. -/
def out0_A_1 (c : Dev nD) (i : grid0.Coords) (arg2 : Memref sig .tc .vmem S1x32x128x192 .bf16) (harg2 : arg2.IsWhole) (arg3 : Memref sig .tc .vmem S8x192 .f32) (harg3 : arg3.IsWhole) (arg4 : Memref sig .tc .vmem S8x192 .f32) (harg4 : arg4.IsWhole) (hc0 : cond0_0 i)
    (x0 : Vec F S1x32x128x192 .bf16) : Vec F S8x192 .f32 :=
  VO0_1.read (Elt F) (VO0_1.writes (Elt F) VO0_1.junk (kernelRun0_A c i arg2 harg2 arg3 harg3 arg4 harg4 hc0 x0).1)

/-- Case A's pieces for output 2 tile its block (33 stores of `S8x192`, checked by the kernel's evaluation: Lib/Ring.lean `Piece.tiledL`, linear in the pieces, through a loop's `@[irreducible]` trip theorem too), so they cover it. -/
theorem cover0_A_2 (c : Dev nD) (i : grid0.Coords) (arg2 : Memref sig .tc .vmem S1x32x128x192 .bf16) (harg2 : arg2.IsWhole) (arg3 : Memref sig .tc .vmem S8x192 .f32) (harg3 : arg3.IsWhole) (arg4 : Memref sig .tc .vmem S8x192 .f32) (harg4 : arg4.IsWhole) (hc0 : cond0_0 i)
    (x0 : Vec F S1x32x128x192 .bf16) (y : S8x192.Idx) :
    ∃ pc ∈ (kernelRun0_A c i arg2 harg2 arg3 harg3 arg4 harg4 hc0 x0).2.1, y ∈ pc.1.set :=
  View.cover_of_tiledL (kernelRun0_A c i arg2 harg2 arg3 harg3 arg4 harg4 hc0 x0).2.1 S8x192.size (by sl_kernel_rfl) y

/-- What case A leaves in output 2's staging buffer: its pieces read back over junk. -/
def out0_A_2 (c : Dev nD) (i : grid0.Coords) (arg2 : Memref sig .tc .vmem S1x32x128x192 .bf16) (harg2 : arg2.IsWhole) (arg3 : Memref sig .tc .vmem S8x192 .f32) (harg3 : arg3.IsWhole) (arg4 : Memref sig .tc .vmem S8x192 .f32) (harg4 : arg4.IsWhole) (hc0 : cond0_0 i)
    (x0 : Vec F S1x32x128x192 .bf16) : Vec F S8x192 .f32 :=
  VO0_2.read (Elt F) (VO0_2.writes (Elt F) VO0_2.junk (kernelRun0_A c i arg2 harg2 arg3 harg3 arg4 harg4 hc0 x0).2.1)

-- (the run's proof term is large: the definition's epilogue — `abstractNestedProofs` — walks it past the default budget)
set_option maxHeartbeats 1000000 in
/-- What the body's stores leave in each output's staging memref, as pieces (last first) IN CASE B (`scf.if` 0 not taken: points 1, 2, … 59: 59 of 60), WITH the
    proof that on whole staging memrefs — the inputs' at their contents, the outputs it reads before covering (1, 2) at their running contents `xo·`, the other outputs' at
    anything, the body runs to the continuation holding the inputs' as they were,
    each output's buffer with its pieces written: the printed functions are their skeletons
    (`*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S1x32x128x192 .bf16) (harg2 : arg2.IsWhole) (arg3 : Memref sig .tc .vmem S8x192 .f32) (harg3 : arg3.IsWhole) (arg4 : Memref sig .tc .vmem S8x192 .f32) (harg4 : arg4.IsWhole) (hc0 : ¬cond0_0 i)
    (x0 : Vec F S1x32x128x192 .bf16) (xo1 : Vec F S8x192 .f32) (xo2 : Vec F S8x192 .f32) :
    Σ' (L1 : List (View.Piece (Elt F) S8x192 .f32)), { L2 : List (View.Piece (Elt F) S8x192 .f32) //
      ∀ (E : Set ℕ) (K : PUnit → sProp 𝕄),
        iprop(owns (c : Thread nD τ) arg2 fullShare x0 ∗ owns (c : Thread nD τ) arg3 fullShare xo1 ∗ owns (c : Thread nD τ) arg4 fullShare xo2
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2)) -∗ K ⟨⟩))
          ⊢ wp frame (wpE (defs₀ (F := F)) Variants.none c none) E (cc0_stats i arg2 harg2 arg3 harg3 arg4 harg4) K } := by
  refine ⟨?_, ?_, fun E K => ?run⟩
  case run =>
    simp only [cc0_stats_eq_skeleton]; unfold cc0_stats_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]; · iexists _; iexact H1
    iexists _; iexact H2

/-- Case B's pieces for output 1 tile its block (32 stores of `S8x192`, checked by the kernel's evaluation: Lib/Ring.lean `Piece.tiledL`, linear in the pieces, through a loop's `@[irreducible]` trip theorem too), so they cover it. -/
theorem cover0_B_1 (c : Dev nD) (i : grid0.Coords) (arg2 : Memref sig .tc .vmem S1x32x128x192 .bf16) (harg2 : arg2.IsWhole) (arg3 : Memref sig .tc .vmem S8x192 .f32) (harg3 : arg3.IsWhole) (arg4 : Memref sig .tc .vmem S8x192 .f32) (harg4 : arg4.IsWhole) (hc0 : ¬cond0_0 i)
    (x0 : Vec F S1x32x128x192 .bf16) (xo1 : Vec F S8x192 .f32) (xo2 : Vec F S8x192 .f32) (y : S8x192.Idx) :
    ∃ pc ∈ (kernelRun0_B c i arg2 harg2 arg3 harg3 arg4 harg4 hc0 x0 xo1 xo2).1, y ∈ pc.1.set :=
  View.cover_of_tiledL (kernelRun0_B c i arg2 harg2 arg3 harg3 arg4 harg4 hc0 x0 xo1 xo2).1 S8x192.size (by sl_kernel_rfl) y

/-- What case B leaves in output 1's staging buffer: its pieces read back over junk. -/
def out0_B_1 (c : Dev nD) (i : grid0.Coords) (arg2 : Memref sig .tc .vmem S1x32x128x192 .bf16) (harg2 : arg2.IsWhole) (arg3 : Memref sig .tc .vmem S8x192 .f32) (harg3 : arg3.IsWhole) (arg4 : Memref sig .tc .vmem S8x192 .f32) (harg4 : arg4.IsWhole) (hc0 : ¬cond0_0 i)
    (x0 : Vec F S1x32x128x192 .bf16) (xo1 : Vec F S8x192 .f32) (xo2 : Vec F S8x192 .f32) : Vec F S8x192 .f32 :=
  VO0_1.read (Elt F) (VO0_1.writes (Elt F) VO0_1.junk (kernelRun0_B c i arg2 harg2 arg3 harg3 arg4 harg4 hc0 x0 xo1 xo2).1)

/-- Case B's pieces for output 2 tile its block (32 stores of `S8x192`, checked by the kernel's evaluation: Lib/Ring.lean `Piece.tiledL`, linear in the pieces, through a loop's `@[irreducible]` trip theorem too), so they cover it. -/
theorem cover0_B_2 (c : Dev nD) (i : grid0.Coords) (arg2 : Memref sig .tc .vmem S1x32x128x192 .bf16) (harg2 : arg2.IsWhole) (arg3 : Memref sig .tc .vmem S8x192 .f32) (harg3 : arg3.IsWhole) (arg4 : Memref sig .tc .vmem S8x192 .f32) (harg4 : arg4.IsWhole) (hc0 : ¬cond0_0 i)
    (x0 : Vec F S1x32x128x192 .bf16) (xo1 : Vec F S8x192 .f32) (xo2 : Vec F S8x192 .f32) (y : S8x192.Idx) :
    ∃ pc ∈ (kernelRun0_B c i arg2 harg2 arg3 harg3 arg4 harg4 hc0 x0 xo1 xo2).2.1, y ∈ pc.1.set :=
  View.cover_of_tiledL (kernelRun0_B c i arg2 harg2 arg3 harg3 arg4 harg4 hc0 x0 xo1 xo2).2.1 S8x192.size (by sl_kernel_rfl) y

/-- What case B leaves in output 2's staging buffer: its pieces read back over junk. -/
def out0_B_2 (c : Dev nD) (i : grid0.Coords) (arg2 : Memref sig .tc .vmem S1x32x128x192 .bf16) (harg2 : arg2.IsWhole) (arg3 : Memref sig .tc .vmem S8x192 .f32) (harg3 : arg3.IsWhole) (arg4 : Memref sig .tc .vmem S8x192 .f32) (harg4 : arg4.IsWhole) (hc0 : ¬cond0_0 i)
    (x0 : Vec F S1x32x128x192 .bf16) (xo1 : Vec F S8x192 .f32) (xo2 : Vec F S8x192 .f32) : Vec F S8x192 .f32 :=
  VO0_2.read (Elt F) (VO0_2.writes (Elt F) VO0_2.junk (kernelRun0_B c i arg2 harg2 arg3 harg3 arg4 harg4 hc0 x0 xo1 xo2).2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S8x192 .f32 × Vec F S8x192 .f32
  | 0, hn => (out0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (iblk0 V c 0 ⟨0, hn⟩), out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (iblk0 V c 0 ⟨0, hn⟩))
  | n + 1, hn =>
    if h0 : (n + 1) % 60 = 0 then
      (out0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (iblk0 V c 0 ⟨n + 1, hn⟩), out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (iblk0 V c 0 ⟨n + 1, hn⟩))
    else
      (out0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (iblk0 V c 0 ⟨n + 1, hn⟩) (outsAt0 c n (Nat.lt_of_succ_lt hn)).1 (outsAt0 c n (Nat.lt_of_succ_lt hn)).2, out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (iblk0 V c 0 ⟨n + 1, hn⟩) (outsAt0 c n (Nat.lt_of_succ_lt hn)).1 (outsAt0 c n (Nat.lt_of_succ_lt hn)).2)

/-- `outsAt0` at a point of case A: that case's contents. -/
theorem outsAt0_A (c : Dev nD) (t : Fin cfg0.N) (h0 : t.val % 60 = 0) :
    outsAt0 V c t.val t.isLt = (out0_A_1 c (grid0.coords t) (ms0_0 t) (hs0_0 t) (ms0_1 t) (hs0_1 t) (ms0_2 t) (hs0_2 t) ((hcond0_0 t).mpr h0) (iblk0 V c 0 t), out0_A_2 c (grid0.coords t) (ms0_0 t) (hs0_0 t) (ms0_1 t) (hs0_1 t) (ms0_2 t) (hs0_2 t) ((hcond0_0 t).mpr h0) (iblk0 V c 0 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 60 = 0) :
    outsAt0 V c t.val t.isLt = (out0_B_1 c (grid0.coords t) (ms0_0 t) (hs0_0 t) (ms0_1 t) (hs0_1 t) (ms0_2 t) (hs0_2 t) (fun h => h0 ((hcond0_0 t).mp h)) (iblk0 V c 0 t) (outsAt0 V c (t.val - 1) (Nat.lt_of_le_of_lt (Nat.sub_le _ _) t.isLt)).1 (outsAt0 V c (t.val - 1) (Nat.lt_of_le_of_lt (Nat.sub_le _ _) t.isLt)).2, out0_B_2 c (grid0.coords t) (ms0_0 t) (hs0_0 t) (ms0_1 t) (hs0_1 t) (ms0_2 t) (hs0_2 t) (fun h => h0 ((hcond0_0 t).mp h)) (iblk0 V c 0 t) (outsAt0 V c (t.val - 1) (Nat.lt_of_le_of_lt (Nat.sub_le _ _) t.isLt)).1 (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem after0_2 (c : Dev nD) (t : Fin cfg0.N) : (dat0 V c).after 2 t = (outsAt0 V c t.val t.isLt).2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
/-- At a point of case B output 1's current staging buffer holds what the body left at the point before: the point is
    not the first, the buffer was not written back between (`flush0_1`), the window is live and uncut (Lib/Pipeline/Frame.lean
    `Dat.before_out_kept`). -/
theorem before0_1_B (c : Dev nD) (t : Fin cfg0.N) (h0 : ¬t.val % 60 = 0) (d) :
    (dat0 V c).before 1 t d = (outsAt0 V c (t.val - 1) (Nat.lt_of_le_of_lt (Nat.sub_le _ _) t.isLt)).1 := by
  have hN : t.val < 60 := lt_of_lt_of_eq t.isLt (show cfg0.N = 60 from N_0)
  rw [Dat.before_out_kept _ 1 rfl t (by omega) (Bool.eq_false_iff.mpr fun h => by have := (flush0_1 _).mp h; dsimp only at this; omega)
    (fun _ => rfl) (fun _ _ => rfl)]
  dsimp only [dat0]
/-- At a point of case B output 2's current staging buffer holds what the body left at the point before: the point is
    not the first, the buffer was not written back between (`flush0_2`), the window is live and uncut (Lib/Pipeline/Frame.lean
    `Dat.before_out_kept`). -/
theorem before0_2_B (c : Dev nD) (t : Fin cfg0.N) (h0 : ¬t.val % 60 = 0) (d) :
    (dat0 V c).before 2 t d = (outsAt0 V c (t.val - 1) (Nat.lt_of_le_of_lt (Nat.sub_le _ _) t.isLt)).2 := by
  have hN : t.val < 60 := lt_of_lt_of_eq t.isLt (show cfg0.N = 60 from N_0)
  rw [Dat.before_out_kept _ 2 rfl t (by omega) (Bool.eq_false_iff.mpr fun h => by have := (flush0_2 _).mp h; dsimp only at this; omega)
    (fun _ => rfl) (fun _ _ => rfl)]
  dsimp only [dat0]

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 800000 in
/-- The body at any point: the inputs' memrefs hold their blocks (`before0_W`); the closed forms say which case the point is in (`by_cases`), an output the case reads before covering holds what the point before left (`before0_W_κ`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  have hN : t.val < 60 := lt_of_lt_of_eq t.isLt (show cfg0.N = 60 from N_0)
  by_cases h0 : t.val % 60 = 0
  · rw [outsAt0_A V c t h0]
    unfold out0_A_1 out0_A_2; (try dsimp only)
    iintro ⟨HΦ, Ho, ⟨%d0, H0⟩, ⟨%d1, H1⟩, ⟨%d2, H2⟩⟩
    iapply ((kernelRun0_A c (grid0.coords t) _ _ _ _ _ _ ((hcond0_0 t).mpr h0) (iblk0 V c 0 t)).2.2 Set.univ _)
    isplitl [H0]; · iexact H0
    isplitl [H1]; · iexists _; iexact H1
    isplitl [H2]; · iexists _; iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover0_A_1 c _ _ _ _ _ _ _ _ _)
    unfold owns; iexists _; isplitr
    swap; · iexact H2
    ipureintro; exact View.read_writes_of_cover _ _ _ _ _ (cover0_A_2 c _ _ _ _ _ _ _ _ _)
  · rw [outsAt0_B V c t h0]
    simp only [before0_1_B V c t h0, before0_2_B V c t h0]
    unfold out0_B_1 out0_B_2; (try dsimp only)
    iintro ⟨HΦ, Ho, ⟨%d0, H0⟩, ⟨%d1, H1⟩, ⟨%d2, H2⟩⟩
    iapply ((kernelRun0_B c (grid0.coords t) _ _ _ _ _ _ (fun h => h0 ((hcond0_0 t).mp h)) (iblk0 V c 0 t) _ _).2.2 Set.univ _)
    isplitl [H0]; · iexact H0
    isplitl [H1]; · iexact H1
    isplitl [H2]; · iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover0_B_1 c _ _ _ _ _ _ _ _ _ _ _)
    unfold owns; iexists _; isplitr
    swap; · iexact H2
    ipureintro; exact View.read_writes_of_cover _ _ _ _ _ (cover0_B_2 c _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.Kernel.Whole

end
-- ==== Proof.KernelRun.WgradBlocks.lean ====
/- The second call (the weight gradient), at any contents of the buffers when it is entered: its blocks and the names of its
   buffers. -/
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents: the elaborator recurses once per coordinate of the long axes
set_option maxRecDepth 16384

noncomputable section

namespace Cert.Kernel.Whole

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 1 of @main: custom_call 1, `cc1_wgrad` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 0).val) 0#32)) 0#32) = 1#1
/-- It holds at the first point only — by arithmetic of the point. -/
theorem hcond1_0 : ∀ t : Fin cfg1.N, cond1_0 (grid1.coords t) ↔ t.val % 12 = 0 :=
  (fun t => by
    have ht : t.val < 12 := Nat.lt_of_lt_of_eq t.isLt N_1
    have e0 : (grid1.coords t 0).val = t.val / 1 % 12 := Pipeline.Grid.coords_val t 0 (by decide) rfl
    simp only [cond1_0, e0]
    word_cmp
   : ∀ t : Fin grid1.N, cond1_0 (grid1.coords t) ↔ t.val % 12 = 0)

/-! ## The kernel body on any staging memrefs: a subtype the run finds -/

/-- One staging buffer of output window 3, through which its contents are stated (`View.read_writes_of_cover`: the
    choice does not matter). -/
abbrev VO1_3 : View sig .tc .vmem S3x3x96x192 .f32 := (Memref.whole cc1_stg3_0 : Memref sig .tc .vmem S3x3x96x192 .f32).view
/-- One staging buffer of output window 4, through which its contents are stated (`View.read_writes_of_cover`: the
    choice does not matter). -/
abbrev VO1_4 : View sig .tc .vmem S1x160x128x192 .fp8e5m2 := (Memref.whole cc1_stg4_0 : Memref sig .tc .vmem S1x160x128x192 .fp8e5m2).view
/-- Each window's current staging memref at point `t`, spelled as the pipeline passes it (`bodyAt1`), and its wholeness. -/
abbrev ms1_0 (t : Fin cfg1.N) : Memref sig .tc .smem S1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x160x128x96 .fp8e4m3 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x160x128x192 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S3x3x96x192 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x160x128x192 .fp8e5m2 := win1_4.stage (cfg1.slots t 4)
abbrev hs1_4 (t : Fin cfg1.N) : (ms1_4 t).IsWhole := hstage1_4 ((cfg1.slots t 4).cast nbuf1_4)
/-- The scratch operands: whole scoped buffers of the kernel's own, passed beside the windows. -/
abbrev scM1_0 : Memref sig .tc .vmem S162x3x96x128 .fp8e4m3 := Memref.whole cc1_scratch0

/-- The frame kit's invariant with the scratch operands as memrefs owned at some contents (`scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ d, owns (c : Thread nD τ) scM1_0 fullShare d)) ∗ (∃ r, prngReg c r)) := by
  unfold Pipeline.ΦA; rw [scopedRest1_eq]; simp only [scM1_0, owns_whole]; try rfl

/-- The scratch `arg6` the kernel carries between points, as a view: what it holds is stated through it. -/
abbrev VS1_0 : View sig .tc .vmem S162x3x96x128 .fp8e4m3 := scM1_0.view

end Cert.Kernel.Whole

end
-- ==== Proof.Pieces.lean ====
/- A buffer of rank four written block by block, read at an index named by its four coordinates. -/
module

public import Idealize.ShloMosaic.Lib.Writes
public import Idealize.ShloMosaic.Lib.Pointwise.Index

@[expose] public section

namespace Cert.Pieces

open Idealize.ShloMosaic

variable {sig : RefSig} {κ : Kind} {sp : Space} {e : EltTy} {Val : EltTy → Type} {n0 n1 n2 n3 m0 m1 m2 m3 : ℕ}

/-- The newest write, read inside its block. -/
theorem hit4 (v : View sig κ sp ⟨4, ![n0, n1, n2, n3]⟩ e) (f : v.ty.Contents Val) (off : Fin 4 → ℕ)
    (inb : ∀ x : Fin 4, off x + (![m0, m1, m2, m3] : Fin 4 → ℕ) x ≤ (![n0, n1, n2, n3] : Fin 4 → ℕ) x)
    (w : (⟨4, ![m0, m1, m2, m3]⟩ : Shape).Idx → Val e) (L : List (View.Piece Val ⟨4, ![n0, n1, n2, n3]⟩ e))
    {o0 o1 o2 o3 : ℕ} (h : off = ![o0, o1, o2, o3]) (a : Fin n0) (b : Fin n1) (q : Fin n2) (l : Fin n3) (a' : Fin m0) (b' : Fin m1) (q' : Fin m2) (l' : Fin m3)
    (h0 : a.val = o0 + a'.val) (h1 : b.val = o1 + b'.val) (h2 : q.val = o2 + q'.val) (h3 : l.val = o3 + l'.val) :
    v.read Val (v.writes Val f ((⟨Rect.unit (s := ⟨4, ![n0, n1, n2, n3]⟩) off ![m0, m1, m2, m3] inb, w⟩ : View.Piece Val ⟨4, ![n0, n1, n2, n3]⟩ e) :: L)) (ix4 a b q l)
      = w (ix4 a' b' q' l') := by
  subst h
  refine View.read_writes_cons_hit_of_coords v f (Rect.unit (s := ⟨4, ![n0, n1, n2, n3]⟩) ![o0, o1, o2, o3] ![m0, m1, m2, m3] inb) w L (ix4 a' b' q' l') (ix4 a b q l) ?_
  intro x
  match x with
  | 0 => show a.val = o0 + 1 * a'.val; omega
  | 1 => show b.val = o1 + 1 * b'.val; omega
  | 2 => show q.val = o2 + 1 * q'.val; omega
  | 3 => show l.val = o3 + 1 * l'.val; omega

/-- The newest write, read at an index that the first axis tells apart from its block; -/
theorem miss4_0 (v : View sig κ sp ⟨4, ![n0, n1, n2, n3]⟩ e) (f : v.ty.Contents Val) (off : Fin 4 → ℕ)
    (inb : ∀ x : Fin 4, off x + (![m0, m1, m2, m3] : Fin 4 → ℕ) x ≤ (![n0, n1, n2, n3] : Fin 4 → ℕ) x)
    (w : (⟨4, ![m0, m1, m2, m3]⟩ : Shape).Idx → Val e) (L : List (View.Piece Val ⟨4, ![n0, n1, n2, n3]⟩ e))
    {o0 o1 o2 o3 : ℕ} (h : off = ![o0, o1, o2, o3]) (a : Fin n0) (b : Fin n1) (q : Fin n2) (l : Fin n3)
    (h0 : a.val < o0 ∨ o0 + m0 ≤ a.val) :
    v.read Val (v.writes Val f ((⟨Rect.unit (s := ⟨4, ![n0, n1, n2, n3]⟩) off ![m0, m1, m2, m3] inb, w⟩ : View.Piece Val ⟨4, ![n0, n1, n2, n3]⟩ e) :: L)) (ix4 a b q l)
      = v.read Val (v.writes Val f L) (ix4 a b q l) := by
  subst h
  exact View.read_writes_cons_miss_of_axis v f ⟨Rect.unit (s := ⟨4, ![n0, n1, n2, n3]⟩) ![o0, o1, o2, o3] ![m0, m1, m2, m3] inb, w⟩ L _ 0 o0 m0 rfl rfl rfl h0

/-- at one that the second axis tells apart. -/
theorem miss4_1 (v : View sig κ sp ⟨4, ![n0, n1, n2, n3]⟩ e) (f : v.ty.Contents Val) (off : Fin 4 → ℕ)
    (inb : ∀ x : Fin 4, off x + (![m0, m1, m2, m3] : Fin 4 → ℕ) x ≤ (![n0, n1, n2, n3] : Fin 4 → ℕ) x)
    (w : (⟨4, ![m0, m1, m2, m3]⟩ : Shape).Idx → Val e) (L : List (View.Piece Val ⟨4, ![n0, n1, n2, n3]⟩ e))
    {o0 o1 o2 o3 : ℕ} (h : off = ![o0, o1, o2, o3]) (a : Fin n0) (b : Fin n1) (q : Fin n2) (l : Fin n3)
    (h1 : b.val < o1 ∨ o1 + m1 ≤ b.val) :
    v.read Val (v.writes Val f ((⟨Rect.unit (s := ⟨4, ![n0, n1, n2, n3]⟩) off ![m0, m1, m2, m3] inb, w⟩ : View.Piece Val ⟨4, ![n0, n1, n2, n3]⟩ e) :: L)) (ix4 a b q l)
      = v.read Val (v.writes Val f L) (ix4 a b q l) := by
  subst h
  exact View.read_writes_cons_miss_of_axis v f ⟨Rect.unit (s := ⟨4, ![n0, n1, n2, n3]⟩) ![o0, o1, o2, o3] ![m0, m1, m2, m3] inb, w⟩ L _ 1 o1 m1 rfl rfl rfl h1

end Cert.Pieces
-- ==== Proof.KernelRun.WgradLoops.lean ====
/- The two loops of the second call's body as functions of the values that its buffers hold. -/
module

public import proofs.«01_k».proof.Proof.Gen.Kernel.Loops
public import Idealize.ShloMosaic.Lib.Pipeline.Value
public import Idealize.ShloMosaic.Lib.Pointwise.Index
public import proofs.«01_k».proof.Proof.Pieces
import all proofs.«01_k».proof.Proof.Gen.Kernel.Loops

@[expose] public section

set_option maxRecDepth 16384

noncomputable section

namespace Cert.Kernel.Whole

open Cert.Kernel.Gen Cert.Pieces
open Idealize.ShloMosaic Idealize.ShloMosaic.TcCoe Idealize.ShloMosaic.Tactic

variable {F : FTy → Type} [FloatOps F]

/-! # The two loops of the second call's body, told as functions of the VALUES their buffers hold

Everything here is about values: what a buffer holds is a function of its index, and no buffer, view or list of
writes is left in the statements that the rest of the proof uses. -/

/-! ## What one trip reads -/

/-- Eight image rows of the gradient, as one chunk of the second loop reads them. -/
def chunk (x2 : Vec F S1x160x128x192 .bf16) (k : Fin k1_t2_loop.trips) : Vec F S1x8x128x192 .bf16 :=
  View.ld x2 (Rect.unit (s := S1x160x128x192) (k1_off5 k) S1x8x128x192.size (k1_off5_inb k))

/-- One image row of the input, as one trip of the first loop reads it. -/
def inRow (x1 : Vec F S1x160x128x96 .fp8e4m3) (k : Fin k1_t1_loop.trips) : Vec F S1x1x128x96 .fp8e4m3 :=
  View.ld x1 (Rect.unit (s := S1x160x128x96) (k1_off1 k) S1x1x128x96.size (k1_off1_inb k))

/-- Row `j` of chunk `k` of the shifted copies, for the tap `(kh, kw)`. -/
def tapRow (x6 : Vec F S162x3x96x128 .fp8e4m3) (k : Fin k1_t2_loop.trips) (kh : Fin 3) : Fin 3 → Fin 8 → Vec F S1x1x96x128 .fp8e4m3
  | 0, j => View.ld x6 (Rect.unit (s := S162x3x96x128) (k1_off6 k (BitVec.ofNat 32 j.val) (BitVec.ofNat 32 kh.val)) S1x1x96x128.size (k1_off6_inb k j kh))
  | 1, j => View.ld x6 (Rect.unit (s := S162x3x96x128) (k1_off7 k (BitVec.ofNat 32 j.val) (BitVec.ofNat 32 kh.val)) S1x1x96x128.size (k1_off7_inb k j kh))
  | 2, j => View.ld x6 (Rect.unit (s := S162x3x96x128) (k1_off8 k (BitVec.ofNat 32 j.val) (BitVec.ofNat 32 kh.val)) S1x1x96x128.size (k1_off8_inb k j kh))

/-! ## What one trip stores -/

/-- One tap's block after one chunk: what it held plus the product of the eight rows side by side with the chunk's codes. -/
def tapPay (g : FVec F S1024x192 .fp8e5m2) (rows : Fin 8 → Vec F S1x1x96x128 .fp8e4m3) (blk : Vec F S1x1x96x192 .f32) : Vec F S1x1x96x192 .f32 :=
  k1_pay10 g
    (concatenate S96x1024 1 [⟨S96x128, shapeCast S96x128 (rows 0) shapeCasts_S1x1x96x128_S96x128⟩, ⟨S96x128, shapeCast S96x128 (rows 1) shapeCasts_S1x1x96x128_S96x128⟩, ⟨S96x128, shapeCast S96x128 (rows 2) shapeCasts_S1x1x96x128_S96x128⟩, ⟨S96x128, shapeCast S96x128 (rows 3) shapeCasts_S1x1x96x128_S96x128⟩, ⟨S96x128, shapeCast S96x128 (rows 4) shapeCasts_S1x1x96x128_S96x128⟩, ⟨S96x128, shapeCast S96x128 (rows 5) shapeCasts_S1x1x96x128_S96x128⟩, ⟨S96x128, shapeCast S96x128 (rows 6) shapeCasts_S1x1x96x128_S96x128⟩, ⟨S96x128, shapeCast S96x128 (rows 7) shapeCasts_S1x1x96x128_S96x128⟩] concatenates_S96x128_S96x128_S96x128_S96x128_S96x128_S96x128_S96x128_S96x128_S96x1024_d1)
    (shapeCast S96x192 blk shapeCasts_S1x1x96x192_S96x192)

/-- The first loop's stores of one trip, last first: the three shifted copies of one row. -/
def tapPieces (x1 : Vec F S1x160x128x96 .fp8e4m3) (k : Fin k1_t1_loop.trips) : List (View.Piece (Elt F) S162x3x96x128 .fp8e4m3) :=
  [⟨Rect.unit (s := S162x3x96x128) (k1_off4 k) S1x1x96x128.size (k1_off4_inb k), k1_pay9 (inRow x1 k)⟩,
   ⟨Rect.unit (s := S162x3x96x128) (k1_off3 k) S1x1x96x128.size (k1_off3_inb k), k1_pay8 (inRow x1 k)⟩,
   ⟨Rect.unit (s := S162x3x96x128) (k1_off2 k) S1x1x96x128.size (k1_off2_inb k), k1_pay7 (inRow x1 k)⟩]

/-- The second loop's stores of one trip into the gradient of the weights, last first. -/
def dwPieces (v5 : Elt F .f32) (x2 : Vec F S1x160x128x192 .bf16) (x6 : Vec F S162x3x96x128 .fp8e4m3) (d : Vec F S3x3x96x192 .f32) (k : Fin k1_t2_loop.trips) : List (View.Piece (Elt F) S3x3x96x192 .f32) :=
    [⟨Rect.unit (s := S3x3x96x192) ![2, 2, 0, 0] S1x1x96x192.size inb_S3x3x96x192_S1x1x96x192_2_2_0_0, tapPay (F := F) (k1_pay11 v5 (chunk x2 k)) (fun j => tapRow x6 k 2 2 j) (View.ld d (Rect.unit (s := S3x3x96x192) ![2, 2, 0, 0] S1x1x96x192.size inb_S3x3x96x192_S1x1x96x192_2_2_0_0))⟩,
     ⟨Rect.unit (s := S3x3x96x192) ![2, 1, 0, 0] S1x1x96x192.size inb_S3x3x96x192_S1x1x96x192_2_1_0_0, tapPay (F := F) (k1_pay11 v5 (chunk x2 k)) (fun j => tapRow x6 k 2 1 j) (View.ld d (Rect.unit (s := S3x3x96x192) ![2, 1, 0, 0] S1x1x96x192.size inb_S3x3x96x192_S1x1x96x192_2_1_0_0))⟩,
     ⟨Rect.unit (s := S3x3x96x192) ![2, 0, 0, 0] S1x1x96x192.size inb_S3x3x96x192_S1x1x96x192_2_0_0_0, tapPay (F := F) (k1_pay11 v5 (chunk x2 k)) (fun j => tapRow x6 k 2 0 j) (View.ld d (Rect.unit (s := S3x3x96x192) ![2, 0, 0, 0] S1x1x96x192.size inb_S3x3x96x192_S1x1x96x192_2_0_0_0))⟩,
     ⟨Rect.unit (s := S3x3x96x192) ![1, 2, 0, 0] S1x1x96x192.size inb_S3x3x96x192_S1x1x96x192_1_2_0_0, tapPay (F := F) (k1_pay11 v5 (chunk x2 k)) (fun j => tapRow x6 k 1 2 j) (View.ld d (Rect.unit (s := S3x3x96x192) ![1, 2, 0, 0] S1x1x96x192.size inb_S3x3x96x192_S1x1x96x192_1_2_0_0))⟩,
     ⟨Rect.unit (s := S3x3x96x192) ![1, 1, 0, 0] S1x1x96x192.size inb_S3x3x96x192_S1x1x96x192_1_1_0_0, tapPay (F := F) (k1_pay11 v5 (chunk x2 k)) (fun j => tapRow x6 k 1 1 j) (View.ld d (Rect.unit (s := S3x3x96x192) ![1, 1, 0, 0] S1x1x96x192.size inb_S3x3x96x192_S1x1x96x192_1_1_0_0))⟩,
     ⟨Rect.unit (s := S3x3x96x192) ![1, 0, 0, 0] S1x1x96x192.size inb_S3x3x96x192_S1x1x96x192_1_0_0_0, tapPay (F := F) (k1_pay11 v5 (chunk x2 k)) (fun j => tapRow x6 k 1 0 j) (View.ld d (Rect.unit (s := S3x3x96x192) ![1, 0, 0, 0] S1x1x96x192.size inb_S3x3x96x192_S1x1x96x192_1_0_0_0))⟩,
     ⟨Rect.unit (s := S3x3x96x192) ![0, 2, 0, 0] S1x1x96x192.size inb_S3x3x96x192_S1x1x96x192_0_2_0_0, tapPay (F := F) (k1_pay11 v5 (chunk x2 k)) (fun j => tapRow x6 k 0 2 j) (View.ld d (Rect.unit (s := S3x3x96x192) ![0, 2, 0, 0] S1x1x96x192.size inb_S3x3x96x192_S1x1x96x192_0_2_0_0))⟩,
     ⟨Rect.unit (s := S3x3x96x192) ![0, 1, 0, 0] S1x1x96x192.size inb_S3x3x96x192_S1x1x96x192_0_1_0_0, tapPay (F := F) (k1_pay11 v5 (chunk x2 k)) (fun j => tapRow x6 k 0 1 j) (View.ld d (Rect.unit (s := S3x3x96x192) ![0, 1, 0, 0] S1x1x96x192.size inb_S3x3x96x192_S1x1x96x192_0_1_0_0))⟩,
     ⟨Rect.unit (s := S3x3x96x192) ![0, 0, 0, 0] S1x1x96x192.size inb_S3x3x96x192_S1x1x96x192_0_0_0_0, tapPay (F := F) (k1_pay11 v5 (chunk x2 k)) (fun j => tapRow x6 k 0 0 j) (View.ld d (Rect.unit (s := S3x3x96x192) ![0, 0, 0, 0] S1x1x96x192.size inb_S3x3x96x192_S1x1x96x192_0_0_0_0))⟩]

/-- The second loop's one store of the codes. -/
def codePieces (v5 : Elt F .f32) (x2 : Vec F S1x160x128x192 .bf16) (k : Fin k1_t2_loop.trips) : List (View.Piece (Elt F) S1x160x128x192 .fp8e5m2) :=
  [⟨Rect.unit (s := S1x160x128x192) (k1_off5 k) S1x8x128x192.size (k1_off5_inb k), k1_pay12 v5 (chunk x2 k)⟩]

unseal trip_k1_t1 in
theorem trip_k1_t1_pieces (𝒱 : Variants) (c : Dev nD) (bd : Option 𝒱.V) (i : grid1.Coords) (arg1 : Memref sig .tc .smem S1 .f32) (harg1 : arg1.IsWhole) (arg2 : Memref sig .tc .vmem S1x160x128x96 .fp8e4m3) (harg2 : arg2.IsWhole) (arg3 : Memref sig .tc .vmem S1x160x128x192 .bf16) (harg3 : arg3.IsWhole) (arg4 : Memref sig .tc .vmem S3x3x96x192 .f32) (harg4 : arg4.IsWhole) (arg5 : Memref sig .tc .vmem S1x160x128x192 .fp8e5m2) (harg5 : arg5.IsWhole) (arg6 : Memref sig .tc .vmem S162x3x96x128 .fp8e4m3) (harg6 : arg6.IsWhole)
    (X2 : BufTy.Contents (Elt F) arg2.view.ty) (k : Fin k1_t1_loop.trips) :
    (trip_k1_t1 (F := F) 𝒱 c bd i arg1 harg1 arg2 harg2 arg3 harg3 arg4 harg4 arg5 harg5 arg6 harg6 X2 k).1 = tapPieces (arg2.view.read (Elt F) X2) k := by
  unfold trip_k1_t1
  dsimp only
  sl_unfold_run_names
  rfl

unseal trip_k1_t2 in
theorem trip_k1_t2_dw (𝒱 : Variants) (c : Dev nD) (bd : Option 𝒱.V) (i : grid1.Coords) (arg1 : Memref sig .tc .smem S1 .f32) (harg1 : arg1.IsWhole) (arg2 : Memref sig .tc .vmem S1x160x128x96 .fp8e4m3) (harg2 : arg2.IsWhole) (arg3 : Memref sig .tc .vmem S1x160x128x192 .bf16) (harg3 : arg3.IsWhole) (arg4 : Memref sig .tc .vmem S3x3x96x192 .f32) (harg4 : arg4.IsWhole) (arg5 : Memref sig .tc .vmem S1x160x128x192 .fp8e5m2) (harg5 : arg5.IsWhole) (arg6 : Memref sig .tc .vmem S162x3x96x128 .fp8e4m3) (harg6 : arg6.IsWhole)
    (v5 : Elt F .f32) (X3 : BufTy.Contents (Elt F) arg3.view.ty) (X6 : BufTy.Contents (Elt F) arg6.view.ty) (k : Fin k1_t2_loop.trips)
    (G4 : BufTy.Contents (Elt F) arg4.view.ty) (G5 : BufTy.Contents (Elt F) arg5.view.ty) :
    (trip_k1_t2 (F := F) 𝒱 c bd i arg1 harg1 arg2 harg2 arg3 harg3 arg4 harg4 arg5 harg5 arg6 harg6 v5 X3 X6 k).1 G4 G5
      = dwPieces v5 (arg3.view.read (Elt F) X3) (arg6.view.read (Elt F) X6) (arg4.view.read (Elt F) G4) k := by
  unfold trip_k1_t2
  dsimp only
  sl_unfold_run_names
  simp only [View.readAt_eq_ld]
  rfl

unseal trip_k1_t2 in
theorem trip_k1_t2_codes (𝒱 : Variants) (c : Dev nD) (bd : Option 𝒱.V) (i : grid1.Coords) (arg1 : Memref sig .tc .smem S1 .f32) (harg1 : arg1.IsWhole) (arg2 : Memref sig .tc .vmem S1x160x128x96 .fp8e4m3) (harg2 : arg2.IsWhole) (arg3 : Memref sig .tc .vmem S1x160x128x192 .bf16) (harg3 : arg3.IsWhole) (arg4 : Memref sig .tc .vmem S3x3x96x192 .f32) (harg4 : arg4.IsWhole) (arg5 : Memref sig .tc .vmem S1x160x128x192 .fp8e5m2) (harg5 : arg5.IsWhole) (arg6 : Memref sig .tc .vmem S162x3x96x128 .fp8e4m3) (harg6 : arg6.IsWhole)
    (v5 : Elt F .f32) (X3 : BufTy.Contents (Elt F) arg3.view.ty) (X6 : BufTy.Contents (Elt F) arg6.view.ty) (k : Fin k1_t2_loop.trips)
    (G4 : BufTy.Contents (Elt F) arg4.view.ty) (G5 : BufTy.Contents (Elt F) arg5.view.ty) :
    (trip_k1_t2 (F := F) 𝒱 c bd i arg1 harg1 arg2 harg2 arg3 harg3 arg4 harg4 arg5 harg5 arg6 harg6 v5 X3 X6 k).2.1 G4 G5 = codePieces v5 (arg3.view.read (Elt F) X3) k := by
  unfold trip_k1_t2
  dsimp only
  sl_unfold_run_names
  rfl

/-! ## What the loops leave, in closed form -/

theorem trips1 : k1_t1_loop.trips = 160 := by decide +kernel
theorem trips2 : k1_t2_loop.trips = 20 := by decide +kernel

/-- The three shifted copies of one image row, by tap column. -/
def planeOf (x1 : Vec F S1x160x128x96 .fp8e4m3) (k : Fin k1_t1_loop.trips) : Fin 3 → Vec F S1x1x96x128 .fp8e4m3
  | 0 => k1_pay7 (inRow x1 k)
  | 1 => k1_pay8 (inRow x1 k)
  | 2 => k1_pay9 (inRow x1 k)

/-- All the shifted copies of one image: row `r` of the image is row `r + 1` of each copy, the first and the last row are zero. -/
def planes (x1 : Vec F S1x160x128x96 .fp8e4m3) : Vec F S162x3x96x128 .fp8e4m3 := fun y =>
  if h : 1 ≤ (y 0).val ∧ (y 0).val ≤ 160 then planeOf x1 ⟨(y 0).val - 1, by rw [trips1]; omega⟩ (y 1) (ix4 (n0 := 1) (n1 := 1) (n2 := 96) (n3 := 128) 0 0 (y 2) (y 3))
  else k1_pay3 (F := F) (ix4 (n0 := 1) (n1 := 3) (n2 := 96) (n3 := 128) 0 (y 1) (y 2) (y 3))

theorem planes_row (x1 : Vec F S1x160x128x96 .fp8e4m3) (a : Fin 162) (b : Fin 3) (q : Fin 96) (l : Fin 128) (h : 1 ≤ a.val ∧ a.val ≤ 160) :
    planes x1 (ix4 a b q l) = planeOf x1 ⟨a.val - 1, by rw [trips1]; omega⟩ b (ix4 (n0 := 1) (n1 := 1) (n2 := 96) (n3 := 128) 0 0 q l) := dif_pos h

theorem planes_border (x1 : Vec F S1x160x128x96 .fp8e4m3) (a : Fin 162) (b : Fin 3) (q : Fin 96) (l : Fin 128) (h : ¬(1 ≤ a.val ∧ a.val ≤ 160)) :
    planes x1 (ix4 a b q l) = k1_pay3 (F := F) (ix4 (n0 := 1) (n1 := 3) (n2 := 96) (n3 := 128) 0 b q l) := dif_neg h

/-- The codes of one image. -/
def codesOf (v5 : Elt F .f32) (x2 : Vec F S1x160x128x192 .bf16) : Vec F S1x160x128x192 .fp8e5m2 := fun y =>
  k1_pay12 v5 (chunk x2 ⟨(y 1).val / 8, by have : (y 1).val < 160 := (y 1).isLt; rw [trips2]; omega⟩)
    (ix4 (n0 := 1) (n1 := 8) (n2 := 128) (n3 := 192) 0 ⟨(y 1).val % 8, Nat.mod_lt _ (by decide)⟩ (y 2) (y 3))

theorem blk_inb (kh kw : Fin 3) : ∀ a, (![kh.val, kw.val, 0, 0] : Fin 4 → Nat) a + S1x1x96x192.size a ≤ S3x3x96x192.size a := by
  revert kh kw; decide

/-- One tap's block of the gradient of the weights. -/
def tapBlk (d : Vec F S3x3x96x192 .f32) (kh kw : Fin 3) : Vec F S1x1x96x192 .f32 :=
  View.ld d (Rect.unit (s := S3x3x96x192) ![kh.val, kw.val, 0, 0] S1x1x96x192.size (blk_inb kh kw))

/-- The gradient of the weights after one more chunk. -/
def dwStep (v5 : Elt F .f32) (x2 : Vec F S1x160x128x192 .bf16) (x6 : Vec F S162x3x96x128 .fp8e4m3) (d : Vec F S3x3x96x192 .f32) (k : Fin k1_t2_loop.trips) : Vec F S3x3x96x192 .f32 := fun y =>
  tapPay (k1_pay11 v5 (chunk x2 k)) (fun j => tapRow x6 k (y 0) (y 1) j) (tapBlk d (y 0) (y 1)) (ix4 (n0 := 1) (n1 := 1) (n2 := 96) (n3 := 192) 0 0 (y 2) (y 3))

/-- The gradient of the weights after the first `n` chunks. -/
def dwRun (v5 : Elt F .f32) (x2 : Vec F S1x160x128x192 .bf16) (x6 : Vec F S162x3x96x128 .fp8e4m3) (d : Vec F S3x3x96x192 .f32) : ℕ → Vec F S3x3x96x192 .f32
  | 0 => d
  | n + 1 => if h : n < k1_t2_loop.trips then dwStep v5 x2 x6 (dwRun v5 x2 x6 d n) ⟨n, h⟩ else dwRun v5 x2 x6 d n

theorem dwRun_succ (v5 : Elt F .f32) (x2 : Vec F S1x160x128x192 .bf16) (x6 : Vec F S162x3x96x128 .fp8e4m3) (d : Vec F S3x3x96x192 .f32) (k : Fin k1_t2_loop.trips) :
    dwRun v5 x2 x6 d (k.val + 1) = dwStep v5 x2 x6 (dwRun v5 x2 x6 d k.val) k := dif_pos k.isLt

/-- The gradient of the weights after one image. -/
def dwImage (v5 : Elt F .f32) (x2 : Vec F S1x160x128x192 .bf16) (x6 : Vec F S162x3x96x128 .fp8e4m3) (d : Vec F S3x3x96x192 .f32) : Vec F S3x3x96x192 .f32 :=
  dwRun v5 x2 x6 d 20

section Reads

theorem read_dwPieces {arg4 : Memref sig .tc .vmem S3x3x96x192 .f32} (v5 : Elt F .f32) (x2 : Vec F S1x160x128x192 .bf16) (x6 : Vec F S162x3x96x128 .fp8e4m3) (d : Vec F S3x3x96x192 .f32) (k : Fin k1_t2_loop.trips)
    (f : BufTy.Contents (Elt F) arg4.view.ty) :
    arg4.view.read (Elt F) (arg4.view.writes (Elt F) f (dwPieces v5 x2 x6 d k)) = dwStep v5 x2 x6 d k := by
  funext y
  obtain ⟨a, b, q, l, rfl⟩ : ∃ (a : Fin 3) (b : Fin 3) (q : Fin 96) (l : Fin 192), y = ix4 a b q l := ⟨y 0, y 1, y 2, y 3, eq_ix4 y⟩
  unfold dwPieces
  have hit : ∀ (kh kw : Fin 3) (inb) (w : Vec F S1x1x96x192 .f32) (L) (q : Fin 96) (l : Fin 192),
      arg4.view.read (Elt F) (arg4.view.writes (Elt F) f (⟨Rect.unit (s := S3x3x96x192) ![kh.val, kw.val, 0, 0] S1x1x96x192.size inb, w⟩ :: L)) (ix4 kh kw q l)
        = w (ix4 0 0 q l) := fun kh kw inb w L q l =>
    hit4 arg4.view f _ inb w L rfl kh kw q l 0 0 q l rfl rfl (by omega) (by omega)
  have miss : ∀ (kh kw kh' kw' : Fin 3) (hne : ¬(kh = kh' ∧ kw = kw')) (inb) (w : Vec F S1x1x96x192 .f32) (L) (q : Fin 96) (l : Fin 192),
      arg4.view.read (Elt F) (arg4.view.writes (Elt F) f (⟨Rect.unit (s := S3x3x96x192) ![kh'.val, kw'.val, 0, 0] S1x1x96x192.size inb, w⟩ :: L)) (ix4 kh kw q l)
        = arg4.view.read (Elt F) (arg4.view.writes (Elt F) f L) (ix4 kh kw q l) := fun kh kw kh' kw' hne inb w L q l => by
    by_cases h : kh = kh'
    · exact miss4_1 arg4.view f _ inb w L rfl kh kw q l (by omega)
    · exact miss4_0 arg4.view f _ inb w L rfl kh kw q l (by omega)
  by_cases h22 : a = 2 ∧ b = 2
  · obtain ⟨rfl, rfl⟩ := h22; exact hit 2 2 _ _ _ q l
  refine (miss a b 2 2 h22 _ _ _ q l).trans ?_
  by_cases h21 : a = 2 ∧ b = 1
  · obtain ⟨rfl, rfl⟩ := h21; exact hit 2 1 _ _ _ q l
  refine (miss a b 2 1 h21 _ _ _ q l).trans ?_
  by_cases h20 : a = 2 ∧ b = 0
  · obtain ⟨rfl, rfl⟩ := h20; exact hit 2 0 _ _ _ q l
  refine (miss a b 2 0 h20 _ _ _ q l).trans ?_
  by_cases h12 : a = 1 ∧ b = 2
  · obtain ⟨rfl, rfl⟩ := h12; exact hit 1 2 _ _ _ q l
  refine (miss a b 1 2 h12 _ _ _ q l).trans ?_
  by_cases h11 : a = 1 ∧ b = 1
  · obtain ⟨rfl, rfl⟩ := h11; exact hit 1 1 _ _ _ q l
  refine (miss a b 1 1 h11 _ _ _ q l).trans ?_
  by_cases h10 : a = 1 ∧ b = 0
  · obtain ⟨rfl, rfl⟩ := h10; exact hit 1 0 _ _ _ q l
  refine (miss a b 1 0 h10 _ _ _ q l).trans ?_
  by_cases h02 : a = 0 ∧ b = 2
  · obtain ⟨rfl, rfl⟩ := h02; exact hit 0 2 _ _ _ q l
  refine (miss a b 0 2 h02 _ _ _ q l).trans ?_
  by_cases h01 : a = 0 ∧ b = 1
  · obtain ⟨rfl, rfl⟩ := h01; exact hit 0 1 _ _ _ q l
  refine (miss a b 0 1 h01 _ _ _ q l).trans ?_
  have h00 : a = 0 ∧ b = 0 := by omega
  obtain ⟨rfl, rfl⟩ := h00; exact hit 0 0 _ _ _ q l

variable (𝒱 : Variants) (c : Dev nD) (bd : Option 𝒱.V) (i : grid1.Coords) (arg1 : Memref sig .tc .smem S1 .f32) (harg1 : arg1.IsWhole) (arg2 : Memref sig .tc .vmem S1x160x128x96 .fp8e4m3) (harg2 : arg2.IsWhole) (arg3 : Memref sig .tc .vmem S1x160x128x192 .bf16) (harg3 : arg3.IsWhole) (arg4 : Memref sig .tc .vmem S3x3x96x192 .f32) (harg4 : arg4.IsWhole) (arg5 : Memref sig .tc .vmem S1x160x128x192 .fp8e5m2) (harg5 : arg5.IsWhole) (arg6 : Memref sig .tc .vmem S162x3x96x128 .fp8e4m3) (harg6 : arg6.IsWhole)

/-- After `n` trips of the first loop: the copies of the first `n` rows are in place, the rest is as it was. -/
theorem read_taps (X2 : BufTy.Contents (Elt F) arg2.view.ty) (G6 : BufTy.Contents (Elt F) arg6.view.ty) (n : ℕ) (hn : n ≤ 160)
    (a : Fin 162) (b : Fin 3) (q : Fin 96) (l : Fin 128) :
    arg6.view.read (Elt F) (arg6.view.writes (Elt F) G6 (pb_k1_t1 (F := F) 𝒱 c bd i arg1 harg1 arg2 harg2 arg3 harg3 arg4 harg4 arg5 harg5 arg6 harg6 X2 n)) (ix4 a b q l)
      = if 1 ≤ a.val ∧ a.val ≤ n then planes (arg2.view.read (Elt F) X2) (ix4 a b q l) else arg6.view.read (Elt F) G6 (ix4 a b q l) := by
  induction n with
  | zero => rw [if_neg (by omega)]; rfl
  | succ n ih =>
    have hk : n < k1_t1_loop.trips := by rw [trips1]; omega
    have e := pb_k1_t1_succ (F := F) 𝒱 c bd i arg1 harg1 arg2 harg2 arg3 harg3 arg4 harg4 arg5 harg5 arg6 harg6 X2 ⟨n, hk⟩
    rw [show n + 1 = (⟨n, hk⟩ : Fin k1_t1_loop.trips).val + 1 from rfl, e]
    rw [View.writes_append]
    unfold tripL_k1_t1
    rw [trip_k1_t1_pieces]
    unfold tapPieces
    by_cases ha : a.val = n + 1
    · rw [if_pos ⟨by omega, by show a.val ≤ n + 1; omega⟩]
      have hp : planes (arg2.view.read (Elt F) X2) (ix4 a b q l) = planeOf (arg2.view.read (Elt F) X2) ⟨n, hk⟩ b (ix4 (n0 := 1) (n1 := 1) (n2 := 96) (n3 := 128) 0 0 q l) := by
        rw [planes_row _ _ _ _ _ ⟨by omega, by omega⟩]
        have : (⟨a.val - 1, by rw [trips1]; omega⟩ : Fin k1_t1_loop.trips) = ⟨n, hk⟩ := Fin.ext (by show a.val - 1 = n; omega)
        exact congrArg (fun k => planeOf (arg2.view.read (Elt F) X2) k b (ix4 (n0 := 1) (n1 := 1) (n2 := 96) (n3 := 128) 0 0 q l)) this
      rw [hp]
      by_cases h2 : b = 2
      · subst h2
        exact hit4 arg6.view _ _ (k1_off4_inb ⟨n, hk⟩) _ _ (k1_off4_eq ⟨n, hk⟩) a 2 q l 0 0 q l ha rfl (by omega) (by omega)
      refine (miss4_1 arg6.view _ _ (k1_off4_inb ⟨n, hk⟩) _ _ (k1_off4_eq ⟨n, hk⟩) a b q l (by omega)).trans ?_
      by_cases h1 : b = 1
      · subst h1
        exact hit4 arg6.view _ _ (k1_off3_inb ⟨n, hk⟩) _ _ (k1_off3_eq ⟨n, hk⟩) a 1 q l 0 0 q l ha rfl (by omega) (by omega)
      refine (miss4_1 arg6.view _ _ (k1_off3_inb ⟨n, hk⟩) _ _ (k1_off3_eq ⟨n, hk⟩) a b q l (by omega)).trans ?_
      have h0 : b = 0 := by omega
      subst h0
      exact hit4 arg6.view _ _ (k1_off2_inb ⟨n, hk⟩) _ _ (k1_off2_eq ⟨n, hk⟩) a 0 q l 0 0 q l ha rfl (by omega) (by omega)
    · have hmiss : a.val < n + 1 ∨ n + 1 + 1 ≤ a.val := by omega
      refine (miss4_0 arg6.view _ _ (k1_off4_inb ⟨n, hk⟩) _ _ (k1_off4_eq ⟨n, hk⟩) a b q l hmiss).trans ?_
      refine (miss4_0 arg6.view _ _ (k1_off3_inb ⟨n, hk⟩) _ _ (k1_off3_eq ⟨n, hk⟩) a b q l hmiss).trans ?_
      refine (miss4_0 arg6.view _ _ (k1_off2_inb ⟨n, hk⟩) _ _ (k1_off2_eq ⟨n, hk⟩) a b q l hmiss).trans ?_
      refine (ih (by omega)).trans ?_
      by_cases hc : 1 ≤ a.val ∧ a.val ≤ n
      · rw [if_pos hc, if_pos ⟨hc.1, by show a.val ≤ n + 1; omega⟩]
      · rw [if_neg hc, if_neg (by show ¬(1 ≤ a.val ∧ a.val ≤ n + 1); omega)]

/-- After `n` trips of the second loop: the gradient of the weights. -/
theorem read_dw (v5 : Elt F .f32) (X3 : BufTy.Contents (Elt F) arg3.view.ty) (X6 : BufTy.Contents (Elt F) arg6.view.ty)
    (G4 : BufTy.Contents (Elt F) arg4.view.ty) (G5 : BufTy.Contents (Elt F) arg5.view.ty) (n : ℕ) (hn : n ≤ 20) :
    arg4.view.read (Elt F) (arg4.view.writes (Elt F) G4 (pb_k1_t2 (F := F) 𝒱 c bd i arg1 harg1 arg2 harg2 arg3 harg3 arg4 harg4 arg5 harg5 arg6 harg6 v5 X3 X6 G4 G5 n).1)
      = dwRun v5 (arg3.view.read (Elt F) X3) (arg6.view.read (Elt F) X6) (arg4.view.read (Elt F) G4) n := by
  induction n with
  | zero => rfl
  | succ n ih =>
    have hk : n < k1_t2_loop.trips := by rw [trips2]; omega
    rw [show n + 1 = (⟨n, hk⟩ : Fin k1_t2_loop.trips).val + 1 from rfl, pb_k1_t2_succ]
    show arg4.view.read (Elt F) (arg4.view.writes (Elt F) G4 (_ ++ _)) = _
    rw [View.writes_append]
    unfold tripL_k1_t2
    dsimp only
    rw [trip_k1_t2_dw, read_dwPieces, ih (by omega)]
    exact (dwRun_succ v5 _ _ _ ⟨n, hk⟩).symm

/-- After `n` trips of the second loop: the codes of the first `8 n` rows are in place, the rest is as it was. -/
theorem read_codes (v5 : Elt F .f32) (X3 : BufTy.Contents (Elt F) arg3.view.ty) (X6 : BufTy.Contents (Elt F) arg6.view.ty)
    (G4 : BufTy.Contents (Elt F) arg4.view.ty) (G5 : BufTy.Contents (Elt F) arg5.view.ty) (n : ℕ) (hn : n ≤ 20)
    (a : Fin 1) (b : Fin 160) (q : Fin 128) (l : Fin 192) :
    arg5.view.read (Elt F) (arg5.view.writes (Elt F) G5 (pb_k1_t2 (F := F) 𝒱 c bd i arg1 harg1 arg2 harg2 arg3 harg3 arg4 harg4 arg5 harg5 arg6 harg6 v5 X3 X6 G4 G5 n).2) (ix4 a b q l)
      = if b.val < 8 * n then codesOf v5 (arg3.view.read (Elt F) X3) (ix4 a b q l) else arg5.view.read (Elt F) G5 (ix4 a b q l) := by
  induction n with
  | zero => rw [if_neg (by omega)]; rfl
  | succ n ih =>
    have hk : n < k1_t2_loop.trips := by rw [trips2]; omega
    rw [show n + 1 = (⟨n, hk⟩ : Fin k1_t2_loop.trips).val + 1 from rfl, pb_k1_t2_succ]
    show arg5.view.read (Elt F) (arg5.view.writes (Elt F) G5 (_ ++ _)) _ = _
    rw [View.writes_append]
    unfold tripL_k1_t2
    dsimp only
    rw [trip_k1_t2_codes]
    unfold codePieces
    have ha : a = 0 := Subsingleton.elim _ _
    subst ha
    by_cases hb : 8 * n ≤ b.val ∧ b.val < 8 * n + 8
    · rw [if_pos (by show b.val < 8 * (n + 1); omega)]
      refine (hit4 arg5.view _ _ (k1_off5_inb ⟨n, hk⟩) _ _ (k1_off5_eq ⟨n, hk⟩) 0 b q l 0 ⟨b.val - 8 * n, by omega⟩ q l rfl (by show b.val = 8 * n + (b.val - 8 * n); omega) (by omega) (by omega)).trans ?_
      · have e1 : (⟨b.val / 8, by rw [trips2]; omega⟩ : Fin k1_t2_loop.trips) = ⟨n, hk⟩ := Fin.ext (by show b.val / 8 = n; omega)
        have e2 : (⟨b.val % 8, Nat.mod_lt _ (by decide)⟩ : Fin 8) = ⟨b.val - 8 * n, by omega⟩ := Fin.ext (by show b.val % 8 = b.val - 8 * n; omega)
        show _ = k1_pay12 v5 (chunk (arg3.view.read (Elt F) X3) ⟨b.val / 8, _⟩) (ix4 (n0 := 1) (n1 := 8) (n2 := 128) (n3 := 192) 0 ⟨b.val % 8, _⟩ q l)
        rw [e1, e2]
    · refine (miss4_1 arg5.view _ _ (k1_off5_inb ⟨n, hk⟩) _ _ (k1_off5_eq ⟨n, hk⟩) 0 b q l (by show b.val < 8 * n ∨ 8 * n + 8 ≤ b.val; omega)).trans ?_
      refine (ih (by omega)).trans ?_
      by_cases hc : b.val < 8 * n
      · rw [if_pos hc, if_pos (by show b.val < 8 * (n + 1); omega)]
      · rw [if_neg hc, if_neg (by show ¬(b.val < 8 * (n + 1)); omega)]

/-- After the first loop over cleared borders: all the shifted copies. -/
theorem read_planes_first (x1 : Vec F S1x160x128x96 .fp8e4m3) (f : BufTy.Contents (Elt F) arg6.view.ty) :
    arg6.view.read (Elt F) (arg6.view.writes (Elt F) f (pb_k1_t1 (F := F) 𝒱 c bd i arg1 harg1 arg2 harg2 arg3 harg3 arg4 harg4 arg5 harg5 arg6 harg6 (harg2.unread x1) 160
        ++ [⟨Rect.unit (s := S162x3x96x128) ![161, 0, 0, 0] S1x3x96x128.size inb_S162x3x96x128_S1x3x96x128_161_0_0_0, k1_pay4 (F := F)⟩,
            ⟨Rect.unit (s := S162x3x96x128) ![0, 0, 0, 0] S1x3x96x128.size inb_S162x3x96x128_S1x3x96x128_0_0_0_0, k1_pay3 (F := F)⟩])) = planes x1 := by
  funext y
  obtain ⟨a, b, q, l, rfl⟩ : ∃ (a : Fin 162) (b : Fin 3) (q : Fin 96) (l : Fin 128), y = ix4 a b q l := ⟨y 0, y 1, y 2, y 3, eq_ix4 y⟩
  rw [View.writes_append, read_taps (hn := le_refl _), harg2.read_unread]
  by_cases h : 1 ≤ a.val ∧ a.val ≤ 160
  · rw [if_pos h]
  rw [if_neg h]
  rw [planes_border _ _ _ _ _ h]
  by_cases h161 : a.val = 161
  · exact hit4 arg6.view f _ inb_S162x3x96x128_S1x3x96x128_161_0_0_0 _ _ rfl a b q l 0 b q l h161 (by omega) (by omega) (by omega)
  · refine (miss4_0 arg6.view f _ inb_S162x3x96x128_S1x3x96x128_161_0_0_0 _ _ rfl a b q l (by omega)).trans ?_
    exact hit4 arg6.view f _ inb_S162x3x96x128_S1x3x96x128_0_0_0_0 _ _ rfl a b q l 0 b q l (by show a.val = 0 + 0; omega) (by omega) (by omega) (by omega)

/-- After the first loop over another image's copies: all the shifted copies, the borders still zero. -/
theorem read_planes_next (x1 x1' : Vec F S1x160x128x96 .fp8e4m3) (f : BufTy.Contents (Elt F) arg6.view.ty) (hf : arg6.view.read (Elt F) f = planes x1') :
    arg6.view.read (Elt F) (arg6.view.writes (Elt F) f (pb_k1_t1 (F := F) 𝒱 c bd i arg1 harg1 arg2 harg2 arg3 harg3 arg4 harg4 arg5 harg5 arg6 harg6 (harg2.unread x1) 160)) = planes x1 := by
  funext y
  obtain ⟨a, b, q, l, rfl⟩ : ∃ (a : Fin 162) (b : Fin 3) (q : Fin 96) (l : Fin 128), y = ix4 a b q l := ⟨y 0, y 1, y 2, y 3, eq_ix4 y⟩
  rw [read_taps (hn := le_refl _), harg2.read_unread, hf]
  by_cases h : 1 ≤ a.val ∧ a.val ≤ 160
  · rw [if_pos h]
  rw [if_neg h]
  rw [planes_border _ _ _ _ _ h, planes_border _ _ _ _ _ h]

theorem read_codes_all (v5 : Elt F .f32) (X3 : BufTy.Contents (Elt F) arg3.view.ty) (X6 : BufTy.Contents (Elt F) arg6.view.ty)
    (G4 : BufTy.Contents (Elt F) arg4.view.ty) (G5 : BufTy.Contents (Elt F) arg5.view.ty) :
    arg5.view.read (Elt F) (arg5.view.writes (Elt F) G5 (pb_k1_t2 (F := F) 𝒱 c bd i arg1 harg1 arg2 harg2 arg3 harg3 arg4 harg4 arg5 harg5 arg6 harg6 v5 X3 X6 G4 G5 20).2)
      = codesOf v5 (arg3.view.read (Elt F) X3) := by
  funext y
  obtain ⟨a, b, q, l, rfl⟩ : ∃ (a : Fin 1) (b : Fin 160) (q : Fin 128) (l : Fin 192), y = ix4 a b q l := ⟨y 0, y 1, y 2, y 3, eq_ix4 y⟩
  rw [read_codes (hn := le_refl _), if_pos (by omega)]

end Reads

end Cert.Kernel.Whole

end
-- ==== Proof.KernelRun.Body.lean ====
/- The second call's body, from what its buffers hold to what they hold after it. -/
module

public import proofs.«01_k».proof.Proof.KernelRun.WgradBlocks
public import proofs.«01_k».proof.Proof.KernelRun.WgradLoops

@[expose] public section

-- membership in a rectangle of production extents: the elaborator recurses once per coordinate of the long axes
set_option maxRecDepth 16384

noncomputable section

namespace Cert.Kernel.Whole

open Cert.Kernel.Gen Cert.Pieces
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem body_A (c : Dev nD) (i : grid1.Coords) (arg1 : Memref sig .tc .smem S1 .f32) (harg1 : arg1.IsWhole) (arg2 : Memref sig .tc .vmem S1x160x128x96 .fp8e4m3) (harg2 : arg2.IsWhole) (arg3 : Memref sig .tc .vmem S1x160x128x192 .bf16) (harg3 : arg3.IsWhole) (arg4 : Memref sig .tc .vmem S3x3x96x192 .f32) (harg4 : arg4.IsWhole) (arg5 : Memref sig .tc .vmem S1x160x128x192 .fp8e5m2) (harg5 : arg5.IsWhole) (arg6 : Memref sig .tc .vmem S162x3x96x128 .fp8e4m3) (harg6 : arg6.IsWhole) (hc0 : cond1_0 i)
    (x0 : Vec F S1 .f32) (x1 : Vec F S1x160x128x96 .fp8e4m3) (x2 : Vec F S1x160x128x192 .bf16) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (dwImage (x0 (ix1 (n0 := 1) 0)) x2 (planes x1) (k1_pay1 (F := F))) ∗ owns (c : Thread nD τ) arg5 fullShare (codesOf (x0 (ix1 (n0 := 1) 0)) x2) ∗ owns (c : Thread nD τ) arg6 fullShare (planes x1)) -∗ K ⟨⟩))
      ⊢ wp frame (wpE (defs₀ (F := F)) Variants.none c none) E (cc1_wgrad i arg1 harg1 arg2 harg2 arg3 harg3 arg4 harg4 arg5 harg5 arg6 harg6) K := by
  simp only [cc1_wgrad_eq_skeleton]; unfold cc1_wgrad_skel
  unfold owns
  iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, Hk⟩
  obtain rfl := harg1.eq_unread hf0; obtain rfl := harg2.eq_unread hf1; obtain rfl := harg3.eq_unread hf2
  set_option sl_exec.maxSteps 12 in sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; swap
    · iexact H3
    ipureintro
    rw [View.writes_append]
    refine (read_dw Variants.none c none i arg1 harg1 arg2 harg2 arg3 harg3 arg4 harg4 arg5 harg5 arg6 harg6 _ _ _ _ _ 20 (le_refl _)).trans ?_
    have hp := read_planes_first Variants.none c none i arg1 harg1 arg2 harg2 arg3 harg3 arg4 harg4 arg5 harg5 arg6 harg6 x1 fs0
    have hr : body_A.sl.r c arg1 harg1 x0 = x0 (ix1 (n0 := 1) 0) := by
      sl_unfold_run_names
      rw [View.readAt_eq_ld, harg1.read_unread]
      exact congrArg x0 (funext fun a => by match a with | 0 => exact Subsingleton.elim (α := Fin 1) _ _)
    rw [harg3.read_unread, hr]
    refine (congrArg (fun x6 => dwRun (x0 (ix1 (n0 := 1) 0)) x2 x6 _ 20) hp).trans ?_
    refine congrArg (fun d => dwRun (x0 (ix1 (n0 := 1) 0)) x2 (planes x1) d 20) (?_ : _ = k1_pay1 (F := F))
    sl_unfold_run_names
    funext y
    obtain ⟨a, b, q, l, rfl⟩ : ∃ (a : Fin 3) (b : Fin 3) (q : Fin 96) (l : Fin 192), y = ix4 a b q l := ⟨y 0, y 1, y 2, y 3, eq_ix4 y⟩
    exact hit4 arg4.view _ _ inb_S3x3x96x192_S3x3x96x192_0_0_0_0 _ _ rfl a b q l a b q l (by omega) (by omega) (by omega) (by omega)
  isplitl [H4]
  · iexists _; isplitr; swap
    · iexact H4
    ipureintro
    refine (read_codes_all Variants.none c none i arg1 harg1 arg2 harg2 arg3 harg3 arg4 harg4 arg5 harg5 arg6 harg6 _ _ _ _ _).trans ?_
    have hr : body_A.sl.r c arg1 harg1 x0 = x0 (ix1 (n0 := 1) 0) := by
      sl_unfold_run_names
      rw [View.readAt_eq_ld, harg1.read_unread]
      exact congrArg x0 (funext fun a => by match a with | 0 => exact Subsingleton.elim (α := Fin 1) _ _)
    rw [harg3.read_unread, hr]
  iexists _; isplitr; swap
  · iexact HS0
  ipureintro
  exact read_planes_first Variants.none c none i arg1 harg1 arg2 harg2 arg3 harg3 arg4 harg4 arg5 harg5 arg6 harg6 x1 fs0

theorem body_B (c : Dev nD) (i : grid1.Coords) (arg1 : Memref sig .tc .smem S1 .f32) (harg1 : arg1.IsWhole) (arg2 : Memref sig .tc .vmem S1x160x128x96 .fp8e4m3) (harg2 : arg2.IsWhole) (arg3 : Memref sig .tc .vmem S1x160x128x192 .bf16) (harg3 : arg3.IsWhole) (arg4 : Memref sig .tc .vmem S3x3x96x192 .f32) (harg4 : arg4.IsWhole) (arg5 : Memref sig .tc .vmem S1x160x128x192 .fp8e5m2) (harg5 : arg5.IsWhole) (arg6 : Memref sig .tc .vmem S162x3x96x128 .fp8e4m3) (harg6 : arg6.IsWhole) (hc0 : ¬ cond1_0 i)
    (x0 : Vec F S1 .f32) (x1 : Vec F S1x160x128x96 .fp8e4m3) (x2 : Vec F S1x160x128x192 .bf16) (xo : Vec F S3x3x96x192 .f32) (xs : Vec F S1x160x128x96 .fp8e4m3) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare xo ∗ (∃ d, owns (c : Thread nD τ) arg5 fullShare d) ∗ owns (c : Thread nD τ) arg6 fullShare (planes xs)
        ∗ (iprop(owns (c : Thread nD τ) arg1 fullShare x0 ∗ owns (c : Thread nD τ) arg2 fullShare x1 ∗ owns (c : Thread nD τ) arg3 fullShare x2
            ∗ owns (c : Thread nD τ) arg4 fullShare (dwImage (x0 (ix1 (n0 := 1) 0)) x2 (planes x1) xo) ∗ owns (c : Thread nD τ) arg5 fullShare (codesOf (x0 (ix1 (n0 := 1) 0)) x2) ∗ owns (c : Thread nD τ) arg6 fullShare (planes x1)) -∗ K ⟨⟩))
      ⊢ wp frame (wpE (defs₀ (F := F)) Variants.none c none) E (cc1_wgrad i arg1 harg1 arg2 harg2 arg3 harg3 arg4 harg4 arg5 harg5 arg6 harg6) K := by
  simp only [cc1_wgrad_eq_skeleton]; unfold cc1_wgrad_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
  obtain rfl := harg1.eq_unread hf0; obtain rfl := harg2.eq_unread hf1; obtain rfl := harg3.eq_unread hf2
  set_option sl_exec.maxSteps 12 in sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; swap
    · iexact H3
    ipureintro
    refine (read_dw Variants.none c none i arg1 harg1 arg2 harg2 arg3 harg3 arg4 harg4 arg5 harg5 arg6 harg6 _ _ _ _ _ 20 (le_refl _)).trans ?_
    have hp := read_planes_next Variants.none c none i arg1 harg1 arg2 harg2 arg3 harg3 arg4 harg4 arg5 harg5 arg6 harg6 x1 xs fs0 hfs0
    have hr : body_B.sl.r c arg1 harg1 x0 = x0 (ix1 (n0 := 1) 0) := by
      sl_unfold_run_names
      rw [View.readAt_eq_ld, harg1.read_unread]
      exact congrArg x0 (funext fun a => by match a with | 0 => exact Subsingleton.elim (α := Fin 1) _ _)
    rw [harg3.read_unread, hr]
    refine (congrArg (fun x6 => dwRun (x0 (ix1 (n0 := 1) 0)) x2 x6 _ 20) hp).trans ?_
    rw [hf3]; rfl
  isplitl [H4]
  · iexists _; isplitr; swap
    · iexact H4
    ipureintro
    refine (read_codes_all Variants.none c none i arg1 harg1 arg2 harg2 arg3 harg3 arg4 harg4 arg5 harg5 arg6 harg6 _ _ _ _ _).trans ?_
    have hr : body_B.sl.r c arg1 harg1 x0 = x0 (ix1 (n0 := 1) 0) := by
      sl_unfold_run_names
      rw [View.readAt_eq_ld, harg1.read_unread]
      exact congrArg x0 (funext fun a => by match a with | 0 => exact Subsingleton.elim (α := Fin 1) _ _)
    rw [harg3.read_unread, hr]
  iexists _; isplitr; swap
  · iexact HS0
  ipureintro
  exact read_planes_next Variants.none c none i arg1 harg1 arg2 harg2 arg3 harg3 arg4 harg4 arg5 harg5 arg6 harg6 x1 xs fs0 hfs0

end Cert.Kernel.Whole

end
-- ==== Proof.KernelRun.Wgrad.lean ====
/- What the second call's outputs and its carried scratch hold after each point, the invariant that carries the scratch, and
   the call's obligation. -/
module

public import proofs.«01_k».proof.Proof.KernelRun.Body

@[expose] public section

-- membership in a rectangle of production extents: the elaborator recurses once per coordinate of the long axes
set_option maxRecDepth 16384

noncomputable section

namespace Cert.Kernel.Whole

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The factor that the second call scales the gradient by, as it finds it at point `t`. -/
abbrev invAt (c : Dev nD) (t : Fin cfg1.N) : Elt F .f32 := iblk1 V c 0 t (ix1 (n0 := 1) 0)

/-- The gradient of the weights after point `n`: image after image over zeros. -/
def dwAt (c : Dev nD) : (n : ℕ) → n < cfg1.N → Vec F S3x3x96x192 .f32
  | 0, hn => dwImage (invAt V c ⟨0, hn⟩) (iblk1 V c 2 ⟨0, hn⟩) (planes (iblk1 V c 1 ⟨0, hn⟩)) (k1_pay1 (F := F))
  | n + 1, hn => dwImage (invAt V c ⟨n + 1, hn⟩) (iblk1 V c 2 ⟨n + 1, hn⟩) (planes (iblk1 V c 1 ⟨n + 1, hn⟩)) (dwAt c n (Nat.lt_of_succ_lt hn))

/-- What the two outputs' staging buffers and the scratch hold after point `n`. -/
def outsAt1 (c : Dev nD) (n : ℕ) (hn : n < cfg1.N) : Vec F S3x3x96x192 .f32 × Vec F S1x160x128x192 .fp8e5m2 × Vec F S162x3x96x128 .fp8e4m3 :=
  (dwAt V c n hn, codesOf (invAt V c ⟨n, hn⟩) (iblk1 V c 2 ⟨n, hn⟩), planes (iblk1 V c 1 ⟨n, hn⟩))

theorem outsAt1_A (c : Dev nD) (t : Fin cfg1.N) (hz : t.val = 0) :
    outsAt1 V c t.val t.isLt = (dwImage (invAt V c t) (iblk1 V c 2 t) (planes (iblk1 V c 1 t)) (k1_pay1 (F := F)), codesOf (invAt V c t) (iblk1 V c 2 t), planes (iblk1 V c 1 t)) := by
  obtain ⟨n, hn⟩ := t
  cases n with
  | zero => rfl
  | succ n => exact absurd hz (Nat.succ_ne_zero n)

theorem outsAt1_B (c : Dev nD) (t : Fin cfg1.N) (hz : t.val ≠ 0) :
    outsAt1 V c t.val t.isLt = (dwImage (invAt V c t) (iblk1 V c 2 t) (planes (iblk1 V c 1 t)) (outsAt1 V c (t.val - 1) (Nat.lt_of_le_of_lt (Nat.sub_le _ _) t.isLt)).1, codesOf (invAt V c t) (iblk1 V c 2 t), planes (iblk1 V c 1 t)) := by
  obtain ⟨n, hn⟩ := t
  cases n with
  | zero => exact absurd rfl hz
  | succ n => rfl

/-- The staging buffers of the first call, at some contents: nothing of the second call touches them. -/
def Others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f))

theorem PhiA1_others (c : Dev nD) : (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ d, owns (c : Thread nD τ) scM1_0 fullShare d)) ∗ (∃ r, prngReg c r)) := PhiA1_eq c

/-- The region invariant before position `n` with a scratch the kernel CARRIES between points: before the first point the
    class's (Lib/Pipeline/Frame.lean `ΦA`: every scratch at anything); afterwards the scoped rest with each carried scratch
    at what the point before left in it (`outsAt1`'s scratch components), the others at anything, and the generator register
    at some state. -/
def PhiS (c : Dev nD) : (n : ℕ) → n ≤ cfg1.N → sProp 𝕄
  | 0, _ => Pipeline.ΦA spec1 c
  | n + 1, hn => iprop(iprop(Others c ∗ owns (c : Thread nD τ) scM1_0 fullShare ((outsAt1 V c n hn).2.2)) ∗ (∃ r, prngReg c r))

theorem PhiS_zero (c : Dev nD) (n : ℕ) (h : n ≤ cfg1.N) (hz : n = 0) : PhiS V c n h = Pipeline.ΦA spec1 c := by
  subst hz; rfl

/-- After point `n` (before point `n + 1`): the carried scratch at that point's contents. -/
theorem PhiS_succ (c : Dev nD) (n : ℕ) (hn : n < cfg1.N) :
    PhiS V c (n + 1) hn = iprop(iprop(Others c ∗ owns (c : Thread nD τ) scM1_0 fullShare ((outsAt1 V c n hn).2.2)) ∗ (∃ r, prngReg c r)) := rfl

/-- Before a point that is not the first: the carried scratch at what the point before left. -/
theorem PhiS_pos (c : Dev nD) (n : ℕ) (h : n ≤ cfg1.N) (hz : n ≠ 0) :
    PhiS V c n h = iprop(iprop(Others c ∗ owns (c : Thread nD τ) scM1_0 fullShare ((outsAt1 V c (n - 1) (by omega)).2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt1`; the invariant
    (`PhiS`: the class's `ΦA` before the first point, then the scoped rest with the carried scratch at `outsAt1`'s component);
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
    | ⟨4, _⟩ => (outsAt1 V c t.val t.isLt).2.1
  Φ t := PhiS V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS_castSucc (c : Dev nD) (t : Fin cfg1.N) :
    (dat1 V c).Φ t.castSucc = PhiS V c t.val (Nat.le_of_lt t.isLt) := by
  dsimp only [dat1]; exact Pipeline.Dat.Φ_castSucc (PhiS V c) t

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem after1_4 (c : Dev nD) (t : Fin cfg1.N) : (dat1 V c).after 4 t = (outsAt1 V c t.val t.isLt).2.1 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
/-- At a point of case B output 3's current staging buffer holds what the body left at the point before: the point is
    not the first, the buffer was not written back between (`flush1_3`), the window is live and uncut (Lib/Pipeline/Frame.lean
    `Dat.before_out_kept`). -/
theorem before1_3_B (c : Dev nD) (t : Fin cfg1.N) (h0 : ¬t.val % 12 = 0) (d) :
    (dat1 V c).before 3 t d = (outsAt1 V c (t.val - 1) (Nat.lt_of_le_of_lt (Nat.sub_le _ _) t.isLt)).1 := by
  have hN : t.val < 12 := lt_of_lt_of_eq t.isLt (show cfg1.N = 12 from N_1)
  rw [Dat.before_out_kept _ 3 rfl t (by omega) (Bool.eq_false_iff.mpr fun h => by have := (flush1_3 _).mp h; dsimp only at this; omega)
    (fun _ => rfl) (fun _ _ => rfl)]
  dsimp only [dat1]

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 8000000 in
/-- The body at any point: the first (`body_A`, the scratch at anything) or a later one (`body_B`, the scratch and the accumulator as the
    point before left them). -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl,
    after1_0, after1_1, after1_2, after1_3, after1_4]
  rw [show (dat1 V c).Φ t.succ = PhiS V c (t.val + 1) t.isLt from rfl, PhiS_succ]
  have hN : t.val < 12 := lt_of_lt_of_eq t.isLt (show cfg1.N = 12 from N_1)
  by_cases h0 : t.val % 12 = 0
  · by_cases hz : t.val = 0
    · rw [PhiS_castSucc V c t, PhiS_zero V c _ _ hz, PhiA1_eq]
      rw [outsAt1_A V c t hz]; dsimp only
      iintro ⟨⟨⟨HR0, HR1, HR2, HR3, HS0⟩, Hg⟩, Ho, ⟨%d0, H0⟩, ⟨%d1, H1⟩, ⟨%d2, H2⟩, ⟨%d3, H3⟩, ⟨%d4, H4⟩⟩
      iapply (body_A c (grid1.coords t) _ _ _ _ _ _ _ _ _ _ _ _ ((hcond1_0 t).mpr h0) (iblk1 V c 0 t) (iblk1 V c 1 t) (iblk1 V c 2 t) Set.univ _)
      isplitl [H0]; · iexact H0
      isplitl [H1]; · iexact H1
      isplitl [H2]; · iexact H2
      isplitl [H3]; · iexists _; iexact H3
      isplitl [H4]; · iexists _; iexact H4
      isplitl [HS0]; · iexact HS0
      iintro ⟨H0, H1, H2, H3, H4, HS0⟩
      isplitl [HR0 HR1 HR2 HR3 HS0 Hg]
      · isplitl [HR0 HR1 HR2 HR3 HS0]
        · isplitl [HR0 HR1 HR2 HR3]
          · unfold Others
            isplitl [HR0]; · iexact HR0
            isplitl [HR1]; · iexact HR1
            isplitl [HR2]; · iexact HR2
            iexact HR3
          iexact HS0
        iexact Hg
      isplitl [Ho]; · iexact Ho
      isplitl [H0]; · iexact H0
      isplitl [H1]; · iexact H1
      isplitl [H2]; · iexact H2
      isplitl [H3]; · iexact H3
      iexact H4
    · exfalso; omega
  · by_cases hz : t.val = 0
    · exfalso; omega
    · rw [PhiS_castSucc V c t, PhiS_pos V c _ _ hz]
      rw [outsAt1_B V c t hz]
      simp only [before1_3_B V c t h0]
      iintro ⟨⟨⟨HR, HS0⟩, Hg⟩, Ho, ⟨%d0, H0⟩, ⟨%d1, H1⟩, ⟨%d2, H2⟩, ⟨%d3, H3⟩, ⟨%d4, H4⟩⟩
      iapply (body_B c (grid1.coords t) _ _ _ _ _ _ _ _ _ _ _ _ (fun h => h0 ((hcond1_0 t).mp h)) (iblk1 V c 0 t) (iblk1 V c 1 t) (iblk1 V c 2 t) _ _ Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, H4, HS0⟩
      isplitl [HR HS0 Hg]
      · isplitl [HR HS0]
        · isplitl [HR]; · iexact HR
          iexact HS0
        iexact Hg
      isplitl [Ho]; · iexact Ho
      isplitl [H0]; · iexact H0
      isplitl [H1]; · iexact H1
      isplitl [H2]; · iexact H2
      isplitl [H3]; · iexact H3
      iexact H4

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the region (`ΦA`) is the invariant before the first point. -/
theorem hin (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  unfold Others
  iintro ⟨⟨⟨HR0, HR1, HR2, HR3⟩, HS0⟩, Hg⟩
  isplitl [HR0 HR1 HR2 HR3 HS0]
  · isplitl [HR0]; · iexact HR0
    isplitl [HR1]; · iexact HR1
    isplitl [HR2]; · iexact HR2
    isplitl [HR3]; · iexact HR3
    iexists _; iexact HS0
  iexact Hg

/-- The same after the last point. -/
theorem hout (c : Dev nD) : (dat1 V c).Φ (Fin.last cfg1.N) ⊢ Pipeline.ΦA spec1 c :=
  Phi_out V c _ (by rw [Fin.val_last]; have : cfg1.N = 12 := N_1; omega)

end Cert.Kernel.Whole

end
-- ==== Proof.KernelRun.Main.lean ====
/- The whole program: the contents of the buffers at every boundary between a call and a stretch of host operations, the two
   calls and the stretches as segments, and the run and the frame of the program. -/
module

public import proofs.«01_k».proof.Proof.KernelRun.Stats
public import proofs.«01_k».proof.Proof.KernelRun.Wgrad

@[expose] public section

-- membership in a rectangle of production extents: the elaborator recurses once per coordinate of the long axes
set_option maxRecDepth 16384

noncomputable section

namespace Cert.Kernel.Whole

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2]

/-! ## The host stretches: none allocates a buffer, and each lists the references its operations write, in order,
    so that a reference absent from the list keeps its contents across the stretch (Lib/StableHlo/Run.lean
    `after_of_writes_sub`) -/

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_cst, main_v1, main_cst_0, main_v2, main_v3, main_c, main_v4, main_v5, main_c_1, main_v6, main_v7, main_v8, main_v9, main_v10, main_v11, main_c_2, main_v12, main_c_3, main_v13, main_cst_4, main_v14, main_v15, main_c_5, main_v16, main_c_6]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps1_1` allocates a buffer. -/
theorem hostOps1_1_fresh : (hostOps1_1 : List (HloOp τ sig (Elt F))).Forall fun op => op.fresh = ∅ := by
  simp only [List.Forall]; repeat' constructor
/-- The reference each operation of `hostOps1_1` writes, in order. -/
abbrev hostOps1_1_W : List (Ref sig .tc) := [main_call0_v0, main_v17]
theorem hostOps1_1_writes : (hostOps1_1 : List (HloOp τ sig (Elt F))).Forall fun op => op.writes ⊆ (hostOps1_1_W.map (Proc.devRef (τ := τ) .tc)).toFinset :=
  StableHlo.forall_writes_sub_of_map rfl
/-- `hostOps1_1` writes none of the argument arrays (checked: each argument against each reference it writes). -/
theorem hostOps1_1_args : ∀ a ∈ argRefs, a ∉ hostOps1_1_W := ListAll.forall_mem_of_all_decide (by decide +kernel)

/-- No operation of `hostOps1_2` allocates a buffer. -/
theorem hostOps1_2_fresh : (hostOps1_2 : List (HloOp τ sig (Elt F))).Forall fun op => op.fresh = ∅ := by
  simp only [List.Forall]; repeat' constructor
/-- The reference each operation of `hostOps1_2` writes, in order. -/
abbrev hostOps1_2_W : List (Ref sig .tc) := [main_cst_7, main_v18, main_c_8]
theorem hostOps1_2_writes : (hostOps1_2 : List (HloOp τ sig (Elt F))).Forall fun op => op.writes ⊆ (hostOps1_2_W.map (Proc.devRef (τ := τ) .tc)).toFinset :=
  StableHlo.forall_writes_sub_of_map rfl
/-- `hostOps1_2` writes none of the argument arrays (checked: each argument against each reference it writes). -/
theorem hostOps1_2_args : ∀ a ∈ argRefs, a ∉ hostOps1_2_W := ListAll.forall_mem_of_all_decide (by decide +kernel)

/-- No operation of `hostOps1_3` allocates a buffer. -/
theorem hostOps1_3_fresh : (hostOps1_3 : List (HloOp τ sig (Elt F))).Forall fun op => op.fresh = ∅ := by
  simp only [List.Forall]; repeat' constructor
/-- The reference each operation of `hostOps1_3` writes, in order. -/
abbrev hostOps1_3_W : List (Ref sig .tc) := [main_call1_v0, main_v19]
theorem hostOps1_3_writes : (hostOps1_3 : List (HloOp τ sig (Elt F))).Forall fun op => op.writes ⊆ (hostOps1_3_W.map (Proc.devRef (τ := τ) .tc)).toFinset :=
  StableHlo.forall_writes_sub_of_map rfl
/-- `hostOps1_3` writes none of the argument arrays (checked: each argument against each reference it writes). -/
theorem hostOps1_3_args : ∀ a ∈ argRefs, a ∉ hostOps1_3_W := ListAll.forall_mem_of_all_decide (by decide +kernel)

/-- No operation of `hostOps1_4` allocates a buffer. -/
theorem hostOps1_4_fresh : (hostOps1_4 : List (HloOp τ sig (Elt F))).Forall fun op => op.fresh = ∅ := by
  simp only [List.Forall]; repeat' constructor
/-- The reference each operation of `hostOps1_4` writes, in order. -/
abbrev hostOps1_4_W : List (Ref sig .tc) := [main_c_9, main_v20, main_c_10, main_c_11]
theorem hostOps1_4_writes : (hostOps1_4 : List (HloOp τ sig (Elt F))).Forall fun op => op.writes ⊆ (hostOps1_4_W.map (Proc.devRef (τ := τ) .tc)).toFinset :=
  StableHlo.forall_writes_sub_of_map rfl
/-- `hostOps1_4` writes none of the argument arrays (checked: each argument against each reference it writes). -/
theorem hostOps1_4_args : ∀ a ∈ argRefs, a ∉ hostOps1_4_W := ListAll.forall_mem_of_all_decide (by decide +kernel)

/-- No operation of `hostOps1_5` allocates a buffer. -/
theorem hostOps1_5_fresh : (hostOps1_5 : List (HloOp τ sig (Elt F))).Forall fun op => op.fresh = ∅ := by
  simp only [List.Forall]; repeat' constructor
/-- The reference each operation of `hostOps1_5` writes, in order. -/
abbrev hostOps1_5_W : List (Ref sig .tc) := [main_call2_v0, main_call2_v1, main_call2_v2, main_v21]
theorem hostOps1_5_writes : (hostOps1_5 : List (HloOp τ sig (Elt F))).Forall fun op => op.writes ⊆ (hostOps1_5_W.map (Proc.devRef (τ := τ) .tc)).toFinset :=
  StableHlo.forall_writes_sub_of_map rfl
/-- `hostOps1_5` writes none of the argument arrays (checked: each argument against each reference it writes). -/
theorem hostOps1_5_args : ∀ a ∈ argRefs, a ∉ hostOps1_5_W := ListAll.forall_mem_of_all_decide (by decide +kernel)

/-- No operation of `hostOps1_6` allocates a buffer. -/
theorem hostOps1_6_fresh : (hostOps1_6 : List (HloOp τ sig (Elt F))).Forall fun op => op.fresh = ∅ := by
  simp only [List.Forall]; repeat' constructor
/-- The reference each operation of `hostOps1_6` writes, in order. -/
abbrev hostOps1_6_W : List (Ref sig .tc) := [main_c_12, main_v22, main_v23, main_v24, main_c_13, main_v25, main_c_14, main_c_15]
theorem hostOps1_6_writes : (hostOps1_6 : List (HloOp τ sig (Elt F))).Forall fun op => op.writes ⊆ (hostOps1_6_W.map (Proc.devRef (τ := τ) .tc)).toFinset :=
  StableHlo.forall_writes_sub_of_map rfl
/-- `hostOps1_6` writes none of the argument arrays (checked: each argument against each reference it writes). -/
theorem hostOps1_6_args : ∀ a ∈ argRefs, a ∉ hostOps1_6_W := ListAll.forall_mem_of_all_decide (by decide +kernel)

/-- No operation of `hostOps1_7` allocates a buffer. -/
theorem hostOps1_7_fresh : (hostOps1_7 : List (HloOp τ sig (Elt F))).Forall fun op => op.fresh = ∅ := by
  simp only [List.Forall]; repeat' constructor
/-- The reference each operation of `hostOps1_7` writes, in order. -/
abbrev hostOps1_7_W : List (Ref sig .tc) := [main_call3_v0, main_call3_v1, main_call3_v2, main_v26]
theorem hostOps1_7_writes : (hostOps1_7 : List (HloOp τ sig (Elt F))).Forall fun op => op.writes ⊆ (hostOps1_7_W.map (Proc.devRef (τ := τ) .tc)).toFinset :=
  StableHlo.forall_writes_sub_of_map rfl
/-- `hostOps1_7` writes none of the argument arrays (checked: each argument against each reference it writes). -/
theorem hostOps1_7_args : ∀ a ∈ argRefs, a ∉ hostOps1_7_W := ListAll.forall_mem_of_all_decide (by decide +kernel)

/-- No operation of `hostOps1_8` allocates a buffer. -/
theorem hostOps1_8_fresh : (hostOps1_8 : List (HloOp τ sig (Elt F))).Forall fun op => op.fresh = ∅ := by
  simp only [List.Forall]; repeat' constructor
/-- The reference each operation of `hostOps1_8` writes, in order. -/
abbrev hostOps1_8_W : List (Ref sig .tc) := [main_c_16, main_v27, main_v28, main_v29]
theorem hostOps1_8_writes : (hostOps1_8 : List (HloOp τ sig (Elt F))).Forall fun op => op.writes ⊆ (hostOps1_8_W.map (Proc.devRef (τ := τ) .tc)).toFinset :=
  StableHlo.forall_writes_sub_of_map rfl
/-- `hostOps1_8` writes none of the argument arrays (checked: each argument against each reference it writes). -/
theorem hostOps1_8_args : ∀ a ∈ argRefs, a ∉ hostOps1_8_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v31, main_v32, main_v33, main_cst_17, main_v34]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch (region 0's entry). -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- The same read at the TensorCore's references (what region 0's proof data take). -/
abbrev V0 : (c : Dev nD) → (b : Ref sig .tc) → Buf (Elt F) ((c : Thread nD τ).loc b) := fun c b => W0 m ρ c b
/-- At region 0's exit: its arrays at what the pipeline leaves (the inputs as entered, each output's write-backs
    folded: `Dat.arrAt … N`), every other buffer as entered (Lib/Pipeline/FrameSuffix.lean `withArrays`). -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- A reference that is none of region 0's OUTPUT arrays keeps its entry contents across it: an input window's
    array is never written back (`Dat.arrAt_in`, `A_eq0`); any other buffer is left as is. -/
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W1_args (c : Dev nD) : ∀ a ∈ argRefs, W1 m ρ c (Proc.devRef .tc a) = m ((c : Thread nD τ).loc a) :=
  fun a ha => (W1_of m ρ c a (argsIn0 a ha)).trans (W0_args m ρ c a ha)
/-- The same read at the TensorCore's references (region 0's exit contents). -/
abbrev V1 : (c : Dev nD) → (b : Ref sig .tc) → Buf (Elt F) ((c : Thread nD τ).loc b) := fun c b => W1 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After `hostOps1`. -/
abbrev W2 : Dev nD → Valuation τ sig (Elt F) := fun c => StableHlo.after hostOps1 (W1 m ρ c)
/-- A reference `hostOps1` does not write keeps its contents across it. -/
theorem W2_of (c : Dev nD) (r : Ref sig .tc) (h : r ∉ hostOps1_W) : W2 m ρ c (Proc.devRef .tc r) = W1 m ρ c (Proc.devRef .tc r) :=
  StableHlo.after_of_writes_sub hostOps1 _ hostOps1_writes h
theorem W2_args (c : Dev nD) : ∀ a ∈ argRefs, W2 m ρ c (Proc.devRef .tc a) = m ((c : Thread nD τ).loc a) :=
  fun a ha => (W2_of m ρ c a (hostOps1_args a ha)).trans (W1_args m ρ c a ha)
/-- After `hostOps1_1`. -/
abbrev W3 : Dev nD → Valuation τ sig (Elt F) := fun c => StableHlo.after hostOps1_1 (W2 m ρ c)
/-- A reference `hostOps1_1` does not write keeps its contents across it. -/
theorem W3_of (c : Dev nD) (r : Ref sig .tc) (h : r ∉ hostOps1_1_W) : W3 m ρ c (Proc.devRef .tc r) = W2 m ρ c (Proc.devRef .tc r) :=
  StableHlo.after_of_writes_sub hostOps1_1 _ hostOps1_1_writes h
theorem W3_args (c : Dev nD) : ∀ a ∈ argRefs, W3 m ρ c (Proc.devRef .tc a) = m ((c : Thread nD τ).loc a) :=
  fun a ha => (W3_of m ρ c a (hostOps1_1_args a ha)).trans (W2_args m ρ c a ha)
/-- After `hostOps1_2`. -/
abbrev W4 : Dev nD → Valuation τ sig (Elt F) := fun c => StableHlo.after hostOps1_2 (W3 m ρ c)
/-- A reference `hostOps1_2` does not write keeps its contents across it. -/
theorem W4_of (c : Dev nD) (r : Ref sig .tc) (h : r ∉ hostOps1_2_W) : W4 m ρ c (Proc.devRef .tc r) = W3 m ρ c (Proc.devRef .tc r) :=
  StableHlo.after_of_writes_sub hostOps1_2 _ hostOps1_2_writes h
theorem W4_args (c : Dev nD) : ∀ a ∈ argRefs, W4 m ρ c (Proc.devRef .tc a) = m ((c : Thread nD τ).loc a) :=
  fun a ha => (W4_of m ρ c a (hostOps1_2_args a ha)).trans (W3_args m ρ c a ha)
/-- After `hostOps1_3`. -/
abbrev W5 : Dev nD → Valuation τ sig (Elt F) := fun c => StableHlo.after hostOps1_3 (W4 m ρ c)
/-- A reference `hostOps1_3` does not write keeps its contents across it. -/
theorem W5_of (c : Dev nD) (r : Ref sig .tc) (h : r ∉ hostOps1_3_W) : W5 m ρ c (Proc.devRef .tc r) = W4 m ρ c (Proc.devRef .tc r) :=
  StableHlo.after_of_writes_sub hostOps1_3 _ hostOps1_3_writes h
theorem W5_args (c : Dev nD) : ∀ a ∈ argRefs, W5 m ρ c (Proc.devRef .tc a) = m ((c : Thread nD τ).loc a) :=
  fun a ha => (W5_of m ρ c a (hostOps1_3_args a ha)).trans (W4_args m ρ c a ha)
/-- After `hostOps1_4`. -/
abbrev W6 : Dev nD → Valuation τ sig (Elt F) := fun c => StableHlo.after hostOps1_4 (W5 m ρ c)
/-- A reference `hostOps1_4` does not write keeps its contents across it. -/
theorem W6_of (c : Dev nD) (r : Ref sig .tc) (h : r ∉ hostOps1_4_W) : W6 m ρ c (Proc.devRef .tc r) = W5 m ρ c (Proc.devRef .tc r) :=
  StableHlo.after_of_writes_sub hostOps1_4 _ hostOps1_4_writes h
theorem W6_args (c : Dev nD) : ∀ a ∈ argRefs, W6 m ρ c (Proc.devRef .tc a) = m ((c : Thread nD τ).loc a) :=
  fun a ha => (W6_of m ρ c a (hostOps1_4_args a ha)).trans (W5_args m ρ c a ha)
/-- After `hostOps1_5`. -/
abbrev W7 : Dev nD → Valuation τ sig (Elt F) := fun c => StableHlo.after hostOps1_5 (W6 m ρ c)
/-- A reference `hostOps1_5` does not write keeps its contents across it. -/
theorem W7_of (c : Dev nD) (r : Ref sig .tc) (h : r ∉ hostOps1_5_W) : W7 m ρ c (Proc.devRef .tc r) = W6 m ρ c (Proc.devRef .tc r) :=
  StableHlo.after_of_writes_sub hostOps1_5 _ hostOps1_5_writes h
theorem W7_args (c : Dev nD) : ∀ a ∈ argRefs, W7 m ρ c (Proc.devRef .tc a) = m ((c : Thread nD τ).loc a) :=
  fun a ha => (W7_of m ρ c a (hostOps1_5_args a ha)).trans (W6_args m ρ c a ha)
/-- After `hostOps1_6`. -/
abbrev W8 : Dev nD → Valuation τ sig (Elt F) := fun c => StableHlo.after hostOps1_6 (W7 m ρ c)
/-- A reference `hostOps1_6` does not write keeps its contents across it. -/
theorem W8_of (c : Dev nD) (r : Ref sig .tc) (h : r ∉ hostOps1_6_W) : W8 m ρ c (Proc.devRef .tc r) = W7 m ρ c (Proc.devRef .tc r) :=
  StableHlo.after_of_writes_sub hostOps1_6 _ hostOps1_6_writes h
theorem W8_args (c : Dev nD) : ∀ a ∈ argRefs, W8 m ρ c (Proc.devRef .tc a) = m ((c : Thread nD τ).loc a) :=
  fun a ha => (W8_of m ρ c a (hostOps1_6_args a ha)).trans (W7_args m ρ c a ha)
/-- After `hostOps1_7`. -/
abbrev W9 : Dev nD → Valuation τ sig (Elt F) := fun c => StableHlo.after hostOps1_7 (W8 m ρ c)
/-- A reference `hostOps1_7` does not write keeps its contents across it. -/
theorem W9_of (c : Dev nD) (r : Ref sig .tc) (h : r ∉ hostOps1_7_W) : W9 m ρ c (Proc.devRef .tc r) = W8 m ρ c (Proc.devRef .tc r) :=
  StableHlo.after_of_writes_sub hostOps1_7 _ hostOps1_7_writes h
theorem W9_args (c : Dev nD) : ∀ a ∈ argRefs, W9 m ρ c (Proc.devRef .tc a) = m ((c : Thread nD τ).loc a) :=
  fun a ha => (W9_of m ρ c a (hostOps1_7_args a ha)).trans (W8_args m ρ c a ha)
/-- After `hostOps1_8` (region 1's entry). -/
abbrev W10 : Dev nD → Valuation τ sig (Elt F) := fun c => StableHlo.after hostOps1_8 (W9 m ρ c)
/-- A reference `hostOps1_8` does not write keeps its contents across it. -/
theorem W10_of (c : Dev nD) (r : Ref sig .tc) (h : r ∉ hostOps1_8_W) : W10 m ρ c (Proc.devRef .tc r) = W9 m ρ c (Proc.devRef .tc r) :=
  StableHlo.after_of_writes_sub hostOps1_8 _ hostOps1_8_writes h
theorem W10_args (c : Dev nD) : ∀ a ∈ argRefs, W10 m ρ c (Proc.devRef .tc a) = m ((c : Thread nD τ).loc a) :=
  fun a ha => (W10_of m ρ c a (hostOps1_8_args a ha)).trans (W9_args m ρ c a ha)
/-- The same read at the TensorCore's references (what region 1's proof data take). -/
abbrev V10 : (c : Dev nD) → (b : Ref sig .tc) → Buf (Elt F) ((c : Thread nD τ).loc b) := fun c b => W10 m ρ c b
/-- At region 1's exit: its arrays at what the pipeline leaves (the inputs as entered, each output's write-backs
    folded: `Dat.arrAt … N`), every other buffer as entered (Lib/Pipeline/FrameSuffix.lean `withArrays`). -/
def W11 (c : Dev nD) : Valuation τ sig (Elt F) :=
  Pipeline.withArrays spec1 c (W10 m ρ c) fun w => (dat1 (V10 m ρ) c).arrAt w cfg1.N
theorem W11_arr (c : Dev nD) (w : Fin cfg1.W) :
    W11 m ρ c (Proc.devRef .tc (Pipeline.arrRef spec1 w)) = (dat1 (V10 m ρ) c).arrAt w cfg1.N := by
  unfold W11; exact Pipeline.withArrays_arr spec1 launch1.win.arr_inj c _ _ w
theorem W11_of_ne (c : Dev nD) (b : Ref sig .tc) (hb : ∀ w, Pipeline.arrRef spec1 w ≠ b) :
    W11 m ρ c (Proc.devRef .tc b) = W10 m ρ c (Proc.devRef .tc b) := by
  unfold W11; exact Pipeline.withArrays_of_ne spec1 c _ _ b hb
/-- A reference that is none of region 1's OUTPUT arrays keeps its entry contents across it: an input window's
    array is never written back (`Dat.arrAt_in`, `A_eq1`); any other buffer is left as is. -/
theorem W11_of (c : Dev nD) (r : Ref sig .tc) (h : ∀ w : Fin cfg1.W, Pipeline.arrRef spec1 w = r → (cfg1.win w).isOut = false) :
    W11 m ρ c (Proc.devRef .tc r) = W10 m ρ c (Proc.devRef .tc r) := by
  by_cases hw : ∃ w : Fin cfg1.W, Pipeline.arrRef spec1 w = r
  · obtain ⟨w, rfl⟩ := hw
    exact (W11_arr m ρ c w).trans (((dat1 (V10 m ρ) c).arrAt_in w (h w rfl) _).trans (A_eq1 (V10 m ρ) c w))
  · exact W11_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W11_args (c : Dev nD) : ∀ a ∈ argRefs, W11 m ρ c (Proc.devRef .tc a) = m ((c : Thread nD τ).loc a) :=
  fun a ha => (W11_of m ρ c a (argsIn1 a ha)).trans (W10_args m ρ c a ha)
/-- The same read at the TensorCore's references (region 1's exit contents). -/
abbrev V11 : (c : Dev nD) → (b : Ref sig .tc) → Buf (Elt F) ((c : Thread nD τ).loc b) := fun c b => W11 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V10 m ρ) c).arrAt w cfg1.N = V11 m ρ c (Pipeline.arrRef spec1 w) :=
  (W11_arr m ρ c w).symm
theorem hrest1 (c : Dev nD) : ∀ b, b ∉ Finset.univ.image (Pipeline.arrRef spec1) → V11 m ρ c b = V10 m ρ c b :=
  fun b hb => W11_of_ne m ρ c b fun w e => hb (Finset.mem_image.mpr ⟨w, Finset.mem_univ _, e⟩)

/-- After `hostOps2`. -/
abbrev W12 : Dev nD → Valuation τ sig (Elt F) := fun c => StableHlo.after hostOps2 (W11 m ρ c)
/-- A reference `hostOps2` does not write keeps its contents across it. -/
theorem W12_of (c : Dev nD) (r : Ref sig .tc) (h : r ∉ hostOps2_W) : W12 m ρ c (Proc.devRef .tc r) = W11 m ρ c (Proc.devRef .tc r) :=
  StableHlo.after_of_writes_sub hostOps2 _ hostOps2_writes h
theorem W12_args (c : Dev nD) : ∀ a ∈ argRefs, W12 m ρ c (Proc.devRef .tc a) = m ((c : Thread nD τ).loc a) :=
  fun a ha => (W12_of m ρ c a (hostOps2_args a ha)).trans (W11_args m ρ c a ha)

/-! ### The arguments end as launched: no host stretch writes one and no region may change one (a region reads it
    through an input window or bypasses it) -/

theorem W12_main_arg0 (c : Dev nD) : W12 m ρ c (Proc.devRef .tc main_arg0) = m ((c : Thread nD τ).loc main_arg0) :=
  W12_args m ρ c main_arg0 (by decide)
theorem W12_main_arg1 (c : Dev nD) : W12 m ρ c (Proc.devRef .tc main_arg1) = m ((c : Thread nD τ).loc main_arg1) :=
  W12_args m ρ c main_arg1 (by decide)
theorem W12_main_arg2 (c : Dev nD) : W12 m ρ c (Proc.devRef .tc main_arg2) = m ((c : Thread nD τ).loc main_arg2) :=
  W12_args m ρ c main_arg2 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V10 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W12`, the generator register at some state. -/
abbrev Tₙ (c : Dev nD) : sProp 𝕄 := iprop(StableHlo.held (c : Thread nD τ) (Pipeline.ucRefs τ sig) (W12 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W0`, left at `W1`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W10`, left at `W11`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V10 m ρ) c).loose
  hwaits := Pipeline.hwaits_of_owed_zero _ _ _ _ L lv 1 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec1 c (V10 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V10 m ρ c) (A_eq1 (V10 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V10 m ρ) c).Φ 0 from rfl]
    refine BIBase.Entails.trans ?_ (hin (V10 m ρ) c)
    iintro ⟨Hp, -, Hr⟩
    unfold Pipeline.ΦA
    isplitl [Hr]; · iexact Hr
    iexact Hp
  hout c := by
    rw [Pipeline.ownSems0_none, show (pdats m ρ 1 c).Φ (Fin.last _) = (dat1 (V10 m ρ) c).Φ (Fin.last cfg1.N) from rfl]
    refine BIBase.Entails.trans (hout (V10 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V10 m ρ c) (V11 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 12 segments in order: a host segment per stretch from its boundary's contents, a region per pallas_call. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .host (hseg hostOps1_1 hostOps1_1_sub hostOps1_1_fresh (W2 m ρ)),
    .host (hseg hostOps1_2 hostOps1_2_sub hostOps1_2_fresh (W3 m ρ)),
    .host (hseg hostOps1_3 hostOps1_3_sub hostOps1_3_fresh (W4 m ρ)),
    .host (hseg hostOps1_4 hostOps1_4_sub hostOps1_4_fresh (W5 m ρ)),
    .host (hseg hostOps1_5 hostOps1_5_sub hostOps1_5_fresh (W6 m ρ)),
    .host (hseg hostOps1_6 hostOps1_6_sub hostOps1_6_fresh (W7 m ρ)),
    .host (hseg hostOps1_7 hostOps1_7_sub hostOps1_7_fresh (W8 m ρ)),
    .host (hseg hostOps1_8 hostOps1_8_sub hostOps1_8_fresh (W9 m ρ)),
    .region (reg1 m ρ),
    .host (hseg hostOps2 hostOps2_sub hostOps2_fresh (W11 m ρ)) ]
/-- @main IS the run of the segments: `main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: from any memory with zero counters every execution of the program terminates, nothing faulting, and every final
    state has each unscoped buffer at the last boundary's contents and every counter at zero. -/
theorem run : θ_run defs (onTc (τ := τ) (main (F := F))) ⟨m, fun _ => 0, ρ⟩ (fun r => (∀ c : Dev nD,
      ∀ b ∈ Pipeline.ucRefs τ sig, r.2.mem ((c.tc : Thread nD τ).1, b) = W12 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h hz => ⟨h, funext fun g => hz g (.inr (no_unscoped g.2))⟩)

/-- THE FRAME: every argument array ends as launched, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
      ⟨(h.1 c _ (mem_uc main_arg0 (by decide))).trans (W12_main_arg0 m ρ c),
       (h.1 c _ (mem_uc main_arg1 (by decide))).trans (W12_main_arg1 m ρ c),
       (h.1 c _ (mem_uc main_arg2 (by decide))).trans (W12_main_arg2 m ρ c)⟩, h.2⟩) (run m ρ)

end Cert.Kernel.Whole

end
-- ==== Proof.KernelIdealRun.Stats.lean ====
/- The first call (the statistics of the gradient), at any contents of the buffers when it is entered: its blocks, the
   run of its body in both cases of its conditional, what its outputs hold after each point, and its obligation. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents: the elaborator recurses once per coordinate of the long axes
set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 0 of @main: custom_call 0, `cc0_stats` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 60 = 0 :=
  (fun t => by
    have ht : t.val < 60 := Nat.lt_of_lt_of_eq t.isLt N_0
    have e0 : (grid0.coords t 0).val = t.val / 5 % 12 := Pipeline.Grid.coords_val t 0 (by decide) rfl
    have e1 : (grid0.coords t 1).val = t.val / 1 % 5 := Pipeline.Grid.coords_val t 1 (by decide) rfl
    simp only [cond0_0, e0, e1]
    word_cmp
   : ∀ t : Fin grid0.N, cond0_0 (grid0.coords t) ↔ t.val % 60 = 0)

/-! ## The kernel body on any staging memrefs: a subtype the run finds -/

/-- One staging buffer of output window 1, through which its contents are stated (`View.read_writes_of_cover`: the
    choice does not matter). -/
abbrev VO0_1 : View sig .tc .vmem S8x192 .f32 := (Memref.whole cc0_stg1_0 : Memref sig .tc .vmem S8x192 .f32).view
/-- One staging buffer of output window 2, through which its contents are stated (`View.read_writes_of_cover`: the
    choice does not matter). -/
abbrev VO0_2 : View sig .tc .vmem S8x192 .f32 := (Memref.whole cc0_stg2_0 : Memref sig .tc .vmem S8x192 .f32).view
/-- Each window's current staging memref at point `t`, spelled as the pipeline passes it (`bodyAt0`), and its wholeness. -/
abbrev ms0_0 (t : Fin cfg0.N) : Memref sig .tc .vmem S1x32x128x192 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x192 .f32 := win0_2.stage (cfg0.slots t 2)
abbrev hs0_2 (t : Fin cfg0.N) : (ms0_2 t).IsWhole := hstage0_2 ((cfg0.slots t 2).cast nbuf0_2)

-- (the run's proof term is large: the definition's epilogue — `abstractNestedProofs` — walks it past the default budget)
set_option maxHeartbeats 1000000 in
/-- What the body's stores leave in each output's staging memref, as pieces (last first) IN CASE A (`scf.if` 0 taken: points 0), WITH the
    proof that on whole staging memrefs — the inputs' at their contents, the other outputs' at
    anything, the body runs to the continuation holding the inputs' as they were,
    each output's buffer with its pieces written: the printed functions are their skeletons
    (`*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S1x32x128x192 .bf16) (harg2 : arg2.IsWhole) (arg3 : Memref sig .tc .vmem S8x192 .f32) (harg3 : arg3.IsWhole) (arg4 : Memref sig .tc .vmem S8x192 .f32) (harg4 : arg4.IsWhole) (hc0 : cond0_0 i)
    (x0 : Vec F S1x32x128x192 .bf16) :
    Σ' (L1 : List (View.Piece (Elt F) S8x192 .f32)), { L2 : List (View.Piece (Elt F) S8x192 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d)
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2)) -∗ K ⟨⟩))
          ⊢ wp frame (wpE (defs₀ (F := F)) Variants.none c none) E (cc0_stats i arg2 harg2 arg3 harg3 arg4 harg4) K } := by
  refine ⟨?_, ?_, fun E K => ?run⟩
  case run =>
    simp only [cc0_stats_eq_skeleton]; unfold cc0_stats_skel
    unfold owns
    iintro ⟨⟨%f0, %hf0, H0⟩, ⟨%d1, %f1, -, H1⟩, ⟨%d2, %f2, -, H2⟩, Hk⟩
    obtain rfl := harg2.eq_unread hf0
    sl_exec (disch := first | sl_exact hc0)
    sl_step
    iapply Hk
    isplitl [H0]
    · iexists _; isplitr; · ipureintro; exact harg2.read_unread _
      iexact H0
    isplitl [H1]; · iexists _; iexact H1
    iexists _; iexact H2

/-- Case A's pieces for output 1 tile its block (33 stores of `S8x192`, checked by the kernel's evaluation: Lib/Ring.lean `Piece.tiledL`, linear in the pieces, through a loop's `@[irreducible]` trip theorem too), so they cover it. -/
theorem cover0_A_1 (c : Dev nD) (i : grid0.Coords) (arg2 : Memref sig .tc .vmem S1x32x128x192 .bf16) (harg2 : arg2.IsWhole) (arg3 : Memref sig .tc .vmem S8x192 .f32) (harg3 : arg3.IsWhole) (arg4 : Memref sig .tc .vmem S8x192 .f32) (harg4 : arg4.IsWhole) (hc0 : cond0_0 i)
    (x0 : Vec F S1x32x128x192 .bf16) (y : S8x192.Idx) :
    ∃ pc ∈ (kernelRun0_A c i arg2 harg2 arg3 harg3 arg4 harg4 hc0 x0).1, y ∈ pc.1.set :=
  View.cover_of_tiledL (kernelRun0_A c i arg2 harg2 arg3 harg3 arg4 harg4 hc0 x0).1 S8x192.size (by sl_kernel_rfl) y

/-- What case A leaves in output 1's staging buffer: its pieces read back over junk. -/
def out0_A_1 (c : Dev nD) (i : grid0.Coords) (arg2 : Memref sig .tc .vmem S1x32x128x192 .bf16) (harg2 : arg2.IsWhole) (arg3 : Memref sig .tc .vmem S8x192 .f32) (harg3 : arg3.IsWhole) (arg4 : Memref sig .tc .vmem S8x192 .f32) (harg4 : arg4.IsWhole) (hc0 : cond0_0 i)
    (x0 : Vec F S1x32x128x192 .bf16) : Vec F S8x192 .f32 :=
  VO0_1.read (Elt F) (VO0_1.writes (Elt F) VO0_1.junk (kernelRun0_A c i arg2 harg2 arg3 harg3 arg4 harg4 hc0 x0).1)

/-- Case A's pieces for output 2 tile its block (33 stores of `S8x192`, checked by the kernel's evaluation: Lib/Ring.lean `Piece.tiledL`, linear in the pieces, through a loop's `@[irreducible]` trip theorem too), so they cover it. -/
theorem cover0_A_2 (c : Dev nD) (i : grid0.Coords) (arg2 : Memref sig .tc .vmem S1x32x128x192 .bf16) (harg2 : arg2.IsWhole) (arg3 : Memref sig .tc .vmem S8x192 .f32) (harg3 : arg3.IsWhole) (arg4 : Memref sig .tc .vmem S8x192 .f32) (harg4 : arg4.IsWhole) (hc0 : cond0_0 i)
    (x0 : Vec F S1x32x128x192 .bf16) (y : S8x192.Idx) :
    ∃ pc ∈ (kernelRun0_A c i arg2 harg2 arg3 harg3 arg4 harg4 hc0 x0).2.1, y ∈ pc.1.set :=
  View.cover_of_tiledL (kernelRun0_A c i arg2 harg2 arg3 harg3 arg4 harg4 hc0 x0).2.1 S8x192.size (by sl_kernel_rfl) y

/-- What case A leaves in output 2's staging buffer: its pieces read back over junk. -/
def out0_A_2 (c : Dev nD) (i : grid0.Coords) (arg2 : Memref sig .tc .vmem S1x32x128x192 .bf16) (harg2 : arg2.IsWhole) (arg3 : Memref sig .tc .vmem S8x192 .f32) (harg3 : arg3.IsWhole) (arg4 : Memref sig .tc .vmem S8x192 .f32) (harg4 : arg4.IsWhole) (hc0 : cond0_0 i)
    (x0 : Vec F S1x32x128x192 .bf16) : Vec F S8x192 .f32 :=
  VO0_2.read (Elt F) (VO0_2.writes (Elt F) VO0_2.junk (kernelRun0_A c i arg2 harg2 arg3 harg3 arg4 harg4 hc0 x0).2.1)

-- (the run's proof term is large: the definition's epilogue — `abstractNestedProofs` — walks it past the default budget)
set_option maxHeartbeats 1000000 in
/-- What the body's stores leave in each output's staging memref, as pieces (last first) IN CASE B (`scf.if` 0 not taken: points 1, 2, … 59: 59 of 60), WITH the
    proof that on whole staging memrefs — the inputs' at their contents, the outputs it reads before covering (1, 2) at their running contents `xo·`, the other outputs' at
    anything, the body runs to the continuation holding the inputs' as they were,
    each output's buffer with its pieces written: the printed functions are their skeletons
    (`*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S1x32x128x192 .bf16) (harg2 : arg2.IsWhole) (arg3 : Memref sig .tc .vmem S8x192 .f32) (harg3 : arg3.IsWhole) (arg4 : Memref sig .tc .vmem S8x192 .f32) (harg4 : arg4.IsWhole) (hc0 : ¬cond0_0 i)
    (x0 : Vec F S1x32x128x192 .bf16) (xo1 : Vec F S8x192 .f32) (xo2 : Vec F S8x192 .f32) :
    Σ' (L1 : List (View.Piece (Elt F) S8x192 .f32)), { L2 : List (View.Piece (Elt F) S8x192 .f32) //
      ∀ (E : Set ℕ) (K : PUnit → sProp 𝕄),
        iprop(owns (c : Thread nD τ) arg2 fullShare x0 ∗ owns (c : Thread nD τ) arg3 fullShare xo1 ∗ owns (c : Thread nD τ) arg4 fullShare xo2
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2)) -∗ K ⟨⟩))
          ⊢ wp frame (wpE (defs₀ (F := F)) Variants.none c none) E (cc0_stats i arg2 harg2 arg3 harg3 arg4 harg4) K } := by
  refine ⟨?_, ?_, fun E K => ?run⟩
  case run =>
    simp only [cc0_stats_eq_skeleton]; unfold cc0_stats_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]; · iexists _; iexact H1
    iexists _; iexact H2

/-- Case B's pieces for output 1 tile its block (32 stores of `S8x192`, checked by the kernel's evaluation: Lib/Ring.lean `Piece.tiledL`, linear in the pieces, through a loop's `@[irreducible]` trip theorem too), so they cover it. -/
theorem cover0_B_1 (c : Dev nD) (i : grid0.Coords) (arg2 : Memref sig .tc .vmem S1x32x128x192 .bf16) (harg2 : arg2.IsWhole) (arg3 : Memref sig .tc .vmem S8x192 .f32) (harg3 : arg3.IsWhole) (arg4 : Memref sig .tc .vmem S8x192 .f32) (harg4 : arg4.IsWhole) (hc0 : ¬cond0_0 i)
    (x0 : Vec F S1x32x128x192 .bf16) (xo1 : Vec F S8x192 .f32) (xo2 : Vec F S8x192 .f32) (y : S8x192.Idx) :
    ∃ pc ∈ (kernelRun0_B c i arg2 harg2 arg3 harg3 arg4 harg4 hc0 x0 xo1 xo2).1, y ∈ pc.1.set :=
  View.cover_of_tiledL (kernelRun0_B c i arg2 harg2 arg3 harg3 arg4 harg4 hc0 x0 xo1 xo2).1 S8x192.size (by sl_kernel_rfl) y

/-- What case B leaves in output 1's staging buffer: its pieces read back over junk. -/
def out0_B_1 (c : Dev nD) (i : grid0.Coords) (arg2 : Memref sig .tc .vmem S1x32x128x192 .bf16) (harg2 : arg2.IsWhole) (arg3 : Memref sig .tc .vmem S8x192 .f32) (harg3 : arg3.IsWhole) (arg4 : Memref sig .tc .vmem S8x192 .f32) (harg4 : arg4.IsWhole) (hc0 : ¬cond0_0 i)
    (x0 : Vec F S1x32x128x192 .bf16) (xo1 : Vec F S8x192 .f32) (xo2 : Vec F S8x192 .f32) : Vec F S8x192 .f32 :=
  VO0_1.read (Elt F) (VO0_1.writes (Elt F) VO0_1.junk (kernelRun0_B c i arg2 harg2 arg3 harg3 arg4 harg4 hc0 x0 xo1 xo2).1)

/-- Case B's pieces for output 2 tile its block (32 stores of `S8x192`, checked by the kernel's evaluation: Lib/Ring.lean `Piece.tiledL`, linear in the pieces, through a loop's `@[irreducible]` trip theorem too), so they cover it. -/
theorem cover0_B_2 (c : Dev nD) (i : grid0.Coords) (arg2 : Memref sig .tc .vmem S1x32x128x192 .bf16) (harg2 : arg2.IsWhole) (arg3 : Memref sig .tc .vmem S8x192 .f32) (harg3 : arg3.IsWhole) (arg4 : Memref sig .tc .vmem S8x192 .f32) (harg4 : arg4.IsWhole) (hc0 : ¬cond0_0 i)
    (x0 : Vec F S1x32x128x192 .bf16) (xo1 : Vec F S8x192 .f32) (xo2 : Vec F S8x192 .f32) (y : S8x192.Idx) :
    ∃ pc ∈ (kernelRun0_B c i arg2 harg2 arg3 harg3 arg4 harg4 hc0 x0 xo1 xo2).2.1, y ∈ pc.1.set :=
  View.cover_of_tiledL (kernelRun0_B c i arg2 harg2 arg3 harg3 arg4 harg4 hc0 x0 xo1 xo2).2.1 S8x192.size (by sl_kernel_rfl) y

/-- What case B leaves in output 2's staging buffer: its pieces read back over junk. -/
def out0_B_2 (c : Dev nD) (i : grid0.Coords) (arg2 : Memref sig .tc .vmem S1x32x128x192 .bf16) (harg2 : arg2.IsWhole) (arg3 : Memref sig .tc .vmem S8x192 .f32) (harg3 : arg3.IsWhole) (arg4 : Memref sig .tc .vmem S8x192 .f32) (harg4 : arg4.IsWhole) (hc0 : ¬cond0_0 i)
    (x0 : Vec F S1x32x128x192 .bf16) (xo1 : Vec F S8x192 .f32) (xo2 : Vec F S8x192 .f32) : Vec F S8x192 .f32 :=
  VO0_2.read (Elt F) (VO0_2.writes (Elt F) VO0_2.junk (kernelRun0_B c i arg2 harg2 arg3 harg3 arg4 harg4 hc0 x0 xo1 xo2).2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S8x192 .f32 × Vec F S8x192 .f32
  | 0, hn => (out0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (iblk0 V c 0 ⟨0, hn⟩), out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (iblk0 V c 0 ⟨0, hn⟩))
  | n + 1, hn =>
    if h0 : (n + 1) % 60 = 0 then
      (out0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (iblk0 V c 0 ⟨n + 1, hn⟩), out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (iblk0 V c 0 ⟨n + 1, hn⟩))
    else
      (out0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (iblk0 V c 0 ⟨n + 1, hn⟩) (outsAt0 c n (Nat.lt_of_succ_lt hn)).1 (outsAt0 c n (Nat.lt_of_succ_lt hn)).2, out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (iblk0 V c 0 ⟨n + 1, hn⟩) (outsAt0 c n (Nat.lt_of_succ_lt hn)).1 (outsAt0 c n (Nat.lt_of_succ_lt hn)).2)

/-- `outsAt0` at a point of case A: that case's contents. -/
theorem outsAt0_A (c : Dev nD) (t : Fin cfg0.N) (h0 : t.val % 60 = 0) :
    outsAt0 V c t.val t.isLt = (out0_A_1 c (grid0.coords t) (ms0_0 t) (hs0_0 t) (ms0_1 t) (hs0_1 t) (ms0_2 t) (hs0_2 t) ((hcond0_0 t).mpr h0) (iblk0 V c 0 t), out0_A_2 c (grid0.coords t) (ms0_0 t) (hs0_0 t) (ms0_1 t) (hs0_1 t) (ms0_2 t) (hs0_2 t) ((hcond0_0 t).mpr h0) (iblk0 V c 0 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 60 = 0) :
    outsAt0 V c t.val t.isLt = (out0_B_1 c (grid0.coords t) (ms0_0 t) (hs0_0 t) (ms0_1 t) (hs0_1 t) (ms0_2 t) (hs0_2 t) (fun h => h0 ((hcond0_0 t).mp h)) (iblk0 V c 0 t) (outsAt0 V c (t.val - 1) (Nat.lt_of_le_of_lt (Nat.sub_le _ _) t.isLt)).1 (outsAt0 V c (t.val - 1) (Nat.lt_of_le_of_lt (Nat.sub_le _ _) t.isLt)).2, out0_B_2 c (grid0.coords t) (ms0_0 t) (hs0_0 t) (ms0_1 t) (hs0_1 t) (ms0_2 t) (hs0_2 t) (fun h => h0 ((hcond0_0 t).mp h)) (iblk0 V c 0 t) (outsAt0 V c (t.val - 1) (Nat.lt_of_le_of_lt (Nat.sub_le _ _) t.isLt)).1 (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem after0_2 (c : Dev nD) (t : Fin cfg0.N) : (dat0 V c).after 2 t = (outsAt0 V c t.val t.isLt).2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
/-- At a point of case B output 1's current staging buffer holds what the body left at the point before: the point is
    not the first, the buffer was not written back between (`flush0_1`), the window is live and uncut (Lib/Pipeline/Frame.lean
    `Dat.before_out_kept`). -/
theorem before0_1_B (c : Dev nD) (t : Fin cfg0.N) (h0 : ¬t.val % 60 = 0) (d) :
    (dat0 V c).before 1 t d = (outsAt0 V c (t.val - 1) (Nat.lt_of_le_of_lt (Nat.sub_le _ _) t.isLt)).1 := by
  have hN : t.val < 60 := lt_of_lt_of_eq t.isLt (show cfg0.N = 60 from N_0)
  rw [Dat.before_out_kept _ 1 rfl t (by omega) (Bool.eq_false_iff.mpr fun h => by have := (flush0_1 _).mp h; dsimp only at this; omega)
    (fun _ => rfl) (fun _ _ => rfl)]
  dsimp only [dat0]
/-- At a point of case B output 2's current staging buffer holds what the body left at the point before: the point is
    not the first, the buffer was not written back between (`flush0_2`), the window is live and uncut (Lib/Pipeline/Frame.lean
    `Dat.before_out_kept`). -/
theorem before0_2_B (c : Dev nD) (t : Fin cfg0.N) (h0 : ¬t.val % 60 = 0) (d) :
    (dat0 V c).before 2 t d = (outsAt0 V c (t.val - 1) (Nat.lt_of_le_of_lt (Nat.sub_le _ _) t.isLt)).2 := by
  have hN : t.val < 60 := lt_of_lt_of_eq t.isLt (show cfg0.N = 60 from N_0)
  rw [Dat.before_out_kept _ 2 rfl t (by omega) (Bool.eq_false_iff.mpr fun h => by have := (flush0_2 _).mp h; dsimp only at this; omega)
    (fun _ => rfl) (fun _ _ => rfl)]
  dsimp only [dat0]

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 800000 in
/-- The body at any point: the inputs' memrefs hold their blocks (`before0_W`); the closed forms say which case the point is in (`by_cases`), an output the case reads before covering holds what the point before left (`before0_W_κ`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  have hN : t.val < 60 := lt_of_lt_of_eq t.isLt (show cfg0.N = 60 from N_0)
  by_cases h0 : t.val % 60 = 0
  · rw [outsAt0_A V c t h0]
    unfold out0_A_1 out0_A_2; (try dsimp only)
    iintro ⟨HΦ, Ho, ⟨%d0, H0⟩, ⟨%d1, H1⟩, ⟨%d2, H2⟩⟩
    iapply ((kernelRun0_A c (grid0.coords t) _ _ _ _ _ _ ((hcond0_0 t).mpr h0) (iblk0 V c 0 t)).2.2 Set.univ _)
    isplitl [H0]; · iexact H0
    isplitl [H1]; · iexists _; iexact H1
    isplitl [H2]; · iexists _; iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover0_A_1 c _ _ _ _ _ _ _ _ _)
    unfold owns; iexists _; isplitr
    swap; · iexact H2
    ipureintro; exact View.read_writes_of_cover _ _ _ _ _ (cover0_A_2 c _ _ _ _ _ _ _ _ _)
  · rw [outsAt0_B V c t h0]
    simp only [before0_1_B V c t h0, before0_2_B V c t h0]
    unfold out0_B_1 out0_B_2; (try dsimp only)
    iintro ⟨HΦ, Ho, ⟨%d0, H0⟩, ⟨%d1, H1⟩, ⟨%d2, H2⟩⟩
    iapply ((kernelRun0_B c (grid0.coords t) _ _ _ _ _ _ (fun h => h0 ((hcond0_0 t).mp h)) (iblk0 V c 0 t) _ _).2.2 Set.univ _)
    isplitl [H0]; · iexact H0
    isplitl [H1]; · iexact H1
    isplitl [H2]; · iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover0_B_1 c _ _ _ _ _ _ _ _ _ _ _)
    unfold owns; iexists _; isplitr
    swap; · iexact H2
    ipureintro; exact View.read_writes_of_cover _ _ _ _ _ (cover0_B_2 c _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Whole

end
-- ==== Proof.KernelIdealRun.WgradBlocks.lean ====
/- The second call (the weight gradient), at any contents of the buffers when it is entered: its blocks and the names of its
   buffers. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents: the elaborator recurses once per coordinate of the long axes
set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 1 of @main: custom_call 1, `cc1_wgrad` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 0).val) 0#32)) 0#32) = 1#1
/-- It holds at the first point only — by arithmetic of the point. -/
theorem hcond1_0 : ∀ t : Fin cfg1.N, cond1_0 (grid1.coords t) ↔ t.val % 12 = 0 :=
  (fun t => by
    have ht : t.val < 12 := Nat.lt_of_lt_of_eq t.isLt N_1
    have e0 : (grid1.coords t 0).val = t.val / 1 % 12 := Pipeline.Grid.coords_val t 0 (by decide) rfl
    simp only [cond1_0, e0]
    word_cmp
   : ∀ t : Fin grid1.N, cond1_0 (grid1.coords t) ↔ t.val % 12 = 0)

/-! ## The kernel body on any staging memrefs: a subtype the run finds -/

/-- One staging buffer of output window 3, through which its contents are stated (`View.read_writes_of_cover`: the
    choice does not matter). -/
abbrev VO1_3 : View sig .tc .vmem S3x3x96x192 .f32 := (Memref.whole cc1_stg3_0 : Memref sig .tc .vmem S3x3x96x192 .f32).view
/-- One staging buffer of output window 4, through which its contents are stated (`View.read_writes_of_cover`: the
    choice does not matter). -/
abbrev VO1_4 : View sig .tc .vmem S1x160x128x192 .fp8e5m2 := (Memref.whole cc1_stg4_0 : Memref sig .tc .vmem S1x160x128x192 .fp8e5m2).view
/-- Each window's current staging memref at point `t`, spelled as the pipeline passes it (`bodyAt1`), and its wholeness. -/
abbrev ms1_0 (t : Fin cfg1.N) : Memref sig .tc .smem S1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x160x128x96 .fp8e4m3 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x160x128x192 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S3x3x96x192 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x160x128x192 .fp8e5m2 := win1_4.stage (cfg1.slots t 4)
abbrev hs1_4 (t : Fin cfg1.N) : (ms1_4 t).IsWhole := hstage1_4 ((cfg1.slots t 4).cast nbuf1_4)
/-- The scratch operands: whole scoped buffers of the kernel's own, passed beside the windows. -/
abbrev scM1_0 : Memref sig .tc .vmem S162x3x96x128 .fp8e4m3 := Memref.whole cc1_scratch0

/-- The frame kit's invariant with the scratch operands as memrefs owned at some contents (`scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ d, owns (c : Thread nD τ) scM1_0 fullShare d)) ∗ (∃ r, prngReg c r)) := by
  unfold Pipeline.ΦA; rw [scopedRest1_eq]; simp only [scM1_0, owns_whole]; try rfl

/-- The scratch `arg6` the kernel carries between points, as a view: what it holds is stated through it. -/
abbrev VS1_0 : View sig .tc .vmem S162x3x96x128 .fp8e4m3 := scM1_0.view

end Cert.KernelIdeal.Whole

end
-- ==== Proof.KernelIdealRun.WgradLoops.lean ====
/- The two loops of the second call's body as functions of the values that its buffers hold. -/
module

public import proofs.«01_k».proof.Proof.Gen.KernelIdeal.Loops
public import Idealize.ShloMosaic.Lib.Pipeline.Value
public import Idealize.ShloMosaic.Lib.Pointwise.Index
public import proofs.«01_k».proof.Proof.Pieces
import all proofs.«01_k».proof.Proof.Gen.KernelIdeal.Loops

@[expose] public section

set_option maxRecDepth 16384

noncomputable section

namespace Cert.KernelIdeal.Whole

open Cert.KernelIdeal.Gen Cert.Pieces
open Idealize.ShloMosaic Idealize.ShloMosaic.TcCoe Idealize.ShloMosaic.Tactic

variable {F : FTy → Type} [FloatOps F]

/-! # The two loops of the second call's body, told as functions of the VALUES their buffers hold

Everything here is about values: what a buffer holds is a function of its index, and no buffer, view or list of
writes is left in the statements that the rest of the proof uses. -/

/-! ## What one trip reads -/

/-- Eight image rows of the gradient, as one chunk of the second loop reads them. -/
def chunk (x2 : Vec F S1x160x128x192 .bf16) (k : Fin k1_t2_loop.trips) : Vec F S1x8x128x192 .bf16 :=
  View.ld x2 (Rect.unit (s := S1x160x128x192) (k1_off5 k) S1x8x128x192.size (k1_off5_inb k))

/-- One image row of the input, as one trip of the first loop reads it. -/
def inRow (x1 : Vec F S1x160x128x96 .fp8e4m3) (k : Fin k1_t1_loop.trips) : Vec F S1x1x128x96 .fp8e4m3 :=
  View.ld x1 (Rect.unit (s := S1x160x128x96) (k1_off1 k) S1x1x128x96.size (k1_off1_inb k))

/-- Row `j` of chunk `k` of the shifted copies, for the tap `(kh, kw)`. -/
def tapRow (x6 : Vec F S162x3x96x128 .fp8e4m3) (k : Fin k1_t2_loop.trips) (kh : Fin 3) : Fin 3 → Fin 8 → Vec F S1x1x96x128 .fp8e4m3
  | 0, j => View.ld x6 (Rect.unit (s := S162x3x96x128) (k1_off6 k (BitVec.ofNat 32 j.val) (BitVec.ofNat 32 kh.val)) S1x1x96x128.size (k1_off6_inb k j kh))
  | 1, j => View.ld x6 (Rect.unit (s := S162x3x96x128) (k1_off7 k (BitVec.ofNat 32 j.val) (BitVec.ofNat 32 kh.val)) S1x1x96x128.size (k1_off7_inb k j kh))
  | 2, j => View.ld x6 (Rect.unit (s := S162x3x96x128) (k1_off8 k (BitVec.ofNat 32 j.val) (BitVec.ofNat 32 kh.val)) S1x1x96x128.size (k1_off8_inb k j kh))

/-! ## What one trip stores -/

/-- One tap's block after one chunk: what it held plus the product of the eight rows side by side with the chunk's codes. -/
def tapPay (g : FVec F S1024x192 .fp8e5m2) (rows : Fin 8 → Vec F S1x1x96x128 .fp8e4m3) (blk : Vec F S1x1x96x192 .f32) : Vec F S1x1x96x192 .f32 :=
  k1_pay10 g
    (concatenate S96x1024 1 [⟨S96x128, shapeCast S96x128 (rows 0) shapeCasts_S1x1x96x128_S96x128⟩, ⟨S96x128, shapeCast S96x128 (rows 1) shapeCasts_S1x1x96x128_S96x128⟩, ⟨S96x128, shapeCast S96x128 (rows 2) shapeCasts_S1x1x96x128_S96x128⟩, ⟨S96x128, shapeCast S96x128 (rows 3) shapeCasts_S1x1x96x128_S96x128⟩, ⟨S96x128, shapeCast S96x128 (rows 4) shapeCasts_S1x1x96x128_S96x128⟩, ⟨S96x128, shapeCast S96x128 (rows 5) shapeCasts_S1x1x96x128_S96x128⟩, ⟨S96x128, shapeCast S96x128 (rows 6) shapeCasts_S1x1x96x128_S96x128⟩, ⟨S96x128, shapeCast S96x128 (rows 7) shapeCasts_S1x1x96x128_S96x128⟩] concatenates_S96x128_S96x128_S96x128_S96x128_S96x128_S96x128_S96x128_S96x128_S96x1024_d1)
    (shapeCast S96x192 blk shapeCasts_S1x1x96x192_S96x192)

/-- The first loop's stores of one trip, last first: the three shifted copies of one row. -/
def tapPieces (x1 : Vec F S1x160x128x96 .fp8e4m3) (k : Fin k1_t1_loop.trips) : List (View.Piece (Elt F) S162x3x96x128 .fp8e4m3) :=
  [⟨Rect.unit (s := S162x3x96x128) (k1_off4 k) S1x1x96x128.size (k1_off4_inb k), k1_pay9 (inRow x1 k)⟩,
   ⟨Rect.unit (s := S162x3x96x128) (k1_off3 k) S1x1x96x128.size (k1_off3_inb k), k1_pay8 (inRow x1 k)⟩,
   ⟨Rect.unit (s := S162x3x96x128) (k1_off2 k) S1x1x96x128.size (k1_off2_inb k), k1_pay7 (inRow x1 k)⟩]

/-- The second loop's stores of one trip into the gradient of the weights, last first. -/
def dwPieces (v5 : Elt F .f32) (x2 : Vec F S1x160x128x192 .bf16) (x6 : Vec F S162x3x96x128 .fp8e4m3) (d : Vec F S3x3x96x192 .f32) (k : Fin k1_t2_loop.trips) : List (View.Piece (Elt F) S3x3x96x192 .f32) :=
    [⟨Rect.unit (s := S3x3x96x192) ![2, 2, 0, 0] S1x1x96x192.size inb_S3x3x96x192_S1x1x96x192_2_2_0_0, tapPay (F := F) (k1_pay11 v5 (chunk x2 k)) (fun j => tapRow x6 k 2 2 j) (View.ld d (Rect.unit (s := S3x3x96x192) ![2, 2, 0, 0] S1x1x96x192.size inb_S3x3x96x192_S1x1x96x192_2_2_0_0))⟩,
     ⟨Rect.unit (s := S3x3x96x192) ![2, 1, 0, 0] S1x1x96x192.size inb_S3x3x96x192_S1x1x96x192_2_1_0_0, tapPay (F := F) (k1_pay11 v5 (chunk x2 k)) (fun j => tapRow x6 k 2 1 j) (View.ld d (Rect.unit (s := S3x3x96x192) ![2, 1, 0, 0] S1x1x96x192.size inb_S3x3x96x192_S1x1x96x192_2_1_0_0))⟩,
     ⟨Rect.unit (s := S3x3x96x192) ![2, 0, 0, 0] S1x1x96x192.size inb_S3x3x96x192_S1x1x96x192_2_0_0_0, tapPay (F := F) (k1_pay11 v5 (chunk x2 k)) (fun j => tapRow x6 k 2 0 j) (View.ld d (Rect.unit (s := S3x3x96x192) ![2, 0, 0, 0] S1x1x96x192.size inb_S3x3x96x192_S1x1x96x192_2_0_0_0))⟩,
     ⟨Rect.unit (s := S3x3x96x192) ![1, 2, 0, 0] S1x1x96x192.size inb_S3x3x96x192_S1x1x96x192_1_2_0_0, tapPay (F := F) (k1_pay11 v5 (chunk x2 k)) (fun j => tapRow x6 k 1 2 j) (View.ld d (Rect.unit (s := S3x3x96x192) ![1, 2, 0, 0] S1x1x96x192.size inb_S3x3x96x192_S1x1x96x192_1_2_0_0))⟩,
     ⟨Rect.unit (s := S3x3x96x192) ![1, 1, 0, 0] S1x1x96x192.size inb_S3x3x96x192_S1x1x96x192_1_1_0_0, tapPay (F := F) (k1_pay11 v5 (chunk x2 k)) (fun j => tapRow x6 k 1 1 j) (View.ld d (Rect.unit (s := S3x3x96x192) ![1, 1, 0, 0] S1x1x96x192.size inb_S3x3x96x192_S1x1x96x192_1_1_0_0))⟩,
     ⟨Rect.unit (s := S3x3x96x192) ![1, 0, 0, 0] S1x1x96x192.size inb_S3x3x96x192_S1x1x96x192_1_0_0_0, tapPay (F := F) (k1_pay11 v5 (chunk x2 k)) (fun j => tapRow x6 k 1 0 j) (View.ld d (Rect.unit (s := S3x3x96x192) ![1, 0, 0, 0] S1x1x96x192.size inb_S3x3x96x192_S1x1x96x192_1_0_0_0))⟩,
     ⟨Rect.unit (s := S3x3x96x192) ![0, 2, 0, 0] S1x1x96x192.size inb_S3x3x96x192_S1x1x96x192_0_2_0_0, tapPay (F := F) (k1_pay11 v5 (chunk x2 k)) (fun j => tapRow x6 k 0 2 j) (View.ld d (Rect.unit (s := S3x3x96x192) ![0, 2, 0, 0] S1x1x96x192.size inb_S3x3x96x192_S1x1x96x192_0_2_0_0))⟩,
     ⟨Rect.unit (s := S3x3x96x192) ![0, 1, 0, 0] S1x1x96x192.size inb_S3x3x96x192_S1x1x96x192_0_1_0_0, tapPay (F := F) (k1_pay11 v5 (chunk x2 k)) (fun j => tapRow x6 k 0 1 j) (View.ld d (Rect.unit (s := S3x3x96x192) ![0, 1, 0, 0] S1x1x96x192.size inb_S3x3x96x192_S1x1x96x192_0_1_0_0))⟩,
     ⟨Rect.unit (s := S3x3x96x192) ![0, 0, 0, 0] S1x1x96x192.size inb_S3x3x96x192_S1x1x96x192_0_0_0_0, tapPay (F := F) (k1_pay11 v5 (chunk x2 k)) (fun j => tapRow x6 k 0 0 j) (View.ld d (Rect.unit (s := S3x3x96x192) ![0, 0, 0, 0] S1x1x96x192.size inb_S3x3x96x192_S1x1x96x192_0_0_0_0))⟩]

/-- The second loop's one store of the codes. -/
def codePieces (v5 : Elt F .f32) (x2 : Vec F S1x160x128x192 .bf16) (k : Fin k1_t2_loop.trips) : List (View.Piece (Elt F) S1x160x128x192 .fp8e5m2) :=
  [⟨Rect.unit (s := S1x160x128x192) (k1_off5 k) S1x8x128x192.size (k1_off5_inb k), k1_pay12 v5 (chunk x2 k)⟩]

unseal trip_k1_t1 in
theorem trip_k1_t1_pieces (𝒱 : Variants) (c : Dev nD) (bd : Option 𝒱.V) (i : grid1.Coords) (arg1 : Memref sig .tc .smem S1 .f32) (harg1 : arg1.IsWhole) (arg2 : Memref sig .tc .vmem S1x160x128x96 .fp8e4m3) (harg2 : arg2.IsWhole) (arg3 : Memref sig .tc .vmem S1x160x128x192 .bf16) (harg3 : arg3.IsWhole) (arg4 : Memref sig .tc .vmem S3x3x96x192 .f32) (harg4 : arg4.IsWhole) (arg5 : Memref sig .tc .vmem S1x160x128x192 .fp8e5m2) (harg5 : arg5.IsWhole) (arg6 : Memref sig .tc .vmem S162x3x96x128 .fp8e4m3) (harg6 : arg6.IsWhole)
    (X2 : BufTy.Contents (Elt F) arg2.view.ty) (k : Fin k1_t1_loop.trips) :
    (trip_k1_t1 (F := F) 𝒱 c bd i arg1 harg1 arg2 harg2 arg3 harg3 arg4 harg4 arg5 harg5 arg6 harg6 X2 k).1 = tapPieces (arg2.view.read (Elt F) X2) k := by
  unfold trip_k1_t1
  dsimp only
  sl_unfold_run_names
  rfl

unseal trip_k1_t2 in
theorem trip_k1_t2_dw (𝒱 : Variants) (c : Dev nD) (bd : Option 𝒱.V) (i : grid1.Coords) (arg1 : Memref sig .tc .smem S1 .f32) (harg1 : arg1.IsWhole) (arg2 : Memref sig .tc .vmem S1x160x128x96 .fp8e4m3) (harg2 : arg2.IsWhole) (arg3 : Memref sig .tc .vmem S1x160x128x192 .bf16) (harg3 : arg3.IsWhole) (arg4 : Memref sig .tc .vmem S3x3x96x192 .f32) (harg4 : arg4.IsWhole) (arg5 : Memref sig .tc .vmem S1x160x128x192 .fp8e5m2) (harg5 : arg5.IsWhole) (arg6 : Memref sig .tc .vmem S162x3x96x128 .fp8e4m3) (harg6 : arg6.IsWhole)
    (v5 : Elt F .f32) (X3 : BufTy.Contents (Elt F) arg3.view.ty) (X6 : BufTy.Contents (Elt F) arg6.view.ty) (k : Fin k1_t2_loop.trips)
    (G4 : BufTy.Contents (Elt F) arg4.view.ty) (G5 : BufTy.Contents (Elt F) arg5.view.ty) :
    (trip_k1_t2 (F := F) 𝒱 c bd i arg1 harg1 arg2 harg2 arg3 harg3 arg4 harg4 arg5 harg5 arg6 harg6 v5 X3 X6 k).1 G4 G5
      = dwPieces v5 (arg3.view.read (Elt F) X3) (arg6.view.read (Elt F) X6) (arg4.view.read (Elt F) G4) k := by
  unfold trip_k1_t2
  dsimp only
  sl_unfold_run_names
  simp only [View.readAt_eq_ld]
  rfl

unseal trip_k1_t2 in
theorem trip_k1_t2_codes (𝒱 : Variants) (c : Dev nD) (bd : Option 𝒱.V) (i : grid1.Coords) (arg1 : Memref sig .tc .smem S1 .f32) (harg1 : arg1.IsWhole) (arg2 : Memref sig .tc .vmem S1x160x128x96 .fp8e4m3) (harg2 : arg2.IsWhole) (arg3 : Memref sig .tc .vmem S1x160x128x192 .bf16) (harg3 : arg3.IsWhole) (arg4 : Memref sig .tc .vmem S3x3x96x192 .f32) (harg4 : arg4.IsWhole) (arg5 : Memref sig .tc .vmem S1x160x128x192 .fp8e5m2) (harg5 : arg5.IsWhole) (arg6 : Memref sig .tc .vmem S162x3x96x128 .fp8e4m3) (harg6 : arg6.IsWhole)
    (v5 : Elt F .f32) (X3 : BufTy.Contents (Elt F) arg3.view.ty) (X6 : BufTy.Contents (Elt F) arg6.view.ty) (k : Fin k1_t2_loop.trips)
    (G4 : BufTy.Contents (Elt F) arg4.view.ty) (G5 : BufTy.Contents (Elt F) arg5.view.ty) :
    (trip_k1_t2 (F := F) 𝒱 c bd i arg1 harg1 arg2 harg2 arg3 harg3 arg4 harg4 arg5 harg5 arg6 harg6 v5 X3 X6 k).2.1 G4 G5 = codePieces v5 (arg3.view.read (Elt F) X3) k := by
  unfold trip_k1_t2
  dsimp only
  sl_unfold_run_names
  rfl

/-! ## What the loops leave, in closed form -/

theorem trips1 : k1_t1_loop.trips = 160 := by decide +kernel
theorem trips2 : k1_t2_loop.trips = 20 := by decide +kernel

/-- The three shifted copies of one image row, by tap column. -/
def planeOf (x1 : Vec F S1x160x128x96 .fp8e4m3) (k : Fin k1_t1_loop.trips) : Fin 3 → Vec F S1x1x96x128 .fp8e4m3
  | 0 => k1_pay7 (inRow x1 k)
  | 1 => k1_pay8 (inRow x1 k)
  | 2 => k1_pay9 (inRow x1 k)

/-- All the shifted copies of one image: row `r` of the image is row `r + 1` of each copy, the first and the last row are zero. -/
def planes (x1 : Vec F S1x160x128x96 .fp8e4m3) : Vec F S162x3x96x128 .fp8e4m3 := fun y =>
  if h : 1 ≤ (y 0).val ∧ (y 0).val ≤ 160 then planeOf x1 ⟨(y 0).val - 1, by rw [trips1]; omega⟩ (y 1) (ix4 (n0 := 1) (n1 := 1) (n2 := 96) (n3 := 128) 0 0 (y 2) (y 3))
  else k1_pay3 (F := F) (ix4 (n0 := 1) (n1 := 3) (n2 := 96) (n3 := 128) 0 (y 1) (y 2) (y 3))

theorem planes_row (x1 : Vec F S1x160x128x96 .fp8e4m3) (a : Fin 162) (b : Fin 3) (q : Fin 96) (l : Fin 128) (h : 1 ≤ a.val ∧ a.val ≤ 160) :
    planes x1 (ix4 a b q l) = planeOf x1 ⟨a.val - 1, by rw [trips1]; omega⟩ b (ix4 (n0 := 1) (n1 := 1) (n2 := 96) (n3 := 128) 0 0 q l) := dif_pos h

theorem planes_border (x1 : Vec F S1x160x128x96 .fp8e4m3) (a : Fin 162) (b : Fin 3) (q : Fin 96) (l : Fin 128) (h : ¬(1 ≤ a.val ∧ a.val ≤ 160)) :
    planes x1 (ix4 a b q l) = k1_pay3 (F := F) (ix4 (n0 := 1) (n1 := 3) (n2 := 96) (n3 := 128) 0 b q l) := dif_neg h

/-- The codes of one image. -/
def codesOf (v5 : Elt F .f32) (x2 : Vec F S1x160x128x192 .bf16) : Vec F S1x160x128x192 .fp8e5m2 := fun y =>
  k1_pay12 v5 (chunk x2 ⟨(y 1).val / 8, by have : (y 1).val < 160 := (y 1).isLt; rw [trips2]; omega⟩)
    (ix4 (n0 := 1) (n1 := 8) (n2 := 128) (n3 := 192) 0 ⟨(y 1).val % 8, Nat.mod_lt _ (by decide)⟩ (y 2) (y 3))

theorem blk_inb (kh kw : Fin 3) : ∀ a, (![kh.val, kw.val, 0, 0] : Fin 4 → Nat) a + S1x1x96x192.size a ≤ S3x3x96x192.size a := by
  revert kh kw; decide

/-- One tap's block of the gradient of the weights. -/
def tapBlk (d : Vec F S3x3x96x192 .f32) (kh kw : Fin 3) : Vec F S1x1x96x192 .f32 :=
  View.ld d (Rect.unit (s := S3x3x96x192) ![kh.val, kw.val, 0, 0] S1x1x96x192.size (blk_inb kh kw))

/-- The gradient of the weights after one more chunk. -/
def dwStep (v5 : Elt F .f32) (x2 : Vec F S1x160x128x192 .bf16) (x6 : Vec F S162x3x96x128 .fp8e4m3) (d : Vec F S3x3x96x192 .f32) (k : Fin k1_t2_loop.trips) : Vec F S3x3x96x192 .f32 := fun y =>
  tapPay (k1_pay11 v5 (chunk x2 k)) (fun j => tapRow x6 k (y 0) (y 1) j) (tapBlk d (y 0) (y 1)) (ix4 (n0 := 1) (n1 := 1) (n2 := 96) (n3 := 192) 0 0 (y 2) (y 3))

/-- The gradient of the weights after the first `n` chunks. -/
def dwRun (v5 : Elt F .f32) (x2 : Vec F S1x160x128x192 .bf16) (x6 : Vec F S162x3x96x128 .fp8e4m3) (d : Vec F S3x3x96x192 .f32) : ℕ → Vec F S3x3x96x192 .f32
  | 0 => d
  | n + 1 => if h : n < k1_t2_loop.trips then dwStep v5 x2 x6 (dwRun v5 x2 x6 d n) ⟨n, h⟩ else dwRun v5 x2 x6 d n

theorem dwRun_succ (v5 : Elt F .f32) (x2 : Vec F S1x160x128x192 .bf16) (x6 : Vec F S162x3x96x128 .fp8e4m3) (d : Vec F S3x3x96x192 .f32) (k : Fin k1_t2_loop.trips) :
    dwRun v5 x2 x6 d (k.val + 1) = dwStep v5 x2 x6 (dwRun v5 x2 x6 d k.val) k := dif_pos k.isLt

/-- The gradient of the weights after one image. -/
def dwImage (v5 : Elt F .f32) (x2 : Vec F S1x160x128x192 .bf16) (x6 : Vec F S162x3x96x128 .fp8e4m3) (d : Vec F S3x3x96x192 .f32) : Vec F S3x3x96x192 .f32 :=
  dwRun v5 x2 x6 d 20

section Reads

theorem read_dwPieces {arg4 : Memref sig .tc .vmem S3x3x96x192 .f32} (v5 : Elt F .f32) (x2 : Vec F S1x160x128x192 .bf16) (x6 : Vec F S162x3x96x128 .fp8e4m3) (d : Vec F S3x3x96x192 .f32) (k : Fin k1_t2_loop.trips)
    (f : BufTy.Contents (Elt F) arg4.view.ty) :
    arg4.view.read (Elt F) (arg4.view.writes (Elt F) f (dwPieces v5 x2 x6 d k)) = dwStep v5 x2 x6 d k := by
  funext y
  obtain ⟨a, b, q, l, rfl⟩ : ∃ (a : Fin 3) (b : Fin 3) (q : Fin 96) (l : Fin 192), y = ix4 a b q l := ⟨y 0, y 1, y 2, y 3, eq_ix4 y⟩
  unfold dwPieces
  have hit : ∀ (kh kw : Fin 3) (inb) (w : Vec F S1x1x96x192 .f32) (L) (q : Fin 96) (l : Fin 192),
      arg4.view.read (Elt F) (arg4.view.writes (Elt F) f (⟨Rect.unit (s := S3x3x96x192) ![kh.val, kw.val, 0, 0] S1x1x96x192.size inb, w⟩ :: L)) (ix4 kh kw q l)
        = w (ix4 0 0 q l) := fun kh kw inb w L q l =>
    hit4 arg4.view f _ inb w L rfl kh kw q l 0 0 q l rfl rfl (by omega) (by omega)
  have miss : ∀ (kh kw kh' kw' : Fin 3) (hne : ¬(kh = kh' ∧ kw = kw')) (inb) (w : Vec F S1x1x96x192 .f32) (L) (q : Fin 96) (l : Fin 192),
      arg4.view.read (Elt F) (arg4.view.writes (Elt F) f (⟨Rect.unit (s := S3x3x96x192) ![kh'.val, kw'.val, 0, 0] S1x1x96x192.size inb, w⟩ :: L)) (ix4 kh kw q l)
        = arg4.view.read (Elt F) (arg4.view.writes (Elt F) f L) (ix4 kh kw q l) := fun kh kw kh' kw' hne inb w L q l => by
    by_cases h : kh = kh'
    · exact miss4_1 arg4.view f _ inb w L rfl kh kw q l (by omega)
    · exact miss4_0 arg4.view f _ inb w L rfl kh kw q l (by omega)
  by_cases h22 : a = 2 ∧ b = 2
  · obtain ⟨rfl, rfl⟩ := h22; exact hit 2 2 _ _ _ q l
  refine (miss a b 2 2 h22 _ _ _ q l).trans ?_
  by_cases h21 : a = 2 ∧ b = 1
  · obtain ⟨rfl, rfl⟩ := h21; exact hit 2 1 _ _ _ q l
  refine (miss a b 2 1 h21 _ _ _ q l).trans ?_
  by_cases h20 : a = 2 ∧ b = 0
  · obtain ⟨rfl, rfl⟩ := h20; exact hit 2 0 _ _ _ q l
  refine (miss a b 2 0 h20 _ _ _ q l).trans ?_
  by_cases h12 : a = 1 ∧ b = 2
  · obtain ⟨rfl, rfl⟩ := h12; exact hit 1 2 _ _ _ q l
  refine (miss a b 1 2 h12 _ _ _ q l).trans ?_
  by_cases h11 : a = 1 ∧ b = 1
  · obtain ⟨rfl, rfl⟩ := h11; exact hit 1 1 _ _ _ q l
  refine (miss a b 1 1 h11 _ _ _ q l).trans ?_
  by_cases h10 : a = 1 ∧ b = 0
  · obtain ⟨rfl, rfl⟩ := h10; exact hit 1 0 _ _ _ q l
  refine (miss a b 1 0 h10 _ _ _ q l).trans ?_
  by_cases h02 : a = 0 ∧ b = 2
  · obtain ⟨rfl, rfl⟩ := h02; exact hit 0 2 _ _ _ q l
  refine (miss a b 0 2 h02 _ _ _ q l).trans ?_
  by_cases h01 : a = 0 ∧ b = 1
  · obtain ⟨rfl, rfl⟩ := h01; exact hit 0 1 _ _ _ q l
  refine (miss a b 0 1 h01 _ _ _ q l).trans ?_
  have h00 : a = 0 ∧ b = 0 := by omega
  obtain ⟨rfl, rfl⟩ := h00; exact hit 0 0 _ _ _ q l

variable (𝒱 : Variants) (c : Dev nD) (bd : Option 𝒱.V) (i : grid1.Coords) (arg1 : Memref sig .tc .smem S1 .f32) (harg1 : arg1.IsWhole) (arg2 : Memref sig .tc .vmem S1x160x128x96 .fp8e4m3) (harg2 : arg2.IsWhole) (arg3 : Memref sig .tc .vmem S1x160x128x192 .bf16) (harg3 : arg3.IsWhole) (arg4 : Memref sig .tc .vmem S3x3x96x192 .f32) (harg4 : arg4.IsWhole) (arg5 : Memref sig .tc .vmem S1x160x128x192 .fp8e5m2) (harg5 : arg5.IsWhole) (arg6 : Memref sig .tc .vmem S162x3x96x128 .fp8e4m3) (harg6 : arg6.IsWhole)

/-- After `n` trips of the first loop: the copies of the first `n` rows are in place, the rest is as it was. -/
theorem read_taps (X2 : BufTy.Contents (Elt F) arg2.view.ty) (G6 : BufTy.Contents (Elt F) arg6.view.ty) (n : ℕ) (hn : n ≤ 160)
    (a : Fin 162) (b : Fin 3) (q : Fin 96) (l : Fin 128) :
    arg6.view.read (Elt F) (arg6.view.writes (Elt F) G6 (pb_k1_t1 (F := F) 𝒱 c bd i arg1 harg1 arg2 harg2 arg3 harg3 arg4 harg4 arg5 harg5 arg6 harg6 X2 n)) (ix4 a b q l)
      = if 1 ≤ a.val ∧ a.val ≤ n then planes (arg2.view.read (Elt F) X2) (ix4 a b q l) else arg6.view.read (Elt F) G6 (ix4 a b q l) := by
  induction n with
  | zero => rw [if_neg (by omega)]; rfl
  | succ n ih =>
    have hk : n < k1_t1_loop.trips := by rw [trips1]; omega
    have e := pb_k1_t1_succ (F := F) 𝒱 c bd i arg1 harg1 arg2 harg2 arg3 harg3 arg4 harg4 arg5 harg5 arg6 harg6 X2 ⟨n, hk⟩
    rw [show n + 1 = (⟨n, hk⟩ : Fin k1_t1_loop.trips).val + 1 from rfl, e]
    rw [View.writes_append]
    unfold tripL_k1_t1
    rw [trip_k1_t1_pieces]
    unfold tapPieces
    by_cases ha : a.val = n + 1
    · rw [if_pos ⟨by omega, by show a.val ≤ n + 1; omega⟩]
      have hp : planes (arg2.view.read (Elt F) X2) (ix4 a b q l) = planeOf (arg2.view.read (Elt F) X2) ⟨n, hk⟩ b (ix4 (n0 := 1) (n1 := 1) (n2 := 96) (n3 := 128) 0 0 q l) := by
        rw [planes_row _ _ _ _ _ ⟨by omega, by omega⟩]
        have : (⟨a.val - 1, by rw [trips1]; omega⟩ : Fin k1_t1_loop.trips) = ⟨n, hk⟩ := Fin.ext (by show a.val - 1 = n; omega)
        exact congrArg (fun k => planeOf (arg2.view.read (Elt F) X2) k b (ix4 (n0 := 1) (n1 := 1) (n2 := 96) (n3 := 128) 0 0 q l)) this
      rw [hp]
      by_cases h2 : b = 2
      · subst h2
        exact hit4 arg6.view _ _ (k1_off4_inb ⟨n, hk⟩) _ _ (k1_off4_eq ⟨n, hk⟩) a 2 q l 0 0 q l ha rfl (by omega) (by omega)
      refine (miss4_1 arg6.view _ _ (k1_off4_inb ⟨n, hk⟩) _ _ (k1_off4_eq ⟨n, hk⟩) a b q l (by omega)).trans ?_
      by_cases h1 : b = 1
      · subst h1
        exact hit4 arg6.view _ _ (k1_off3_inb ⟨n, hk⟩) _ _ (k1_off3_eq ⟨n, hk⟩) a 1 q l 0 0 q l ha rfl (by omega) (by omega)
      refine (miss4_1 arg6.view _ _ (k1_off3_inb ⟨n, hk⟩) _ _ (k1_off3_eq ⟨n, hk⟩) a b q l (by omega)).trans ?_
      have h0 : b = 0 := by omega
      subst h0
      exact hit4 arg6.view _ _ (k1_off2_inb ⟨n, hk⟩) _ _ (k1_off2_eq ⟨n, hk⟩) a 0 q l 0 0 q l ha rfl (by omega) (by omega)
    · have hmiss : a.val < n + 1 ∨ n + 1 + 1 ≤ a.val := by omega
      refine (miss4_0 arg6.view _ _ (k1_off4_inb ⟨n, hk⟩) _ _ (k1_off4_eq ⟨n, hk⟩) a b q l hmiss).trans ?_
      refine (miss4_0 arg6.view _ _ (k1_off3_inb ⟨n, hk⟩) _ _ (k1_off3_eq ⟨n, hk⟩) a b q l hmiss).trans ?_
      refine (miss4_0 arg6.view _ _ (k1_off2_inb ⟨n, hk⟩) _ _ (k1_off2_eq ⟨n, hk⟩) a b q l hmiss).trans ?_
      refine (ih (by omega)).trans ?_
      by_cases hc : 1 ≤ a.val ∧ a.val ≤ n
      · rw [if_pos hc, if_pos ⟨hc.1, by show a.val ≤ n + 1; omega⟩]
      · rw [if_neg hc, if_neg (by show ¬(1 ≤ a.val ∧ a.val ≤ n + 1); omega)]

/-- After `n` trips of the second loop: the gradient of the weights. -/
theorem read_dw (v5 : Elt F .f32) (X3 : BufTy.Contents (Elt F) arg3.view.ty) (X6 : BufTy.Contents (Elt F) arg6.view.ty)
    (G4 : BufTy.Contents (Elt F) arg4.view.ty) (G5 : BufTy.Contents (Elt F) arg5.view.ty) (n : ℕ) (hn : n ≤ 20) :
    arg4.view.read (Elt F) (arg4.view.writes (Elt F) G4 (pb_k1_t2 (F := F) 𝒱 c bd i arg1 harg1 arg2 harg2 arg3 harg3 arg4 harg4 arg5 harg5 arg6 harg6 v5 X3 X6 G4 G5 n).1)
      = dwRun v5 (arg3.view.read (Elt F) X3) (arg6.view.read (Elt F) X6) (arg4.view.read (Elt F) G4) n := by
  induction n with
  | zero => rfl
  | succ n ih =>
    have hk : n < k1_t2_loop.trips := by rw [trips2]; omega
    rw [show n + 1 = (⟨n, hk⟩ : Fin k1_t2_loop.trips).val + 1 from rfl, pb_k1_t2_succ]
    show arg4.view.read (Elt F) (arg4.view.writes (Elt F) G4 (_ ++ _)) = _
    rw [View.writes_append]
    unfold tripL_k1_t2
    dsimp only
    rw [trip_k1_t2_dw, read_dwPieces, ih (by omega)]
    exact (dwRun_succ v5 _ _ _ ⟨n, hk⟩).symm

/-- After `n` trips of the second loop: the codes of the first `8 n` rows are in place, the rest is as it was. -/
theorem read_codes (v5 : Elt F .f32) (X3 : BufTy.Contents (Elt F) arg3.view.ty) (X6 : BufTy.Contents (Elt F) arg6.view.ty)
    (G4 : BufTy.Contents (Elt F) arg4.view.ty) (G5 : BufTy.Contents (Elt F) arg5.view.ty) (n : ℕ) (hn : n ≤ 20)
    (a : Fin 1) (b : Fin 160) (q : Fin 128) (l : Fin 192) :
    arg5.view.read (Elt F) (arg5.view.writes (Elt F) G5 (pb_k1_t2 (F := F) 𝒱 c bd i arg1 harg1 arg2 harg2 arg3 harg3 arg4 harg4 arg5 harg5 arg6 harg6 v5 X3 X6 G4 G5 n).2) (ix4 a b q l)
      = if b.val < 8 * n then codesOf v5 (arg3.view.read (Elt F) X3) (ix4 a b q l) else arg5.view.read (Elt F) G5 (ix4 a b q l) := by
  induction n with
  | zero => rw [if_neg (by omega)]; rfl
  | succ n ih =>
    have hk : n < k1_t2_loop.trips := by rw [trips2]; omega
    rw [show n + 1 = (⟨n, hk⟩ : Fin k1_t2_loop.trips).val + 1 from rfl, pb_k1_t2_succ]
    show arg5.view.read (Elt F) (arg5.view.writes (Elt F) G5 (_ ++ _)) _ = _
    rw [View.writes_append]
    unfold tripL_k1_t2
    dsimp only
    rw [trip_k1_t2_codes]
    unfold codePieces
    have ha : a = 0 := Subsingleton.elim _ _
    subst ha
    by_cases hb : 8 * n ≤ b.val ∧ b.val < 8 * n + 8
    · rw [if_pos (by show b.val < 8 * (n + 1); omega)]
      refine (hit4 arg5.view _ _ (k1_off5_inb ⟨n, hk⟩) _ _ (k1_off5_eq ⟨n, hk⟩) 0 b q l 0 ⟨b.val - 8 * n, by omega⟩ q l rfl (by show b.val = 8 * n + (b.val - 8 * n); omega) (by omega) (by omega)).trans ?_
      · have e1 : (⟨b.val / 8, by rw [trips2]; omega⟩ : Fin k1_t2_loop.trips) = ⟨n, hk⟩ := Fin.ext (by show b.val / 8 = n; omega)
        have e2 : (⟨b.val % 8, Nat.mod_lt _ (by decide)⟩ : Fin 8) = ⟨b.val - 8 * n, by omega⟩ := Fin.ext (by show b.val % 8 = b.val - 8 * n; omega)
        show _ = k1_pay12 v5 (chunk (arg3.view.read (Elt F) X3) ⟨b.val / 8, _⟩) (ix4 (n0 := 1) (n1 := 8) (n2 := 128) (n3 := 192) 0 ⟨b.val % 8, _⟩ q l)
        rw [e1, e2]
    · refine (miss4_1 arg5.view _ _ (k1_off5_inb ⟨n, hk⟩) _ _ (k1_off5_eq ⟨n, hk⟩) 0 b q l (by show b.val < 8 * n ∨ 8 * n + 8 ≤ b.val; omega)).trans ?_
      refine (ih (by omega)).trans ?_
      by_cases hc : b.val < 8 * n
      · rw [if_pos hc, if_pos (by show b.val < 8 * (n + 1); omega)]
      · rw [if_neg hc, if_neg (by show ¬(b.val < 8 * (n + 1)); omega)]

/-- After the first loop over cleared borders: all the shifted copies. -/
theorem read_planes_first (x1 : Vec F S1x160x128x96 .fp8e4m3) (f : BufTy.Contents (Elt F) arg6.view.ty) :
    arg6.view.read (Elt F) (arg6.view.writes (Elt F) f (pb_k1_t1 (F := F) 𝒱 c bd i arg1 harg1 arg2 harg2 arg3 harg3 arg4 harg4 arg5 harg5 arg6 harg6 (harg2.unread x1) 160
        ++ [⟨Rect.unit (s := S162x3x96x128) ![161, 0, 0, 0] S1x3x96x128.size inb_S162x3x96x128_S1x3x96x128_161_0_0_0, k1_pay4 (F := F)⟩,
            ⟨Rect.unit (s := S162x3x96x128) ![0, 0, 0, 0] S1x3x96x128.size inb_S162x3x96x128_S1x3x96x128_0_0_0_0, k1_pay3 (F := F)⟩])) = planes x1 := by
  funext y
  obtain ⟨a, b, q, l, rfl⟩ : ∃ (a : Fin 162) (b : Fin 3) (q : Fin 96) (l : Fin 128), y = ix4 a b q l := ⟨y 0, y 1, y 2, y 3, eq_ix4 y⟩
  rw [View.writes_append, read_taps (hn := le_refl _), harg2.read_unread]
  by_cases h : 1 ≤ a.val ∧ a.val ≤ 160
  · rw [if_pos h]
  rw [if_neg h]
  rw [planes_border _ _ _ _ _ h]
  by_cases h161 : a.val = 161
  · exact hit4 arg6.view f _ inb_S162x3x96x128_S1x3x96x128_161_0_0_0 _ _ rfl a b q l 0 b q l h161 (by omega) (by omega) (by omega)
  · refine (miss4_0 arg6.view f _ inb_S162x3x96x128_S1x3x96x128_161_0_0_0 _ _ rfl a b q l (by omega)).trans ?_
    exact hit4 arg6.view f _ inb_S162x3x96x128_S1x3x96x128_0_0_0_0 _ _ rfl a b q l 0 b q l (by show a.val = 0 + 0; omega) (by omega) (by omega) (by omega)

/-- After the first loop over another image's copies: all the shifted copies, the borders still zero. -/
theorem read_planes_next (x1 x1' : Vec F S1x160x128x96 .fp8e4m3) (f : BufTy.Contents (Elt F) arg6.view.ty) (hf : arg6.view.read (Elt F) f = planes x1') :
    arg6.view.read (Elt F) (arg6.view.writes (Elt F) f (pb_k1_t1 (F := F) 𝒱 c bd i arg1 harg1 arg2 harg2 arg3 harg3 arg4 harg4 arg5 harg5 arg6 harg6 (harg2.unread x1) 160)) = planes x1 := by
  funext y
  obtain ⟨a, b, q, l, rfl⟩ : ∃ (a : Fin 162) (b : Fin 3) (q : Fin 96) (l : Fin 128), y = ix4 a b q l := ⟨y 0, y 1, y 2, y 3, eq_ix4 y⟩
  rw [read_taps (hn := le_refl _), harg2.read_unread, hf]
  by_cases h : 1 ≤ a.val ∧ a.val ≤ 160
  · rw [if_pos h]
  rw [if_neg h]
  rw [planes_border _ _ _ _ _ h, planes_border _ _ _ _ _ h]

theorem read_codes_all (v5 : Elt F .f32) (X3 : BufTy.Contents (Elt F) arg3.view.ty) (X6 : BufTy.Contents (Elt F) arg6.view.ty)
    (G4 : BufTy.Contents (Elt F) arg4.view.ty) (G5 : BufTy.Contents (Elt F) arg5.view.ty) :
    arg5.view.read (Elt F) (arg5.view.writes (Elt F) G5 (pb_k1_t2 (F := F) 𝒱 c bd i arg1 harg1 arg2 harg2 arg3 harg3 arg4 harg4 arg5 harg5 arg6 harg6 v5 X3 X6 G4 G5 20).2)
      = codesOf v5 (arg3.view.read (Elt F) X3) := by
  funext y
  obtain ⟨a, b, q, l, rfl⟩ : ∃ (a : Fin 1) (b : Fin 160) (q : Fin 128) (l : Fin 192), y = ix4 a b q l := ⟨y 0, y 1, y 2, y 3, eq_ix4 y⟩
  rw [read_codes (hn := le_refl _), if_pos (by omega)]

end Reads

end Cert.KernelIdeal.Whole

end
-- ==== Proof.KernelIdealRun.Body.lean ====
/- The second call's body, from what its buffers hold to what they hold after it. -/
module

public import proofs.«01_k».proof.Proof.KernelIdealRun.WgradBlocks
public import proofs.«01_k».proof.Proof.KernelIdealRun.WgradLoops

@[expose] public section

-- membership in a rectangle of production extents: the elaborator recurses once per coordinate of the long axes
set_option maxRecDepth 16384

noncomputable section

namespace Cert.KernelIdeal.Whole

open Cert.KernelIdeal.Gen Cert.Pieces
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem body_A (c : Dev nD) (i : grid1.Coords) (arg1 : Memref sig .tc .smem S1 .f32) (harg1 : arg1.IsWhole) (arg2 : Memref sig .tc .vmem S1x160x128x96 .fp8e4m3) (harg2 : arg2.IsWhole) (arg3 : Memref sig .tc .vmem S1x160x128x192 .bf16) (harg3 : arg3.IsWhole) (arg4 : Memref sig .tc .vmem S3x3x96x192 .f32) (harg4 : arg4.IsWhole) (arg5 : Memref sig .tc .vmem S1x160x128x192 .fp8e5m2) (harg5 : arg5.IsWhole) (arg6 : Memref sig .tc .vmem S162x3x96x128 .fp8e4m3) (harg6 : arg6.IsWhole) (hc0 : cond1_0 i)
    (x0 : Vec F S1 .f32) (x1 : Vec F S1x160x128x96 .fp8e4m3) (x2 : Vec F S1x160x128x192 .bf16) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (dwImage (x0 (ix1 (n0 := 1) 0)) x2 (planes x1) (k1_pay1 (F := F))) ∗ owns (c : Thread nD τ) arg5 fullShare (codesOf (x0 (ix1 (n0 := 1) 0)) x2) ∗ owns (c : Thread nD τ) arg6 fullShare (planes x1)) -∗ K ⟨⟩))
      ⊢ wp frame (wpE (defs₀ (F := F)) Variants.none c none) E (cc1_wgrad i arg1 harg1 arg2 harg2 arg3 harg3 arg4 harg4 arg5 harg5 arg6 harg6) K := by
  simp only [cc1_wgrad_eq_skeleton]; unfold cc1_wgrad_skel
  unfold owns
  iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, Hk⟩
  obtain rfl := harg1.eq_unread hf0; obtain rfl := harg2.eq_unread hf1; obtain rfl := harg3.eq_unread hf2
  set_option sl_exec.maxSteps 12 in sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; swap
    · iexact H3
    ipureintro
    rw [View.writes_append]
    refine (read_dw Variants.none c none i arg1 harg1 arg2 harg2 arg3 harg3 arg4 harg4 arg5 harg5 arg6 harg6 _ _ _ _ _ 20 (le_refl _)).trans ?_
    have hp := read_planes_first Variants.none c none i arg1 harg1 arg2 harg2 arg3 harg3 arg4 harg4 arg5 harg5 arg6 harg6 x1 fs0
    have hr : body_A.sl.r c arg1 harg1 x0 = x0 (ix1 (n0 := 1) 0) := by
      sl_unfold_run_names
      rw [View.readAt_eq_ld, harg1.read_unread]
      exact congrArg x0 (funext fun a => by match a with | 0 => exact Subsingleton.elim (α := Fin 1) _ _)
    rw [harg3.read_unread, hr]
    refine (congrArg (fun x6 => dwRun (x0 (ix1 (n0 := 1) 0)) x2 x6 _ 20) hp).trans ?_
    refine congrArg (fun d => dwRun (x0 (ix1 (n0 := 1) 0)) x2 (planes x1) d 20) (?_ : _ = k1_pay1 (F := F))
    sl_unfold_run_names
    funext y
    obtain ⟨a, b, q, l, rfl⟩ : ∃ (a : Fin 3) (b : Fin 3) (q : Fin 96) (l : Fin 192), y = ix4 a b q l := ⟨y 0, y 1, y 2, y 3, eq_ix4 y⟩
    exact hit4 arg4.view _ _ inb_S3x3x96x192_S3x3x96x192_0_0_0_0 _ _ rfl a b q l a b q l (by omega) (by omega) (by omega) (by omega)
  isplitl [H4]
  · iexists _; isplitr; swap
    · iexact H4
    ipureintro
    refine (read_codes_all Variants.none c none i arg1 harg1 arg2 harg2 arg3 harg3 arg4 harg4 arg5 harg5 arg6 harg6 _ _ _ _ _).trans ?_
    have hr : body_A.sl.r c arg1 harg1 x0 = x0 (ix1 (n0 := 1) 0) := by
      sl_unfold_run_names
      rw [View.readAt_eq_ld, harg1.read_unread]
      exact congrArg x0 (funext fun a => by match a with | 0 => exact Subsingleton.elim (α := Fin 1) _ _)
    rw [harg3.read_unread, hr]
  iexists _; isplitr; swap
  · iexact HS0
  ipureintro
  exact read_planes_first Variants.none c none i arg1 harg1 arg2 harg2 arg3 harg3 arg4 harg4 arg5 harg5 arg6 harg6 x1 fs0

theorem body_B (c : Dev nD) (i : grid1.Coords) (arg1 : Memref sig .tc .smem S1 .f32) (harg1 : arg1.IsWhole) (arg2 : Memref sig .tc .vmem S1x160x128x96 .fp8e4m3) (harg2 : arg2.IsWhole) (arg3 : Memref sig .tc .vmem S1x160x128x192 .bf16) (harg3 : arg3.IsWhole) (arg4 : Memref sig .tc .vmem S3x3x96x192 .f32) (harg4 : arg4.IsWhole) (arg5 : Memref sig .tc .vmem S1x160x128x192 .fp8e5m2) (harg5 : arg5.IsWhole) (arg6 : Memref sig .tc .vmem S162x3x96x128 .fp8e4m3) (harg6 : arg6.IsWhole) (hc0 : ¬ cond1_0 i)
    (x0 : Vec F S1 .f32) (x1 : Vec F S1x160x128x96 .fp8e4m3) (x2 : Vec F S1x160x128x192 .bf16) (xo : Vec F S3x3x96x192 .f32) (xs : Vec F S1x160x128x96 .fp8e4m3) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare xo ∗ (∃ d, owns (c : Thread nD τ) arg5 fullShare d) ∗ owns (c : Thread nD τ) arg6 fullShare (planes xs)
        ∗ (iprop(owns (c : Thread nD τ) arg1 fullShare x0 ∗ owns (c : Thread nD τ) arg2 fullShare x1 ∗ owns (c : Thread nD τ) arg3 fullShare x2
            ∗ owns (c : Thread nD τ) arg4 fullShare (dwImage (x0 (ix1 (n0 := 1) 0)) x2 (planes x1) xo) ∗ owns (c : Thread nD τ) arg5 fullShare (codesOf (x0 (ix1 (n0 := 1) 0)) x2) ∗ owns (c : Thread nD τ) arg6 fullShare (planes x1)) -∗ K ⟨⟩))
      ⊢ wp frame (wpE (defs₀ (F := F)) Variants.none c none) E (cc1_wgrad i arg1 harg1 arg2 harg2 arg3 harg3 arg4 harg4 arg5 harg5 arg6 harg6) K := by
  simp only [cc1_wgrad_eq_skeleton]; unfold cc1_wgrad_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
  obtain rfl := harg1.eq_unread hf0; obtain rfl := harg2.eq_unread hf1; obtain rfl := harg3.eq_unread hf2
  set_option sl_exec.maxSteps 12 in sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; swap
    · iexact H3
    ipureintro
    refine (read_dw Variants.none c none i arg1 harg1 arg2 harg2 arg3 harg3 arg4 harg4 arg5 harg5 arg6 harg6 _ _ _ _ _ 20 (le_refl _)).trans ?_
    have hp := read_planes_next Variants.none c none i arg1 harg1 arg2 harg2 arg3 harg3 arg4 harg4 arg5 harg5 arg6 harg6 x1 xs fs0 hfs0
    have hr : body_B.sl.r c arg1 harg1 x0 = x0 (ix1 (n0 := 1) 0) := by
      sl_unfold_run_names
      rw [View.readAt_eq_ld, harg1.read_unread]
      exact congrArg x0 (funext fun a => by match a with | 0 => exact Subsingleton.elim (α := Fin 1) _ _)
    rw [harg3.read_unread, hr]
    refine (congrArg (fun x6 => dwRun (x0 (ix1 (n0 := 1) 0)) x2 x6 _ 20) hp).trans ?_
    rw [hf3]; rfl
  isplitl [H4]
  · iexists _; isplitr; swap
    · iexact H4
    ipureintro
    refine (read_codes_all Variants.none c none i arg1 harg1 arg2 harg2 arg3 harg3 arg4 harg4 arg5 harg5 arg6 harg6 _ _ _ _ _).trans ?_
    have hr : body_B.sl.r c arg1 harg1 x0 = x0 (ix1 (n0 := 1) 0) := by
      sl_unfold_run_names
      rw [View.readAt_eq_ld, harg1.read_unread]
      exact congrArg x0 (funext fun a => by match a with | 0 => exact Subsingleton.elim (α := Fin 1) _ _)
    rw [harg3.read_unread, hr]
  iexists _; isplitr; swap
  · iexact HS0
  ipureintro
  exact read_planes_next Variants.none c none i arg1 harg1 arg2 harg2 arg3 harg3 arg4 harg4 arg5 harg5 arg6 harg6 x1 xs fs0 hfs0

end Cert.KernelIdeal.Whole

end
-- ==== Proof.KernelIdealRun.Wgrad.lean ====
/- What the second call's outputs and its carried scratch hold after each point, the invariant that carries the scratch, and
   the call's obligation. -/
module

public import proofs.«01_k».proof.Proof.KernelIdealRun.Body

@[expose] public section

-- membership in a rectangle of production extents: the elaborator recurses once per coordinate of the long axes
set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The factor that the second call scales the gradient by, as it finds it at point `t`. -/
abbrev invAt (c : Dev nD) (t : Fin cfg1.N) : Elt F .f32 := iblk1 V c 0 t (ix1 (n0 := 1) 0)

/-- The gradient of the weights after point `n`: image after image over zeros. -/
def dwAt (c : Dev nD) : (n : ℕ) → n < cfg1.N → Vec F S3x3x96x192 .f32
  | 0, hn => dwImage (invAt V c ⟨0, hn⟩) (iblk1 V c 2 ⟨0, hn⟩) (planes (iblk1 V c 1 ⟨0, hn⟩)) (k1_pay1 (F := F))
  | n + 1, hn => dwImage (invAt V c ⟨n + 1, hn⟩) (iblk1 V c 2 ⟨n + 1, hn⟩) (planes (iblk1 V c 1 ⟨n + 1, hn⟩)) (dwAt c n (Nat.lt_of_succ_lt hn))

/-- What the two outputs' staging buffers and the scratch hold after point `n`. -/
def outsAt1 (c : Dev nD) (n : ℕ) (hn : n < cfg1.N) : Vec F S3x3x96x192 .f32 × Vec F S1x160x128x192 .fp8e5m2 × Vec F S162x3x96x128 .fp8e4m3 :=
  (dwAt V c n hn, codesOf (invAt V c ⟨n, hn⟩) (iblk1 V c 2 ⟨n, hn⟩), planes (iblk1 V c 1 ⟨n, hn⟩))

theorem outsAt1_A (c : Dev nD) (t : Fin cfg1.N) (hz : t.val = 0) :
    outsAt1 V c t.val t.isLt = (dwImage (invAt V c t) (iblk1 V c 2 t) (planes (iblk1 V c 1 t)) (k1_pay1 (F := F)), codesOf (invAt V c t) (iblk1 V c 2 t), planes (iblk1 V c 1 t)) := by
  obtain ⟨n, hn⟩ := t
  cases n with
  | zero => rfl
  | succ n => exact absurd hz (Nat.succ_ne_zero n)

theorem outsAt1_B (c : Dev nD) (t : Fin cfg1.N) (hz : t.val ≠ 0) :
    outsAt1 V c t.val t.isLt = (dwImage (invAt V c t) (iblk1 V c 2 t) (planes (iblk1 V c 1 t)) (outsAt1 V c (t.val - 1) (Nat.lt_of_le_of_lt (Nat.sub_le _ _) t.isLt)).1, codesOf (invAt V c t) (iblk1 V c 2 t), planes (iblk1 V c 1 t)) := by
  obtain ⟨n, hn⟩ := t
  cases n with
  | zero => exact absurd rfl hz
  | succ n => rfl

/-- The staging buffers of the first call, at some contents: nothing of the second call touches them. -/
def Others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f))

theorem PhiA1_others (c : Dev nD) : (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ d, owns (c : Thread nD τ) scM1_0 fullShare d)) ∗ (∃ r, prngReg c r)) := PhiA1_eq c

/-- The region invariant before position `n` with a scratch the kernel CARRIES between points: before the first point the
    class's (Lib/Pipeline/Frame.lean `ΦA`: every scratch at anything); afterwards the scoped rest with each carried scratch
    at what the point before left in it (`outsAt1`'s scratch components), the others at anything, and the generator register
    at some state. -/
def PhiS (c : Dev nD) : (n : ℕ) → n ≤ cfg1.N → sProp 𝕄
  | 0, _ => Pipeline.ΦA spec1 c
  | n + 1, hn => iprop(iprop(Others c ∗ owns (c : Thread nD τ) scM1_0 fullShare ((outsAt1 V c n hn).2.2)) ∗ (∃ r, prngReg c r))

theorem PhiS_zero (c : Dev nD) (n : ℕ) (h : n ≤ cfg1.N) (hz : n = 0) : PhiS V c n h = Pipeline.ΦA spec1 c := by
  subst hz; rfl

/-- After point `n` (before point `n + 1`): the carried scratch at that point's contents. -/
theorem PhiS_succ (c : Dev nD) (n : ℕ) (hn : n < cfg1.N) :
    PhiS V c (n + 1) hn = iprop(iprop(Others c ∗ owns (c : Thread nD τ) scM1_0 fullShare ((outsAt1 V c n hn).2.2)) ∗ (∃ r, prngReg c r)) := rfl

/-- Before a point that is not the first: the carried scratch at what the point before left. -/
theorem PhiS_pos (c : Dev nD) (n : ℕ) (h : n ≤ cfg1.N) (hz : n ≠ 0) :
    PhiS V c n h = iprop(iprop(Others c ∗ owns (c : Thread nD τ) scM1_0 fullShare ((outsAt1 V c (n - 1) (by omega)).2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt1`; the invariant
    (`PhiS`: the class's `ΦA` before the first point, then the scoped rest with the carried scratch at `outsAt1`'s component);
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
    | ⟨4, _⟩ => (outsAt1 V c t.val t.isLt).2.1
  Φ t := PhiS V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS_castSucc (c : Dev nD) (t : Fin cfg1.N) :
    (dat1 V c).Φ t.castSucc = PhiS V c t.val (Nat.le_of_lt t.isLt) := by
  dsimp only [dat1]; exact Pipeline.Dat.Φ_castSucc (PhiS V c) t

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem after1_4 (c : Dev nD) (t : Fin cfg1.N) : (dat1 V c).after 4 t = (outsAt1 V c t.val t.isLt).2.1 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
/-- At a point of case B output 3's current staging buffer holds what the body left at the point before: the point is
    not the first, the buffer was not written back between (`flush1_3`), the window is live and uncut (Lib/Pipeline/Frame.lean
    `Dat.before_out_kept`). -/
theorem before1_3_B (c : Dev nD) (t : Fin cfg1.N) (h0 : ¬t.val % 12 = 0) (d) :
    (dat1 V c).before 3 t d = (outsAt1 V c (t.val - 1) (Nat.lt_of_le_of_lt (Nat.sub_le _ _) t.isLt)).1 := by
  have hN : t.val < 12 := lt_of_lt_of_eq t.isLt (show cfg1.N = 12 from N_1)
  rw [Dat.before_out_kept _ 3 rfl t (by omega) (Bool.eq_false_iff.mpr fun h => by have := (flush1_3 _).mp h; dsimp only at this; omega)
    (fun _ => rfl) (fun _ _ => rfl)]
  dsimp only [dat1]

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 8000000 in
/-- The body at any point: the first (`body_A`, the scratch at anything) or a later one (`body_B`, the scratch and the accumulator as the
    point before left them). -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl,
    after1_0, after1_1, after1_2, after1_3, after1_4]
  rw [show (dat1 V c).Φ t.succ = PhiS V c (t.val + 1) t.isLt from rfl, PhiS_succ]
  have hN : t.val < 12 := lt_of_lt_of_eq t.isLt (show cfg1.N = 12 from N_1)
  by_cases h0 : t.val % 12 = 0
  · by_cases hz : t.val = 0
    · rw [PhiS_castSucc V c t, PhiS_zero V c _ _ hz, PhiA1_eq]
      rw [outsAt1_A V c t hz]; dsimp only
      iintro ⟨⟨⟨HR0, HR1, HR2, HR3, HS0⟩, Hg⟩, Ho, ⟨%d0, H0⟩, ⟨%d1, H1⟩, ⟨%d2, H2⟩, ⟨%d3, H3⟩, ⟨%d4, H4⟩⟩
      iapply (body_A c (grid1.coords t) _ _ _ _ _ _ _ _ _ _ _ _ ((hcond1_0 t).mpr h0) (iblk1 V c 0 t) (iblk1 V c 1 t) (iblk1 V c 2 t) Set.univ _)
      isplitl [H0]; · iexact H0
      isplitl [H1]; · iexact H1
      isplitl [H2]; · iexact H2
      isplitl [H3]; · iexists _; iexact H3
      isplitl [H4]; · iexists _; iexact H4
      isplitl [HS0]; · iexact HS0
      iintro ⟨H0, H1, H2, H3, H4, HS0⟩
      isplitl [HR0 HR1 HR2 HR3 HS0 Hg]
      · isplitl [HR0 HR1 HR2 HR3 HS0]
        · isplitl [HR0 HR1 HR2 HR3]
          · unfold Others
            isplitl [HR0]; · iexact HR0
            isplitl [HR1]; · iexact HR1
            isplitl [HR2]; · iexact HR2
            iexact HR3
          iexact HS0
        iexact Hg
      isplitl [Ho]; · iexact Ho
      isplitl [H0]; · iexact H0
      isplitl [H1]; · iexact H1
      isplitl [H2]; · iexact H2
      isplitl [H3]; · iexact H3
      iexact H4
    · exfalso; omega
  · by_cases hz : t.val = 0
    · exfalso; omega
    · rw [PhiS_castSucc V c t, PhiS_pos V c _ _ hz]
      rw [outsAt1_B V c t hz]
      simp only [before1_3_B V c t h0]
      iintro ⟨⟨⟨HR, HS0⟩, Hg⟩, Ho, ⟨%d0, H0⟩, ⟨%d1, H1⟩, ⟨%d2, H2⟩, ⟨%d3, H3⟩, ⟨%d4, H4⟩⟩
      iapply (body_B c (grid1.coords t) _ _ _ _ _ _ _ _ _ _ _ _ (fun h => h0 ((hcond1_0 t).mp h)) (iblk1 V c 0 t) (iblk1 V c 1 t) (iblk1 V c 2 t) _ _ Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, H4, HS0⟩
      isplitl [HR HS0 Hg]
      · isplitl [HR HS0]
        · isplitl [HR]; · iexact HR
          iexact HS0
        iexact Hg
      isplitl [Ho]; · iexact Ho
      isplitl [H0]; · iexact H0
      isplitl [H1]; · iexact H1
      isplitl [H2]; · iexact H2
      isplitl [H3]; · iexact H3
      iexact H4

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the region (`ΦA`) is the invariant before the first point. -/
theorem hin (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  unfold Others
  iintro ⟨⟨⟨HR0, HR1, HR2, HR3⟩, HS0⟩, Hg⟩
  isplitl [HR0 HR1 HR2 HR3 HS0]
  · isplitl [HR0]; · iexact HR0
    isplitl [HR1]; · iexact HR1
    isplitl [HR2]; · iexact HR2
    isplitl [HR3]; · iexact HR3
    iexists _; iexact HS0
  iexact Hg

/-- The same after the last point. -/
theorem hout (c : Dev nD) : (dat1 V c).Φ (Fin.last cfg1.N) ⊢ Pipeline.ΦA spec1 c :=
  Phi_out V c _ (by rw [Fin.val_last]; have : cfg1.N = 12 := N_1; omega)

end Cert.KernelIdeal.Whole

end
-- ==== Proof.KernelIdealRun.Main.lean ====
/- The whole program: the contents of the buffers at every boundary between a call and a stretch of host operations, the two
   calls and the stretches as segments, and the run and the frame of the program. -/
module

public import proofs.«01_k».proof.Proof.KernelIdealRun.Stats
public import proofs.«01_k».proof.Proof.KernelIdealRun.Wgrad

@[expose] public section

-- membership in a rectangle of production extents: the elaborator recurses once per coordinate of the long axes
set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2]

/-! ## The host stretches: none allocates a buffer, and each lists the references its operations write, in order,
    so that a reference absent from the list keeps its contents across the stretch (Lib/StableHlo/Run.lean
    `after_of_writes_sub`) -/

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_cst, main_v1, main_cst_0, main_v2, main_v3, main_c, main_v4, main_v5, main_c_1, main_v6, main_v7, main_v8, main_v9, main_v10, main_v11, main_c_2, main_v12, main_c_3, main_v13, main_cst_4, main_v14, main_v15, main_c_5, main_v16, main_c_6]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps1_1` allocates a buffer. -/
theorem hostOps1_1_fresh : (hostOps1_1 : List (HloOp τ sig (Elt F))).Forall fun op => op.fresh = ∅ := by
  simp only [List.Forall]; repeat' constructor
/-- The reference each operation of `hostOps1_1` writes, in order. -/
abbrev hostOps1_1_W : List (Ref sig .tc) := [main_call0_v0, main_v17]
theorem hostOps1_1_writes : (hostOps1_1 : List (HloOp τ sig (Elt F))).Forall fun op => op.writes ⊆ (hostOps1_1_W.map (Proc.devRef (τ := τ) .tc)).toFinset :=
  StableHlo.forall_writes_sub_of_map rfl
/-- `hostOps1_1` writes none of the argument arrays (checked: each argument against each reference it writes). -/
theorem hostOps1_1_args : ∀ a ∈ argRefs, a ∉ hostOps1_1_W := ListAll.forall_mem_of_all_decide (by decide +kernel)

/-- No operation of `hostOps1_2` allocates a buffer. -/
theorem hostOps1_2_fresh : (hostOps1_2 : List (HloOp τ sig (Elt F))).Forall fun op => op.fresh = ∅ := by
  simp only [List.Forall]; repeat' constructor
/-- The reference each operation of `hostOps1_2` writes, in order. -/
abbrev hostOps1_2_W : List (Ref sig .tc) := [main_cst_7, main_v18, main_c_8]
theorem hostOps1_2_writes : (hostOps1_2 : List (HloOp τ sig (Elt F))).Forall fun op => op.writes ⊆ (hostOps1_2_W.map (Proc.devRef (τ := τ) .tc)).toFinset :=
  StableHlo.forall_writes_sub_of_map rfl
/-- `hostOps1_2` writes none of the argument arrays (checked: each argument against each reference it writes). -/
theorem hostOps1_2_args : ∀ a ∈ argRefs, a ∉ hostOps1_2_W := ListAll.forall_mem_of_all_decide (by decide +kernel)

/-- No operation of `hostOps1_3` allocates a buffer. -/
theorem hostOps1_3_fresh : (hostOps1_3 : List (HloOp τ sig (Elt F))).Forall fun op => op.fresh = ∅ := by
  simp only [List.Forall]; repeat' constructor
/-- The reference each operation of `hostOps1_3` writes, in order. -/
abbrev hostOps1_3_W : List (Ref sig .tc) := [main_call1_v0, main_v19]
theorem hostOps1_3_writes : (hostOps1_3 : List (HloOp τ sig (Elt F))).Forall fun op => op.writes ⊆ (hostOps1_3_W.map (Proc.devRef (τ := τ) .tc)).toFinset :=
  StableHlo.forall_writes_sub_of_map rfl
/-- `hostOps1_3` writes none of the argument arrays (checked: each argument against each reference it writes). -/
theorem hostOps1_3_args : ∀ a ∈ argRefs, a ∉ hostOps1_3_W := ListAll.forall_mem_of_all_decide (by decide +kernel)

/-- No operation of `hostOps1_4` allocates a buffer. -/
theorem hostOps1_4_fresh : (hostOps1_4 : List (HloOp τ sig (Elt F))).Forall fun op => op.fresh = ∅ := by
  simp only [List.Forall]; repeat' constructor
/-- The reference each operation of `hostOps1_4` writes, in order. -/
abbrev hostOps1_4_W : List (Ref sig .tc) := [main_c_9, main_v20, main_c_10, main_c_11]
theorem hostOps1_4_writes : (hostOps1_4 : List (HloOp τ sig (Elt F))).Forall fun op => op.writes ⊆ (hostOps1_4_W.map (Proc.devRef (τ := τ) .tc)).toFinset :=
  StableHlo.forall_writes_sub_of_map rfl
/-- `hostOps1_4` writes none of the argument arrays (checked: each argument against each reference it writes). -/
theorem hostOps1_4_args : ∀ a ∈ argRefs, a ∉ hostOps1_4_W := ListAll.forall_mem_of_all_decide (by decide +kernel)

/-- No operation of `hostOps1_5` allocates a buffer. -/
theorem hostOps1_5_fresh : (hostOps1_5 : List (HloOp τ sig (Elt F))).Forall fun op => op.fresh = ∅ := by
  simp only [List.Forall]; repeat' constructor
/-- The reference each operation of `hostOps1_5` writes, in order. -/
abbrev hostOps1_5_W : List (Ref sig .tc) := [main_call2_v0, main_call2_v1, main_call2_v2, main_v21]
theorem hostOps1_5_writes : (hostOps1_5 : List (HloOp τ sig (Elt F))).Forall fun op => op.writes ⊆ (hostOps1_5_W.map (Proc.devRef (τ := τ) .tc)).toFinset :=
  StableHlo.forall_writes_sub_of_map rfl
/-- `hostOps1_5` writes none of the argument arrays (checked: each argument against each reference it writes). -/
theorem hostOps1_5_args : ∀ a ∈ argRefs, a ∉ hostOps1_5_W := ListAll.forall_mem_of_all_decide (by decide +kernel)

/-- No operation of `hostOps1_6` allocates a buffer. -/
theorem hostOps1_6_fresh : (hostOps1_6 : List (HloOp τ sig (Elt F))).Forall fun op => op.fresh = ∅ := by
  simp only [List.Forall]; repeat' constructor
/-- The reference each operation of `hostOps1_6` writes, in order. -/
abbrev hostOps1_6_W : List (Ref sig .tc) := [main_c_12, main_v22, main_v23, main_v24, main_c_13, main_v25, main_c_14, main_c_15]
theorem hostOps1_6_writes : (hostOps1_6 : List (HloOp τ sig (Elt F))).Forall fun op => op.writes ⊆ (hostOps1_6_W.map (Proc.devRef (τ := τ) .tc)).toFinset :=
  StableHlo.forall_writes_sub_of_map rfl
/-- `hostOps1_6` writes none of the argument arrays (checked: each argument against each reference it writes). -/
theorem hostOps1_6_args : ∀ a ∈ argRefs, a ∉ hostOps1_6_W := ListAll.forall_mem_of_all_decide (by decide +kernel)

/-- No operation of `hostOps1_7` allocates a buffer. -/
theorem hostOps1_7_fresh : (hostOps1_7 : List (HloOp τ sig (Elt F))).Forall fun op => op.fresh = ∅ := by
  simp only [List.Forall]; repeat' constructor
/-- The reference each operation of `hostOps1_7` writes, in order. -/
abbrev hostOps1_7_W : List (Ref sig .tc) := [main_call3_v0, main_call3_v1, main_call3_v2, main_v26]
theorem hostOps1_7_writes : (hostOps1_7 : List (HloOp τ sig (Elt F))).Forall fun op => op.writes ⊆ (hostOps1_7_W.map (Proc.devRef (τ := τ) .tc)).toFinset :=
  StableHlo.forall_writes_sub_of_map rfl
/-- `hostOps1_7` writes none of the argument arrays (checked: each argument against each reference it writes). -/
theorem hostOps1_7_args : ∀ a ∈ argRefs, a ∉ hostOps1_7_W := ListAll.forall_mem_of_all_decide (by decide +kernel)

/-- No operation of `hostOps1_8` allocates a buffer. -/
theorem hostOps1_8_fresh : (hostOps1_8 : List (HloOp τ sig (Elt F))).Forall fun op => op.fresh = ∅ := by
  simp only [List.Forall]; repeat' constructor
/-- The reference each operation of `hostOps1_8` writes, in order. -/
abbrev hostOps1_8_W : List (Ref sig .tc) := [main_c_16, main_v27, main_v28, main_v29]
theorem hostOps1_8_writes : (hostOps1_8 : List (HloOp τ sig (Elt F))).Forall fun op => op.writes ⊆ (hostOps1_8_W.map (Proc.devRef (τ := τ) .tc)).toFinset :=
  StableHlo.forall_writes_sub_of_map rfl
/-- `hostOps1_8` writes none of the argument arrays (checked: each argument against each reference it writes). -/
theorem hostOps1_8_args : ∀ a ∈ argRefs, a ∉ hostOps1_8_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v31, main_v32, main_v33, main_cst_17, main_v34]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch (region 0's entry). -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- The same read at the TensorCore's references (what region 0's proof data take). -/
abbrev V0 : (c : Dev nD) → (b : Ref sig .tc) → Buf (Elt F) ((c : Thread nD τ).loc b) := fun c b => W0 m ρ c b
/-- At region 0's exit: its arrays at what the pipeline leaves (the inputs as entered, each output's write-backs
    folded: `Dat.arrAt … N`), every other buffer as entered (Lib/Pipeline/FrameSuffix.lean `withArrays`). -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- A reference that is none of region 0's OUTPUT arrays keeps its entry contents across it: an input window's
    array is never written back (`Dat.arrAt_in`, `A_eq0`); any other buffer is left as is. -/
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W1_args (c : Dev nD) : ∀ a ∈ argRefs, W1 m ρ c (Proc.devRef .tc a) = m ((c : Thread nD τ).loc a) :=
  fun a ha => (W1_of m ρ c a (argsIn0 a ha)).trans (W0_args m ρ c a ha)
/-- The same read at the TensorCore's references (region 0's exit contents). -/
abbrev V1 : (c : Dev nD) → (b : Ref sig .tc) → Buf (Elt F) ((c : Thread nD τ).loc b) := fun c b => W1 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After `hostOps1`. -/
abbrev W2 : Dev nD → Valuation τ sig (Elt F) := fun c => StableHlo.after hostOps1 (W1 m ρ c)
/-- A reference `hostOps1` does not write keeps its contents across it. -/
theorem W2_of (c : Dev nD) (r : Ref sig .tc) (h : r ∉ hostOps1_W) : W2 m ρ c (Proc.devRef .tc r) = W1 m ρ c (Proc.devRef .tc r) :=
  StableHlo.after_of_writes_sub hostOps1 _ hostOps1_writes h
theorem W2_args (c : Dev nD) : ∀ a ∈ argRefs, W2 m ρ c (Proc.devRef .tc a) = m ((c : Thread nD τ).loc a) :=
  fun a ha => (W2_of m ρ c a (hostOps1_args a ha)).trans (W1_args m ρ c a ha)
/-- After `hostOps1_1`. -/
abbrev W3 : Dev nD → Valuation τ sig (Elt F) := fun c => StableHlo.after hostOps1_1 (W2 m ρ c)
/-- A reference `hostOps1_1` does not write keeps its contents across it. -/
theorem W3_of (c : Dev nD) (r : Ref sig .tc) (h : r ∉ hostOps1_1_W) : W3 m ρ c (Proc.devRef .tc r) = W2 m ρ c (Proc.devRef .tc r) :=
  StableHlo.after_of_writes_sub hostOps1_1 _ hostOps1_1_writes h
theorem W3_args (c : Dev nD) : ∀ a ∈ argRefs, W3 m ρ c (Proc.devRef .tc a) = m ((c : Thread nD τ).loc a) :=
  fun a ha => (W3_of m ρ c a (hostOps1_1_args a ha)).trans (W2_args m ρ c a ha)
/-- After `hostOps1_2`. -/
abbrev W4 : Dev nD → Valuation τ sig (Elt F) := fun c => StableHlo.after hostOps1_2 (W3 m ρ c)
/-- A reference `hostOps1_2` does not write keeps its contents across it. -/
theorem W4_of (c : Dev nD) (r : Ref sig .tc) (h : r ∉ hostOps1_2_W) : W4 m ρ c (Proc.devRef .tc r) = W3 m ρ c (Proc.devRef .tc r) :=
  StableHlo.after_of_writes_sub hostOps1_2 _ hostOps1_2_writes h
theorem W4_args (c : Dev nD) : ∀ a ∈ argRefs, W4 m ρ c (Proc.devRef .tc a) = m ((c : Thread nD τ).loc a) :=
  fun a ha => (W4_of m ρ c a (hostOps1_2_args a ha)).trans (W3_args m ρ c a ha)
/-- After `hostOps1_3`. -/
abbrev W5 : Dev nD → Valuation τ sig (Elt F) := fun c => StableHlo.after hostOps1_3 (W4 m ρ c)
/-- A reference `hostOps1_3` does not write keeps its contents across it. -/
theorem W5_of (c : Dev nD) (r : Ref sig .tc) (h : r ∉ hostOps1_3_W) : W5 m ρ c (Proc.devRef .tc r) = W4 m ρ c (Proc.devRef .tc r) :=
  StableHlo.after_of_writes_sub hostOps1_3 _ hostOps1_3_writes h
theorem W5_args (c : Dev nD) : ∀ a ∈ argRefs, W5 m ρ c (Proc.devRef .tc a) = m ((c : Thread nD τ).loc a) :=
  fun a ha => (W5_of m ρ c a (hostOps1_3_args a ha)).trans (W4_args m ρ c a ha)
/-- After `hostOps1_4`. -/
abbrev W6 : Dev nD → Valuation τ sig (Elt F) := fun c => StableHlo.after hostOps1_4 (W5 m ρ c)
/-- A reference `hostOps1_4` does not write keeps its contents across it. -/
theorem W6_of (c : Dev nD) (r : Ref sig .tc) (h : r ∉ hostOps1_4_W) : W6 m ρ c (Proc.devRef .tc r) = W5 m ρ c (Proc.devRef .tc r) :=
  StableHlo.after_of_writes_sub hostOps1_4 _ hostOps1_4_writes h
theorem W6_args (c : Dev nD) : ∀ a ∈ argRefs, W6 m ρ c (Proc.devRef .tc a) = m ((c : Thread nD τ).loc a) :=
  fun a ha => (W6_of m ρ c a (hostOps1_4_args a ha)).trans (W5_args m ρ c a ha)
/-- After `hostOps1_5`. -/
abbrev W7 : Dev nD → Valuation τ sig (Elt F) := fun c => StableHlo.after hostOps1_5 (W6 m ρ c)
/-- A reference `hostOps1_5` does not write keeps its contents across it. -/
theorem W7_of (c : Dev nD) (r : Ref sig .tc) (h : r ∉ hostOps1_5_W) : W7 m ρ c (Proc.devRef .tc r) = W6 m ρ c (Proc.devRef .tc r) :=
  StableHlo.after_of_writes_sub hostOps1_5 _ hostOps1_5_writes h
theorem W7_args (c : Dev nD) : ∀ a ∈ argRefs, W7 m ρ c (Proc.devRef .tc a) = m ((c : Thread nD τ).loc a) :=
  fun a ha => (W7_of m ρ c a (hostOps1_5_args a ha)).trans (W6_args m ρ c a ha)
/-- After `hostOps1_6`. -/
abbrev W8 : Dev nD → Valuation τ sig (Elt F) := fun c => StableHlo.after hostOps1_6 (W7 m ρ c)
/-- A reference `hostOps1_6` does not write keeps its contents across it. -/
theorem W8_of (c : Dev nD) (r : Ref sig .tc) (h : r ∉ hostOps1_6_W) : W8 m ρ c (Proc.devRef .tc r) = W7 m ρ c (Proc.devRef .tc r) :=
  StableHlo.after_of_writes_sub hostOps1_6 _ hostOps1_6_writes h
theorem W8_args (c : Dev nD) : ∀ a ∈ argRefs, W8 m ρ c (Proc.devRef .tc a) = m ((c : Thread nD τ).loc a) :=
  fun a ha => (W8_of m ρ c a (hostOps1_6_args a ha)).trans (W7_args m ρ c a ha)
/-- After `hostOps1_7`. -/
abbrev W9 : Dev nD → Valuation τ sig (Elt F) := fun c => StableHlo.after hostOps1_7 (W8 m ρ c)
/-- A reference `hostOps1_7` does not write keeps its contents across it. -/
theorem W9_of (c : Dev nD) (r : Ref sig .tc) (h : r ∉ hostOps1_7_W) : W9 m ρ c (Proc.devRef .tc r) = W8 m ρ c (Proc.devRef .tc r) :=
  StableHlo.after_of_writes_sub hostOps1_7 _ hostOps1_7_writes h
theorem W9_args (c : Dev nD) : ∀ a ∈ argRefs, W9 m ρ c (Proc.devRef .tc a) = m ((c : Thread nD τ).loc a) :=
  fun a ha => (W9_of m ρ c a (hostOps1_7_args a ha)).trans (W8_args m ρ c a ha)
/-- After `hostOps1_8` (region 1's entry). -/
abbrev W10 : Dev nD → Valuation τ sig (Elt F) := fun c => StableHlo.after hostOps1_8 (W9 m ρ c)
/-- A reference `hostOps1_8` does not write keeps its contents across it. -/
theorem W10_of (c : Dev nD) (r : Ref sig .tc) (h : r ∉ hostOps1_8_W) : W10 m ρ c (Proc.devRef .tc r) = W9 m ρ c (Proc.devRef .tc r) :=
  StableHlo.after_of_writes_sub hostOps1_8 _ hostOps1_8_writes h
theorem W10_args (c : Dev nD) : ∀ a ∈ argRefs, W10 m ρ c (Proc.devRef .tc a) = m ((c : Thread nD τ).loc a) :=
  fun a ha => (W10_of m ρ c a (hostOps1_8_args a ha)).trans (W9_args m ρ c a ha)
/-- The same read at the TensorCore's references (what region 1's proof data take). -/
abbrev V10 : (c : Dev nD) → (b : Ref sig .tc) → Buf (Elt F) ((c : Thread nD τ).loc b) := fun c b => W10 m ρ c b
/-- At region 1's exit: its arrays at what the pipeline leaves (the inputs as entered, each output's write-backs
    folded: `Dat.arrAt … N`), every other buffer as entered (Lib/Pipeline/FrameSuffix.lean `withArrays`). -/
def W11 (c : Dev nD) : Valuation τ sig (Elt F) :=
  Pipeline.withArrays spec1 c (W10 m ρ c) fun w => (dat1 (V10 m ρ) c).arrAt w cfg1.N
theorem W11_arr (c : Dev nD) (w : Fin cfg1.W) :
    W11 m ρ c (Proc.devRef .tc (Pipeline.arrRef spec1 w)) = (dat1 (V10 m ρ) c).arrAt w cfg1.N := by
  unfold W11; exact Pipeline.withArrays_arr spec1 launch1.win.arr_inj c _ _ w
theorem W11_of_ne (c : Dev nD) (b : Ref sig .tc) (hb : ∀ w, Pipeline.arrRef spec1 w ≠ b) :
    W11 m ρ c (Proc.devRef .tc b) = W10 m ρ c (Proc.devRef .tc b) := by
  unfold W11; exact Pipeline.withArrays_of_ne spec1 c _ _ b hb
/-- A reference that is none of region 1's OUTPUT arrays keeps its entry contents across it: an input window's
    array is never written back (`Dat.arrAt_in`, `A_eq1`); any other buffer is left as is. -/
theorem W11_of (c : Dev nD) (r : Ref sig .tc) (h : ∀ w : Fin cfg1.W, Pipeline.arrRef spec1 w = r → (cfg1.win w).isOut = false) :
    W11 m ρ c (Proc.devRef .tc r) = W10 m ρ c (Proc.devRef .tc r) := by
  by_cases hw : ∃ w : Fin cfg1.W, Pipeline.arrRef spec1 w = r
  · obtain ⟨w, rfl⟩ := hw
    exact (W11_arr m ρ c w).trans (((dat1 (V10 m ρ) c).arrAt_in w (h w rfl) _).trans (A_eq1 (V10 m ρ) c w))
  · exact W11_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W11_args (c : Dev nD) : ∀ a ∈ argRefs, W11 m ρ c (Proc.devRef .tc a) = m ((c : Thread nD τ).loc a) :=
  fun a ha => (W11_of m ρ c a (argsIn1 a ha)).trans (W10_args m ρ c a ha)
/-- The same read at the TensorCore's references (region 1's exit contents). -/
abbrev V11 : (c : Dev nD) → (b : Ref sig .tc) → Buf (Elt F) ((c : Thread nD τ).loc b) := fun c b => W11 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V10 m ρ) c).arrAt w cfg1.N = V11 m ρ c (Pipeline.arrRef spec1 w) :=
  (W11_arr m ρ c w).symm
theorem hrest1 (c : Dev nD) : ∀ b, b ∉ Finset.univ.image (Pipeline.arrRef spec1) → V11 m ρ c b = V10 m ρ c b :=
  fun b hb => W11_of_ne m ρ c b fun w e => hb (Finset.mem_image.mpr ⟨w, Finset.mem_univ _, e⟩)

/-- After `hostOps2`. -/
abbrev W12 : Dev nD → Valuation τ sig (Elt F) := fun c => StableHlo.after hostOps2 (W11 m ρ c)
/-- A reference `hostOps2` does not write keeps its contents across it. -/
theorem W12_of (c : Dev nD) (r : Ref sig .tc) (h : r ∉ hostOps2_W) : W12 m ρ c (Proc.devRef .tc r) = W11 m ρ c (Proc.devRef .tc r) :=
  StableHlo.after_of_writes_sub hostOps2 _ hostOps2_writes h
theorem W12_args (c : Dev nD) : ∀ a ∈ argRefs, W12 m ρ c (Proc.devRef .tc a) = m ((c : Thread nD τ).loc a) :=
  fun a ha => (W12_of m ρ c a (hostOps2_args a ha)).trans (W11_args m ρ c a ha)

/-! ### The arguments end as launched: no host stretch writes one and no region may change one (a region reads it
    through an input window or bypasses it) -/

theorem W12_main_arg0 (c : Dev nD) : W12 m ρ c (Proc.devRef .tc main_arg0) = m ((c : Thread nD τ).loc main_arg0) :=
  W12_args m ρ c main_arg0 (by decide)
theorem W12_main_arg1 (c : Dev nD) : W12 m ρ c (Proc.devRef .tc main_arg1) = m ((c : Thread nD τ).loc main_arg1) :=
  W12_args m ρ c main_arg1 (by decide)
theorem W12_main_arg2 (c : Dev nD) : W12 m ρ c (Proc.devRef .tc main_arg2) = m ((c : Thread nD τ).loc main_arg2) :=
  W12_args m ρ c main_arg2 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V10 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W12`, the generator register at some state. -/
abbrev Tₙ (c : Dev nD) : sProp 𝕄 := iprop(StableHlo.held (c : Thread nD τ) (Pipeline.ucRefs τ sig) (W12 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W0`, left at `W1`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W10`, left at `W11`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V10 m ρ) c).loose
  hwaits := Pipeline.hwaits_of_owed_zero _ _ _ _ L lv 1 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec1 c (V10 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V10 m ρ c) (A_eq1 (V10 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V10 m ρ) c).Φ 0 from rfl]
    refine BIBase.Entails.trans ?_ (hin (V10 m ρ) c)
    iintro ⟨Hp, -, Hr⟩
    unfold Pipeline.ΦA
    isplitl [Hr]; · iexact Hr
    iexact Hp
  hout c := by
    rw [Pipeline.ownSems0_none, show (pdats m ρ 1 c).Φ (Fin.last _) = (dat1 (V10 m ρ) c).Φ (Fin.last cfg1.N) from rfl]
    refine BIBase.Entails.trans (hout (V10 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V10 m ρ c) (V11 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 12 segments in order: a host segment per stretch from its boundary's contents, a region per pallas_call. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .host (hseg hostOps1_1 hostOps1_1_sub hostOps1_1_fresh (W2 m ρ)),
    .host (hseg hostOps1_2 hostOps1_2_sub hostOps1_2_fresh (W3 m ρ)),
    .host (hseg hostOps1_3 hostOps1_3_sub hostOps1_3_fresh (W4 m ρ)),
    .host (hseg hostOps1_4 hostOps1_4_sub hostOps1_4_fresh (W5 m ρ)),
    .host (hseg hostOps1_5 hostOps1_5_sub hostOps1_5_fresh (W6 m ρ)),
    .host (hseg hostOps1_6 hostOps1_6_sub hostOps1_6_fresh (W7 m ρ)),
    .host (hseg hostOps1_7 hostOps1_7_sub hostOps1_7_fresh (W8 m ρ)),
    .host (hseg hostOps1_8 hostOps1_8_sub hostOps1_8_fresh (W9 m ρ)),
    .region (reg1 m ρ),
    .host (hseg hostOps2 hostOps2_sub hostOps2_fresh (W11 m ρ)) ]
/-- @main IS the run of the segments: `main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: from any memory with zero counters every execution of the program terminates, nothing faulting, and every final
    state has each unscoped buffer at the last boundary's contents and every counter at zero. -/
theorem run : θ_run defs (onTc (τ := τ) (main (F := F))) ⟨m, fun _ => 0, ρ⟩ (fun r => (∀ c : Dev nD,
      ∀ b ∈ Pipeline.ucRefs τ sig, r.2.mem ((c.tc : Thread nD τ).1, b) = W12 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h hz => ⟨h, funext fun g => hz g (.inr (no_unscoped g.2))⟩)

/-- THE FRAME: every argument array ends as launched, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
      ⟨(h.1 c _ (mem_uc main_arg0 (by decide))).trans (W12_main_arg0 m ρ c),
       (h.1 c _ (mem_uc main_arg1 (by decide))).trans (W12_main_arg1 m ρ c),
       (h.1 c _ (mem_uc main_arg2 (by decide))).trans (W12_main_arg2 m ρ c)⟩, h.2⟩) (run m ρ)

end Cert.KernelIdeal.Whole

end
-- ==== Proof.Value.HostValue.lean ====
/- The host operations between the two calls: the power of two that scales the codes, and its inverse. -/
module

public import proofs.«01_k».proof.Proof.KernelIdealRun.Main

@[expose] public section

set_option maxRecDepth 16384

noncomputable section

namespace Cert.KernelIdeal.Whole

open Cert.KernelIdeal.Gen
open Idealize.ShloMosaic Idealize.ShloMosaic.TcCoe Idealize.ShloMosaic.Tactic Idealize.ShloMosaic.StableHlo

variable {F : FTy → Type} [FloatOps F]

/-- The greatest magnitude, of the first call's maxima. -/
def amaxV (x : Vec F S8x192 .f32) : Vec F S_ .f32 :=
  Host.reduce FloatOps.maximumf x (constant S_ .f32 0xFF800000#32) reducesTo_S8x192_S_d0_1 h_S_
/-- The greatest magnitude over the greatest code. -/
def ratioV (a : Vec F S_ .f32) : Vec F S_ .f32 := mulf a (constant S_ .f32 0x37924925#32)
/-- f32's normal powers of two. -/
def powersV : Vec F S254 .f32 :=
  bitcastToFloat .f32 (Host.shli (addi (broadcastInDim S254 ![] bcast_S_S254 (constantI S_ 32 1#32)) (iotaInDim S254 32 0)) (broadcastInDim S254 ![] bcast_S_S254 (constantI S_ 32 23#32)))
/-- How many of them are at most the ratio: the ratio's exponent field. -/
def cntV (a : Vec F S_ .f32) : Vec F S_ .i32 :=
  Host.reduce IntOp.addi (extui 32 (cmpf .oge (broadcastInDim S254 ![] bcast_S_S254 (ratioV a)) powersV) natLt_1_32) (constantI S_ 32 0#32) reducesTo_S254_S_d0 h_S_
/-- Whether the ratio is a normal number. -/
def liveV (a : Vec F S_ .f32) : Vec F S_ .i1 :=
  andi (cmpi .sgt (cntV a) (constantI S_ 32 0#32)) (cmpf .olt (ratioV a) (constant S_ .f32 0x7F800000#32))
/-- The exponent of the scale. -/
def expV (a : Vec F S_ .f32) : Vec F S_ .i32 :=
  select (cmpf .oeq a (constant S_ .f32 0x00000000#32)) (id (constantI S_ 32 0#32))
    (select (liveV a) (subi (cntV a) (constantI S_ 32 126#32)) (id (constantI S_ 32 0#32)))
/-- The number of a given exponent field, the field clipped to what a field can hold. -/
def powV (e : Vec F S_ .i32) : Vec F S_ .f32 :=
  bitcastToFloat .f32 (Host.shli (minsi (id (constantI S_ 32 255#32)) (maxsi (id (constantI S_ 32 0#32)) e)) (constantI S_ 32 23#32))
/-- The scale of the codes -/
def scaleV (a : Vec F S_ .f32) : Vec F S_ .f32 := powV (addi (expV a) (constantI S_ 32 127#32))
/-- and the factor the gradient is multiplied by. -/
def invV (a : Vec F S_ .f32) : Vec F S_ .f32 := powV (addi (negi (expV a)) (constantI S_ 32 127#32))

variable (m : (ℓ : Loc nD τ sig) → Buf (Elt F) ℓ) (ρ : Dev nD → PrngReg)

/-- The greatest magnitude as the program computes it. -/
abbrev amaxK (c : Dev nD) : Vec F S_ .f32 := amaxV ((dat0 (V0 m ρ) c).arrAt 1 cfg0.N)

set_option maxHeartbeats 2000000

theorem W1_v0_0 (c : Dev nD) : W1 m ρ c (Proc.devRef .tc main_v0_0) = (dat0 (V0 m ρ) c).arrAt 1 cfg0.N := W1_arr m ρ c 1
theorem W1_v0_1 (c : Dev nD) : W1 m ρ c (Proc.devRef .tc main_v0_1) = (dat0 (V0 m ρ) c).arrAt 2 cfg0.N := W1_arr m ρ c 2

theorem W2_v1 (c : Dev nD) : W2 m ρ c (Proc.devRef .tc main_v1) = amaxK m ρ c := by
  have h : ∀ X : Valuation τ sig (Elt F), after hostOps1 X (Proc.devRef .tc main_v1) = amaxV (X (Proc.devRef .tc main_v0_0)) := fun X => by
    simp only [Gen.hostOps1]; after_results_simp <;> rfl
  exact (h _).trans (congrArg amaxV (W1_v0_0 m ρ c))

theorem W2_v15 (c : Dev nD) : W2 m ρ c (Proc.devRef .tc main_v15) = liveV (amaxK m ρ c) := by
  have h : ∀ X : Valuation τ sig (Elt F), after hostOps1 X (Proc.devRef .tc main_v15) = liveV (amaxV (X (Proc.devRef .tc main_v0_0))) := fun X => by
    simp only [Gen.hostOps1]; after_results_simp <;> rfl
  exact (h _).trans (congrArg (fun z => liveV (amaxV z)) (W1_v0_0 m ρ c))

theorem W2_v16 (c : Dev nD) : W2 m ρ c (Proc.devRef .tc main_v16) = subi (cntV (amaxK m ρ c)) (constantI S_ 32 126#32) := by
  have h : ∀ X : Valuation τ sig (Elt F), after hostOps1 X (Proc.devRef .tc main_v16) = subi (cntV (amaxV (X (Proc.devRef .tc main_v0_0)))) (constantI S_ 32 126#32) := fun X => by
    simp only [Gen.hostOps1]; after_results_simp <;> rfl
  exact (h _).trans (congrArg (fun z => subi (cntV (amaxV z)) (constantI S_ 32 126#32)) (W1_v0_0 m ρ c))

theorem W2_c6 (c : Dev nD) : W2 m ρ c (Proc.devRef .tc main_c_6) = constantI S_ 32 0#32 := by
  have h : ∀ X : Valuation τ sig (Elt F), after hostOps1 X (Proc.devRef .tc main_c_6) = constantI S_ 32 0#32 := fun X => by
    simp only [Gen.hostOps1]; after_results_simp <;> rfl
  exact h _

theorem W3_v17 (c : Dev nD) : W3 m ρ c (Proc.devRef .tc main_v17) = select (liveV (amaxK m ρ c)) (subi (cntV (amaxK m ρ c)) (constantI S_ 32 126#32)) (id (constantI S_ 32 0#32)) := by
  have h : ∀ X : Valuation τ sig (Elt F), after hostOps1_1 X (Proc.devRef .tc main_v17) = select (X (Proc.devRef .tc main_v15)) (X (Proc.devRef .tc main_v16)) (id (X (Proc.devRef .tc main_c_6))) := fun X => by
    simp only [Gen.hostOps1_1, TRef.ternary, TRef.unary, TRef.toBuf, TRef.ofBuf, cast_eq]; after_results_simp <;> rfl
  refine (h _).trans ?_
  rw [W2_v15, W2_v16, W2_c6]

theorem W5_v19 (c : Dev nD) : W5 m ρ c (Proc.devRef .tc main_v19) = expV (amaxK m ρ c) := by
  have h : ∀ X : Valuation τ sig (Elt F), after hostOps1_3 (after hostOps1_2 X) (Proc.devRef .tc main_v19) = select (cmpf .oeq (X (Proc.devRef .tc main_v1)) (constant S_ .f32 0x00000000#32)) (id (constantI S_ 32 0#32)) (X (Proc.devRef .tc main_v17)) := fun X => by
    simp only [Gen.hostOps1_2, Gen.hostOps1_3, TRef.ternary, TRef.unary, TRef.toBuf, TRef.ofBuf, cast_eq]; after_results_simp <;> rfl
  refine (h _).trans ?_
  rw [W3_v17, W3_of m ρ c main_v1 (by decide), W2_v1]
  rfl

theorem W8_v23 (c : Dev nD) : W8 m ρ c (Proc.devRef .tc main_v23) = scaleV (amaxK m ρ c) := by
  have h : ∀ X : Valuation τ sig (Elt F), after hostOps1_6 (after hostOps1_5 (after hostOps1_4 X)) (Proc.devRef .tc main_v23) = powV (addi (X (Proc.devRef .tc main_v19)) (constantI S_ 32 127#32)) := fun X => by
    simp only [Gen.hostOps1_4, Gen.hostOps1_5, Gen.hostOps1_6, TRef.binary, TRef.ternary, TRef.unary, TRef.toBuf, TRef.ofBuf, cast_eq]; after_results_simp <;> rfl
  refine (h _).trans ?_
  rw [W5_v19]
  rfl

theorem W8_v25 (c : Dev nD) : W8 m ρ c (Proc.devRef .tc main_v25) = addi (negi (expV (amaxK m ρ c))) (constantI S_ 32 127#32) := by
  have h : ∀ X : Valuation τ sig (Elt F), after hostOps1_6 (after hostOps1_5 (after hostOps1_4 X)) (Proc.devRef .tc main_v25) = addi (negi (X (Proc.devRef .tc main_v19))) (constantI S_ 32 127#32) := fun X => by
    simp only [Gen.hostOps1_4, Gen.hostOps1_5, Gen.hostOps1_6, TRef.binary, TRef.ternary, TRef.unary, TRef.toBuf, TRef.ofBuf, cast_eq]; after_results_simp <;> rfl
  refine (h _).trans ?_
  rw [W5_v19]

theorem W8_c14 (c : Dev nD) : W8 m ρ c (Proc.devRef .tc main_c_14) = constantI S_ 32 0#32 := by
  have h : ∀ X : Valuation τ sig (Elt F), after hostOps1_6 X (Proc.devRef .tc main_c_14) = constantI S_ 32 0#32 := fun X => by
    simp only [Gen.hostOps1_6]; after_results_simp <;> rfl
  exact h _
theorem W8_c15 (c : Dev nD) : W8 m ρ c (Proc.devRef .tc main_c_15) = constantI S_ 32 255#32 := by
  have h : ∀ X : Valuation τ sig (Elt F), after hostOps1_6 X (Proc.devRef .tc main_c_15) = constantI S_ 32 255#32 := fun X => by
    simp only [Gen.hostOps1_6]; after_results_simp <;> rfl
  exact h _

theorem W10_v23 (c : Dev nD) : W10 m ρ c (Proc.devRef .tc main_v23) = scaleV (amaxK m ρ c) :=
  (W10_of m ρ c main_v23 (by decide)).trans ((W9_of m ρ c main_v23 (by decide)).trans (W8_v23 m ρ c))

theorem W10_v29 (c : Dev nD) : W10 m ρ c (Proc.devRef .tc main_v29) = shapeCast S1 (invV (amaxK m ρ c)) shapeCasts_S_S1 := by
  have h : ∀ X : Valuation τ sig (Elt F), after hostOps1_8 (after hostOps1_7 X) (Proc.devRef .tc main_v29)
      = shapeCast S1 (bitcastToFloat .f32 (Host.shli (minsi (id (X (Proc.devRef .tc main_c_15))) (maxsi (id (X (Proc.devRef .tc main_c_14))) (X (Proc.devRef .tc main_v25)))) (constantI S_ 32 23#32))) shapeCasts_S_S1 := fun X => by
    simp only [Gen.hostOps1_7, Gen.hostOps1_8, TRef.binary, TRef.ternary, TRef.unary, TRef.toBuf, TRef.ofBuf, cast_eq]; after_results_simp <;> rfl
  refine (h _).trans ?_
  rw [W8_v25, W8_c14, W8_c15]
  rfl

/-! ## The results -/

/-- The second call's outputs. -/
abbrev dwK (c : Dev nD) : Vec F S3x3x96x192 .f32 := (dat1 (V10 m ρ) c).arrAt 3 cfg1.N
abbrev codeK (c : Dev nD) : Vec F S12x160x128x192 .fp8e5m2 := (dat1 (V10 m ρ) c).arrAt 4 cfg1.N

theorem W11_v23 (c : Dev nD) : W11 m ρ c (Proc.devRef .tc main_v23) = scaleV (amaxK m ρ c) :=
  (W11_of_ne m ρ c main_v23 (by decide)).trans (W10_v23 m ρ c)
theorem W12_v23 (c : Dev nD) : W12 m ρ c (Proc.devRef .tc main_v23) = scaleV (amaxK m ρ c) :=
  (W12_of m ρ c main_v23 (by decide)).trans (W11_v23 m ρ c)

theorem W12_v30_1 (c : Dev nD) : W12 m ρ c (Proc.devRef .tc main_v30_1) = codeK m ρ c :=
  (W12_of m ρ c main_v30_1 (by decide)).trans (W11_arr m ρ c 4)

theorem W12_v33 (c : Dev nD) : W12 m ρ c (Proc.devRef .tc main_v33)
    = mulf (dwK m ρ c) (broadcastInDim S3x3x96x192 ![] bcast_S_S3x3x96x192 (mulf (m ((c.tc : Thread nD τ).loc main_arg1)) (scaleV (amaxK m ρ c)))) := by
  have h : ∀ X : Valuation τ sig (Elt F), after hostOps2 X (Proc.devRef .tc main_v33)
      = mulf (X (Proc.devRef .tc main_v30_0)) (broadcastInDim S3x3x96x192 ![] bcast_S_S3x3x96x192 (mulf (X (Proc.devRef .tc main_arg1)) (X (Proc.devRef .tc main_v23)))) := fun X => by
    simp only [Gen.hostOps2]; after_results_simp <;> rfl
  refine (h _).trans ?_
  rw [W11_v23, W11_args m ρ c main_arg1 (by decide), show W11 m ρ c (Proc.devRef .tc main_v30_0) = dwK m ρ c from W11_arr m ρ c 3]

theorem W11_v0_1 (c : Dev nD) : W11 m ρ c (Proc.devRef .tc main_v0_1) = (dat0 (V0 m ρ) c).arrAt 2 cfg0.N := by
  rw [W11_of_ne m ρ c main_v0_1 (by decide), W10_of m ρ c main_v0_1 (by decide), W9_of m ρ c main_v0_1 (by decide), W8_of m ρ c main_v0_1 (by decide),
    W7_of m ρ c main_v0_1 (by decide), W6_of m ρ c main_v0_1 (by decide), W5_of m ρ c main_v0_1 (by decide), W4_of m ρ c main_v0_1 (by decide),
    W3_of m ρ c main_v0_1 (by decide), W2_of m ρ c main_v0_1 (by decide), W1_v0_1]

theorem W12_v34 (c : Dev nD) : W12 m ρ c (Proc.devRef .tc main_v34)
    = Host.reduceAdd ((dat0 (V0 m ρ) c).arrAt 2 cfg0.N) (constant S_ .f32 0x00000000#32) reducesTo_S8x192_S192_d0 h_S_ := by
  have h : ∀ X : Valuation τ sig (Elt F), after hostOps2 X (Proc.devRef .tc main_v34)
      = Host.reduceAdd (X (Proc.devRef .tc main_v0_1)) (constant S_ .f32 0x00000000#32) reducesTo_S8x192_S192_d0 h_S_ := fun X => by
    simp only [Gen.hostOps2]; after_results_simp <;> rfl
  refine (h _).trans ?_
  rw [W11_v0_1]

end Cert.KernelIdeal.Whole

end
-- ==== Proof.Value.ScaleMath.lean ====
/- The arithmetic of the scale: f32's powers of two over the reals, how many of them are at most a number, and the power just
   above the number and its inverse found by counting and found by searching. -/
module

public import Idealize.ShloMosaic.Lib.Pointwise

@[expose] public section

noncomputable section

namespace Cert.Scale

open Idealize.ShloMosaic

/-- The f32 number of exponent field `k` and no mantissa. -/
def T (k : ℕ) : EReal := Ideal.ofBits .f32 (BitVec.ofNat 32 k <<< 23)

theorem T_zero : T 0 = 0 := by simp [T, Ideal.ofBits, Ideal.ieee]
theorem T_top : T 255 = ⊤ := by simp [T, Ideal.ofBits, Ideal.ieee]

/-- The fields of such a number's bits. -/
theorem T_bits : ∀ k : Fin 256, (BitVec.extractLsb' (8 + 23) 1 (BitVec.ofNat 32 k.val <<< 23) == 1#1) = false
    ∧ (BitVec.extractLsb' 23 8 (BitVec.ofNat 32 k.val <<< 23)).toNat = k.val ∧ (BitVec.extractLsb' 0 23 (BitVec.ofNat 32 k.val <<< 23)).toNat = 0 := by
  decide +kernel

/-- A normal field's number. -/
theorem T_eq (k : ℕ) (h1 : 1 ≤ k) (h2 : k ≤ 254) : T k = (((2 : ℝ) ^ ((k : ℤ) - 127) : ℝ) : EReal) := by
  obtain ⟨hs, he, hf⟩ := T_bits ⟨k, by omega⟩
  show Ideal.ieee 8 23 (BitVec.ofNat 32 k <<< 23) = _
  unfold Ideal.ieee
  simp only at hs he hf
  simp only [hs, he, hf]
  rw [if_neg (by omega), if_neg (by omega)]
  refine congrArg _ ?_
  have h : (((2 ^ 23 + 0 : ℕ)) : ℝ) = (2 : ℝ) ^ (23 : ℤ) := by norm_num
  rw [h, if_neg (by decide), one_mul, ← zpow_add₀ (by norm_num : (2 : ℝ) ≠ 0)]
  exact congrArg (fun z : ℤ => (2 : ℝ) ^ z) (by norm_num)

theorem T_127 : T 127 = 1 := by
  refine (T_eq 127 (by omega) (by omega)).trans ?_
  norm_num

theorem T_lt {j k : ℕ} (hj : 1 ≤ j) (hk : k ≤ 255) (h : j < k) : T j < T k := by
  rcases Nat.lt_or_ge k 255 with hk' | hk'
  · rw [T_eq j hj (by omega), T_eq k (by omega) (by omega)]
    exact EReal.coe_lt_coe_iff.mpr (zpow_lt_zpow_right₀ (by norm_num : (1 : ℝ) < 2) (by omega))
  · obtain rfl : k = 255 := by omega
    rw [T_top, T_eq j hj (by omega)]; exact EReal.coe_lt_top _

theorem T_le {j k : ℕ} (hj : 1 ≤ j) (hk : k ≤ 255) (h : j ≤ k) : T j ≤ T k := by
  rcases h.lt_or_eq with h | rfl
  · exact (T_lt hj hk h).le
  · exact le_rfl

theorem T_pos {j : ℕ} (hj : 1 ≤ j) (hk : j ≤ 255) : 0 < T j := by
  rcases Nat.lt_or_ge j 255 with hk' | hk'
  · rw [T_eq j hj (by omega)]; exact_mod_cast (by positivity : (0 : ℝ) < (2 : ℝ) ^ ((j : ℤ) - 127))
  · obtain rfl : j = 255 := by omega
    rw [T_top]; exact EReal.coe_lt_top 0

/-- A decidable set of numbers below `N` that holds every number below one of its own is an initial segment. -/
theorem exists_cut (p : ℕ → Prop) (N : ℕ) (hp : ∀ i j, i ≤ j → j < N → p j → p i) : ∃ n ≤ N, ∀ k < N, p k ↔ k < n := by
  classical
  induction N with
  | zero => exact ⟨0, le_rfl, fun k hk => by omega⟩
  | succ N ih =>
    obtain ⟨n, hn, h⟩ := ih fun i j hij hj => hp i j hij (by omega)
    by_cases hN : p N
    · exact ⟨N + 1, le_rfl, fun k hk => ⟨fun _ => hk, fun _ => hp k N (by omega) (by omega) hN⟩⟩
    · refine ⟨n, by omega, fun k hk => ?_⟩
      rcases Nat.lt_or_ge k N with hk' | hk'
      · exact h k hk'
      · obtain rfl : k = N := by omega
        exact ⟨fun h => absurd h hN, fun h => by omega⟩

/-- How many normal powers of two are at most `x`. -/
def cnt (x : EReal) : ℕ := ∑ k : Fin 254, if T (k.val + 1) ≤ x then 1 else 0

theorem cnt_spec (x : EReal) : cnt x ≤ 254 ∧ ∀ j, 1 ≤ j → j ≤ 254 → (T j ≤ x ↔ j ≤ cnt x) := by
  obtain ⟨n, hn, h⟩ := exists_cut (fun k => T (k + 1) ≤ x) 254 fun i j hij hj hx => (T_le (by omega) (by omega) (by omega)).trans hx
  have hc : cnt x = n := by
    unfold cnt
    rw [← Finset.sum_range (f := fun k => if T (k + 1) ≤ x then 1 else 0)]
    rw [Finset.sum_congr rfl (g := fun k => if k < n then 1 else 0) fun k hk => by
      simp only [h k (Finset.mem_range.mp hk)]]
    rw [Finset.sum_ite, Finset.sum_const_zero, add_zero, Finset.sum_const, smul_eq_mul, mul_one,
      show (Finset.range 254).filter (· < n) = Finset.range n from by ext k; simp only [Finset.mem_filter, Finset.mem_range]; omega,
      Finset.card_range]
  rw [hc]
  refine ⟨hn, fun j h1 h2 => ?_⟩
  have := h (j - 1) (by omega)
  rw [show j - 1 + 1 = j from by omega] at this
  rw [this]; omega

/-- Whether `x` is a normal number. -/
def Live (x : EReal) : Prop := T 1 ≤ x ∧ x < ⊤
instance (x : EReal) : Decidable (Live x) := Classical.dec _

/-- The least power of two above `x`, -/
def up (x : EReal) : EReal := if Live x then T (cnt x + 1) else T 127
/-- and the greatest whose product with `x` is below one. -/
def down (x : EReal) : EReal := if Live x then T (253 - cnt x) else T 127

/-- Searching the powers for the least above `x`. -/
theorem search_up (x : EReal) : (Finset.univ : Finset (Fin 254)).fold min ⊤ (fun k => if x < T (k.val + 1) then T (k.val + 1) else ⊤) = T (cnt x + 1) := by
  obtain ⟨hc, hs⟩ := cnt_spec x
  apply le_antisymm
  · rw [Finset.fold_min_le]
    rcases Nat.lt_or_ge (cnt x) 254 with h | h
    · refine Or.inr ⟨⟨cnt x, h⟩, Finset.mem_univ _, ?_⟩
      rw [if_pos (lt_of_not_ge fun hle => by have := (hs (cnt x + 1) (by omega) (by omega)).mp hle; omega)]
    · left; rw [show cnt x = 254 from by omega, T_top]
  · rw [Finset.le_fold_min]
    refine ⟨le_top, fun k _ => ?_⟩
    by_cases hx : x < T (k.val + 1)
    · rw [if_pos hx]
      refine T_le (by omega) (by omega) ?_
      have := (hs (k.val + 1) (by omega) (by omega)).not.mp (not_le.mpr hx)
      omega
    · rw [if_neg hx]; exact le_top

/-- A power's product with a normal number is below one exactly up to the inverse's field. -/
theorem mul_lt_one {x : EReal} (hx : Live x) (j : ℕ) (h1 : 1 ≤ j) (h2 : j ≤ 254) : T j * x < 1 ↔ j ≤ 253 - cnt x := by
  obtain ⟨hc, hs⟩ := cnt_spec x
  have hn : 1 ≤ cnt x := (hs 1 le_rfl (by omega)).mp hx.1
  have hlo : T (cnt x) ≤ x := (hs _ hn hc).mpr le_rfl
  obtain ⟨r, rfl⟩ : ∃ r : ℝ, x = r := ⟨x.toReal, (EReal.coe_toReal hx.2.ne ((EReal.bot_lt_coe 0).trans ((T_pos le_rfl (by omega)).trans_le hx.1)).ne').symm⟩
  rw [T_eq _ hn hc, EReal.coe_le_coe_iff] at hlo
  rw [T_eq j h1 h2, ← EReal.coe_mul, show (1 : EReal) = ((1 : ℝ) : EReal) from rfl, EReal.coe_lt_coe_iff]
  have hp : (0 : ℝ) < (2 : ℝ) ^ ((j : ℤ) - 127) := by positivity
  constructor
  · intro h
    by_contra hj
    have hm : (2 : ℝ) ^ ((j : ℤ) - 127) * (2 : ℝ) ^ (((cnt (r : EReal) : ℕ) : ℤ) - 127) < 1 := lt_of_le_of_lt (mul_le_mul_of_nonneg_left hlo hp.le) h
    rw [← zpow_add₀ (by norm_num : (2 : ℝ) ≠ 0)] at hm
    exact absurd hm (not_lt.mpr (one_le_zpow₀ (by norm_num) (by omega)))
  · intro hj
    have hlt : (r : EReal) < T (cnt (r : EReal) + 1) := lt_of_not_ge fun hle => by have := (hs _ (by omega) (by omega)).mp hle; omega
    rw [T_eq _ (by omega) (by omega), EReal.coe_lt_coe_iff] at hlt
    refine lt_of_lt_of_le (mul_lt_mul_of_pos_left hlt hp) ?_
    rw [← zpow_add₀ (by norm_num : (2 : ℝ) ≠ 0)]
    exact zpow_le_one_of_nonpos₀ (by norm_num) (by push_cast; omega)

/-- Searching the powers for the greatest whose product with a normal number is below one. -/
theorem search_down {x : EReal} (hx : Live x) : (Finset.univ : Finset (Fin 254)).fold max ⊥ (fun k => if T (k.val + 1) * x < 1 then T (k.val + 1) else 0) = T (253 - cnt x) := by
  obtain ⟨hc, hs⟩ := cnt_spec x
  have hn : 1 ≤ cnt x := (hs 1 le_rfl (by omega)).mp hx.1
  have h0 : 0 ≤ T (253 - cnt x) := by
    rcases Nat.eq_zero_or_pos (253 - cnt x) with h | h
    · rw [h, T_zero]
    · exact (T_pos h (by omega)).le
  apply le_antisymm
  · rw [Finset.fold_max_le]
    refine ⟨bot_le, fun k _ => ?_⟩
    by_cases h : T (k.val + 1) * x < 1
    · rw [if_pos h]
      exact T_le (by omega) (by omega) ((mul_lt_one hx _ (by omega) (by omega)).mp h)
    · rw [if_neg h]; exact h0
  · rw [Finset.le_fold_max]
    right
    rcases Nat.eq_zero_or_pos (253 - cnt x) with h | h
    · refine ⟨⟨0, by omega⟩, Finset.mem_univ _, ?_⟩
      rw [if_neg (fun hlt => by have := (mul_lt_one hx _ (by omega) (by omega)).mp hlt; omega), h, T_zero]
    · refine ⟨⟨253 - cnt x - 1, by omega⟩, Finset.mem_univ _, ?_⟩
      have hk : 253 - cnt x - 1 + 1 = 253 - cnt x := by omega
      simp only [hk]
      rw [if_pos ((mul_lt_one hx _ (by omega) (by omega)).mpr le_rfl)]

end Cert.Scale

end
-- ==== Proof.Value.ScaleKernel.lean ====
/- The kernel's scale and factor over the reals: the power of two just above the ratio, and the greatest whose product with the
   ratio is below one. -/
module

public import proofs.«01_k».proof.Proof.Value.HostValue
public import proofs.«01_k».proof.Proof.Value.ScaleMath

@[expose] public section

set_option maxRecDepth 16384

noncomputable section

namespace Cert.KernelIdeal.Whole

open Cert.KernelIdeal.Gen Cert.Scale
open Idealize.ShloMosaic Idealize.ShloMosaic.TcCoe Idealize.ShloMosaic.Tactic Idealize.ShloMosaic.StableHlo

/-- The ratio of a greatest magnitude to the greatest code. -/
abbrev ratio (a : EReal) : EReal := a * Ideal.ofBits .f32 0x37924925#32

/-- A sum of words that are small numbers is the word of the sum. -/
theorem fold_addi {ι : Type*} [DecidableEq ι] (s : Finset ι) (g : ι → ℕ) :
    s.fold IntOp.addi (0#32) (fun k => BitVec.ofNat 32 (g k)) = BitVec.ofNat 32 (∑ k ∈ s, g k) := by
  induction s using Finset.induction_on with
  | empty => rfl
  | insert a s ha ih =>
    rw [Finset.fold_insert ha, ih, Finset.sum_insert ha, BitVec.ofNat_add]
    rfl

theorem power_bits : ∀ k : Fin 254, IntOp.shli ArithUnit.host (IntOp.addi 1#32 (BitVec.ofNat 32 k.val)) 23#32 = BitVec.ofNat 32 (k.val + 1) <<< 23 := by
  decide +kernel

theorem bit_of (p : Prop) [Decidable p] : BitVec.setWidth 32 (BitVec.ofBool (decide p)) = BitVec.ofNat 32 (if p then 1 else 0) := by
  by_cases h : p
  · rw [if_pos h, decide_eq_true h]; rfl
  · rw [if_neg h, decide_eq_false h]; rfl

theorem cntV_at (a : Vec Ideal S_ .f32) : cntV (F := Ideal) a ix0 = BitVec.ofNat 32 (cnt (ratio (a ix0))) := by
  unfold cntV powersV ratioV cnt
  pointwise
  refine Eq.trans (congrArg (fun f : Fin 254 → BitVec 32 => Finset.fold IntOp.addi (0#32) f Finset.univ) (funext fun k => ?_)) (fold_addi Finset.univ fun k : Fin 254 => if Cert.Scale.T (k.val + 1) ≤ ratio (a ix0) then 1 else 0)
  refine (congrArg (fun b : BitVec 32 => BitVec.setWidth 32 (BitVec.ofBool (decide (Ideal.ofBits .f32 b ≤ ratio (a ix0))))) (power_bits k)).trans ?_
  exact bit_of (Cert.Scale.T (k.val + 1) ≤ ratio (a ix0))

theorem cnt_sgt : ∀ n : Fin 255, IntOp.cmpi CmpIPredicate.sgt (BitVec.ofNat 32 n.val) 0#32 = BitVec.ofBool (decide (1 ≤ n.val)) := by
  decide +kernel

theorem inf_bits : Ideal.ofBits .f32 2139095040#32 = ⊤ := by simp [Ideal.ofBits, Ideal.ieee]

theorem liveV_at (a : Vec Ideal S_ .f32) : liveV (F := Ideal) a ix0 = BitVec.ofBool (decide (Live (ratio (a ix0)))) := by
  obtain ⟨hc, hs⟩ := cnt_spec (ratio (a ix0))
  have h := cnt_sgt ⟨cnt (ratio (a ix0)), by omega⟩
  unfold liveV ratioV
  pointwise
  rw [cntV_at, inf_bits]
  simp only at h
  rw [h]
  have h1 := hs 1 le_rfl (by omega)
  by_cases h2 : ratio (a ix0) < ⊤ <;> by_cases h3 : 1 ≤ cnt (ratio (a ix0))
  · rw [decide_eq_true h2, decide_eq_true h3, decide_eq_true (show Live (ratio (a ix0)) from ⟨h1.mpr h3, h2⟩)]; rfl
  · rw [decide_eq_true h2, decide_eq_false h3, decide_eq_false (show ¬ Live (ratio (a ix0)) from fun hh => h3 (h1.mp hh.1))]; rfl
  · rw [decide_eq_false h2, decide_eq_true h3, decide_eq_false (show ¬ Live (ratio (a ix0)) from fun hh => h2 hh.2)]; rfl
  · rw [decide_eq_false h2, decide_eq_false h3, decide_eq_false (show ¬ Live (ratio (a ix0)) from fun hh => h2 hh.2)]; rfl

theorem not_live_zero : ¬ Live (ratio 0) := fun h => by
  have := h.1
  rw [ratio, zero_mul] at this
  exact absurd this (not_le.mpr (T_pos le_rfl (by omega)))

/-- The exponent is the count less 126 where the ratio is a normal number, and 0 elsewhere. -/
theorem expV_at (a : Vec Ideal S_ .f32) :
    expV (F := Ideal) a ix0 = if Live (ratio (a ix0)) then IntOp.subi (BitVec.ofNat 32 (cnt (ratio (a ix0)))) 126#32 else 0#32 := by
  unfold expV
  pointwise
  rw [liveV_at, cntV_at]
  by_cases h0 : a ix0 = 0
  · rw [if_pos h0, h0, if_neg not_live_zero]; rfl
  · rw [if_neg h0]
    by_cases h : Live (ratio (a ix0))
    · rw [if_pos h, decide_eq_true h]; rfl
    · rw [if_neg h, decide_eq_false h]; rfl

theorem powV_at (e : Vec Ideal S_ .i32) :
    powV (F := Ideal) e ix0 = Ideal.ofBits .f32 (IntOp.shli ArithUnit.host (IntOp.minsi 255#32 (IntOp.maxsi 0#32 (e ix0))) 23#32) := by
  unfold powV
  pointwise
  rfl

theorem scale_bits : ∀ n : Fin 255, IntOp.shli ArithUnit.host (IntOp.minsi 255#32 (IntOp.maxsi 0#32 (IntOp.addi (IntOp.subi (BitVec.ofNat 32 n.val) 126#32) 127#32))) 23#32 = BitVec.ofNat 32 (n.val + 1) <<< 23 := by
  decide +kernel
theorem inv_bits : ∀ n : Fin 255, IntOp.shli ArithUnit.host (IntOp.minsi 255#32 (IntOp.maxsi 0#32 (IntOp.addi (IntOp.subi 0#32 (IntOp.subi (BitVec.ofNat 32 n.val) 126#32)) 127#32))) 23#32 = BitVec.ofNat 32 (253 - n.val) <<< 23 := by
  decide +kernel

/-- The scale. -/
theorem scaleV_at (a : Vec Ideal S_ .f32) : scaleV (F := Ideal) a ix0 = up (ratio (a ix0)) := by
  obtain ⟨hc, hs⟩ := cnt_spec (ratio (a ix0))
  have h := scale_bits ⟨cnt (ratio (a ix0)), by omega⟩
  unfold scaleV up
  refine (powV_at _).trans ?_
  rw [show addi (expV (F := Ideal) a) (constantI S_ 32 127#32) ix0 = IntOp.addi (expV (F := Ideal) a ix0) 127#32 from rfl, expV_at]
  by_cases hl : Live (ratio (a ix0))
  · rw [if_pos hl, if_pos hl, h]; rfl
  · rw [if_neg hl, if_neg hl]; rfl

/-- The factor. -/
theorem invV_at (a : Vec Ideal S_ .f32) : invV (F := Ideal) a ix0 = down (ratio (a ix0)) := by
  obtain ⟨hc, hs⟩ := cnt_spec (ratio (a ix0))
  have h := inv_bits ⟨cnt (ratio (a ix0)), by omega⟩
  unfold invV down
  refine (powV_at _).trans ?_
  rw [show addi (negi (expV (F := Ideal) a)) (constantI S_ 32 127#32) ix0 = IntOp.addi (IntOp.subi 0#32 (expV (F := Ideal) a ix0)) 127#32 from rfl, expV_at]
  by_cases hl : Live (ratio (a ix0))
  · rw [if_pos hl, if_pos hl, h]; rfl
  · rw [if_neg hl, if_neg hl]; rfl

/-- The greatest magnitude is at most `z` exactly when every maximum of the first call is. -/
theorem amaxV_le (x : Vec Ideal S8x192 .f32) (z : EReal) : amaxV (F := Ideal) x ix0 ≤ z ↔ ∀ (s : Fin 8) (o : Fin 192), x (ix2 s o) ≤ z := by
  have hbot : Ideal.ofBits .f32 4286578688#32 = ⊥ := by simp [Ideal.ofBits, Ideal.ieee]
  have h : amaxV (F := Ideal) x ix0 = Finset.fold max ⊥ (fun k : Fin 8 × Fin 192 => x (ix2 k.1 k.2)) Finset.univ := by
    unfold amaxV
    pointwise
    rw [hbot]
  rw [h, Finset.fold_max_le]
  exact ⟨fun hh s o => hh.2 (s, o) (Finset.mem_univ _), fun hh => ⟨bot_le, fun k _ => hh k.1 k.2⟩⟩

end Cert.KernelIdeal.Whole

end
-- ==== Proof.Value.StatsLoop.lean ====
/- What the first call's body leaves in its two outputs: the running maximum and the running sum over one block of rows. -/
module

public import proofs.«01_k».proof.Proof.KernelIdealRun.Stats
public import Idealize.ShloMosaic.Lib.Pipeline.ValueKit.Tiles
public import Idealize.ShloMosaic.Lib.Pointwise.Index
import all proofs.«01_k».proof.Proof.Gen.KernelIdeal.Loops

@[expose] public section

set_option maxRecDepth 16384

noncomputable section

namespace Cert.KernelIdeal.Whole

open Cert.KernelIdeal.Gen
open Idealize.ShloMosaic Idealize.ShloMosaic.TcCoe Idealize.ShloMosaic.Tactic

variable {F : FTy → Type} [FloatOps F]

/-- One image row of the gradient, as one trip reads it. -/
def statRow (x0 : Vec F S1x32x128x192 .bf16) (k : Fin k0_t1_loop.trips) : Vec F S1x1x128x192 .bf16 :=
  View.ld x0 (Rect.unit (s := S1x32x128x192) (k0_off1 k) S1x1x128x192.size (k0_off1_inb k))

theorem trips0 : k0_t1_loop.trips = 32 := by decide +kernel

/-- The running maximum after `n` rows of a block. -/
def maxRun (x0 : Vec F S1x32x128x192 .bf16) (g : Vec F S8x192 .f32) : ℕ → Vec F S8x192 .f32
  | 0 => g
  | n + 1 => if h : n < k0_t1_loop.trips then k0_pay4 (statRow x0 ⟨n, h⟩) (maxRun x0 g n) else maxRun x0 g n

/-- The running sum after `n` rows of a block. -/
def sumRun (x0 : Vec F S1x32x128x192 .bf16) (g : Vec F S8x192 .f32) : ℕ → Vec F S8x192 .f32
  | 0 => g
  | n + 1 => if h : n < k0_t1_loop.trips then k0_pay5 (statRow x0 ⟨n, h⟩) (sumRun x0 g n) else sumRun x0 g n

theorem maxRun_succ (x0 : Vec F S1x32x128x192 .bf16) (g : Vec F S8x192 .f32) (k : Fin k0_t1_loop.trips) :
    maxRun x0 g (k.val + 1) = k0_pay4 (statRow x0 k) (maxRun x0 g k.val) := dif_pos k.isLt

theorem sumRun_succ (x0 : Vec F S1x32x128x192 .bf16) (g : Vec F S8x192 .f32) (k : Fin k0_t1_loop.trips) :
    sumRun x0 g (k.val + 1) = k0_pay5 (statRow x0 k) (sumRun x0 g k.val) := dif_pos k.isLt

/-- A load of the whole of an output. -/
theorem ld_whole (X : Vec F S8x192 .f32) : View.ld X (Rect.unit (s := S8x192) ![0, 0] S8x192.size inb_S8x192_S8x192_0_0) = X :=
  View.ld_unit_zero (by decide) _ X

/-- A store of the whole of an output. -/
theorem read_whole (v : View sig .tc .vmem S8x192 .f32) (f : v.ty.Contents (Elt F)) (w : Vec F S8x192 .f32) (L : List (View.Piece (Elt F) S8x192 .f32)) :
    v.read (Elt F) (v.writes (Elt F) f (⟨Rect.unit (s := S8x192) ![0, 0] S8x192.size inb_S8x192_S8x192_0_0, w⟩ :: L)) = w := by
  funext y
  refine View.read_writes_cons_hit_of_coords v f (Rect.unit (s := S8x192) ![0, 0] S8x192.size inb_S8x192_S8x192_0_0) w L y y fun x => ?_
  match x with
  | 0 => show (y 0).val = 0 + 1 * (y 0).val; omega
  | 1 => show (y 1).val = 0 + 1 * (y 1).val; omega

unseal trip_k0_t1 in
theorem trip_max (𝒱 : Variants) (c : Dev nD) (bd : Option 𝒱.V) (i : grid0.Coords) (arg2 : Memref sig .tc .vmem S1x32x128x192 .bf16) (harg2 : arg2.IsWhole) (arg3 : Memref sig .tc .vmem S8x192 .f32) (harg3 : arg3.IsWhole) (arg4 : Memref sig .tc .vmem S8x192 .f32) (harg4 : arg4.IsWhole)
    (X2 : BufTy.Contents (Elt F) arg2.view.ty) (k : Fin k0_t1_loop.trips) (G3 : BufTy.Contents (Elt F) arg3.view.ty) (G4 : BufTy.Contents (Elt F) arg4.view.ty) :
    (trip_k0_t1 (F := F) 𝒱 c bd i arg2 harg2 arg3 harg3 arg4 harg4 X2 k).1 G3 G4
      = [⟨Rect.unit (s := S8x192) ![0, 0] S8x192.size inb_S8x192_S8x192_0_0, k0_pay4 (statRow (arg2.view.read (Elt F) X2) k) (arg3.view.read (Elt F) G3)⟩] := by
  unfold trip_k0_t1
  dsimp only
  sl_unfold_run_names
  simp only [View.readAt_eq_ld]
  exact congrArg (fun z => [(⟨Rect.unit (s := S8x192) ![0, 0] S8x192.size inb_S8x192_S8x192_0_0, k0_pay4 (statRow (arg2.view.read (Elt F) X2) k) z⟩ : View.Piece (Elt F) S8x192 .f32)]) (ld_whole _)

unseal trip_k0_t1 in
theorem trip_sum (𝒱 : Variants) (c : Dev nD) (bd : Option 𝒱.V) (i : grid0.Coords) (arg2 : Memref sig .tc .vmem S1x32x128x192 .bf16) (harg2 : arg2.IsWhole) (arg3 : Memref sig .tc .vmem S8x192 .f32) (harg3 : arg3.IsWhole) (arg4 : Memref sig .tc .vmem S8x192 .f32) (harg4 : arg4.IsWhole)
    (X2 : BufTy.Contents (Elt F) arg2.view.ty) (k : Fin k0_t1_loop.trips) (G3 : BufTy.Contents (Elt F) arg3.view.ty) (G4 : BufTy.Contents (Elt F) arg4.view.ty) :
    (trip_k0_t1 (F := F) 𝒱 c bd i arg2 harg2 arg3 harg3 arg4 harg4 X2 k).2.1 G3 G4
      = [⟨Rect.unit (s := S8x192) ![0, 0] S8x192.size inb_S8x192_S8x192_0_0, k0_pay5 (statRow (arg2.view.read (Elt F) X2) k) (arg4.view.read (Elt F) G4)⟩] := by
  unfold trip_k0_t1
  dsimp only
  sl_unfold_run_names
  simp only [View.readAt_eq_ld]
  exact congrArg (fun z => [(⟨Rect.unit (s := S8x192) ![0, 0] S8x192.size inb_S8x192_S8x192_0_0, k0_pay5 (statRow (arg2.view.read (Elt F) X2) k) z⟩ : View.Piece (Elt F) S8x192 .f32)]) (ld_whole _)

section Reads

variable (𝒱 : Variants) (c : Dev nD) (bd : Option 𝒱.V) (i : grid0.Coords) (arg2 : Memref sig .tc .vmem S1x32x128x192 .bf16) (harg2 : arg2.IsWhole) (arg3 : Memref sig .tc .vmem S8x192 .f32) (harg3 : arg3.IsWhole) (arg4 : Memref sig .tc .vmem S8x192 .f32) (harg4 : arg4.IsWhole)

theorem read_max (X2 : BufTy.Contents (Elt F) arg2.view.ty) (G3 : BufTy.Contents (Elt F) arg3.view.ty) (G4 : BufTy.Contents (Elt F) arg4.view.ty) (n : ℕ) (hn : n ≤ 32) :
    arg3.view.read (Elt F) (arg3.view.writes (Elt F) G3 (pb_k0_t1 (F := F) 𝒱 c bd i arg2 harg2 arg3 harg3 arg4 harg4 X2 G3 G4 n).1)
      = maxRun (arg2.view.read (Elt F) X2) (arg3.view.read (Elt F) G3) n := by
  induction n with
  | zero => rfl
  | succ n ih =>
    have hk : n < k0_t1_loop.trips := by rw [trips0]; omega
    rw [show n + 1 = (⟨n, hk⟩ : Fin k0_t1_loop.trips).val + 1 from rfl, pb_k0_t1_succ]
    show arg3.view.read (Elt F) (arg3.view.writes (Elt F) G3 (_ ++ _)) = _
    rw [View.writes_append]
    unfold tripL_k0_t1
    dsimp only
    rw [trip_max, read_whole, ih (by omega)]
    exact (maxRun_succ _ _ ⟨n, hk⟩).symm

theorem read_sum (X2 : BufTy.Contents (Elt F) arg2.view.ty) (G3 : BufTy.Contents (Elt F) arg3.view.ty) (G4 : BufTy.Contents (Elt F) arg4.view.ty) (n : ℕ) (hn : n ≤ 32) :
    arg4.view.read (Elt F) (arg4.view.writes (Elt F) G4 (pb_k0_t1 (F := F) 𝒱 c bd i arg2 harg2 arg3 harg3 arg4 harg4 X2 G3 G4 n).2)
      = sumRun (arg2.view.read (Elt F) X2) (arg4.view.read (Elt F) G4) n := by
  induction n with
  | zero => rfl
  | succ n ih =>
    have hk : n < k0_t1_loop.trips := by rw [trips0]; omega
    rw [show n + 1 = (⟨n, hk⟩ : Fin k0_t1_loop.trips).val + 1 from rfl, pb_k0_t1_succ]
    show arg4.view.read (Elt F) (arg4.view.writes (Elt F) G4 (_ ++ _)) = _
    rw [View.writes_append]
    unfold tripL_k0_t1
    dsimp only
    rw [trip_sum, read_whole, ih (by omega)]
    exact (sumRun_succ _ _ ⟨n, hk⟩).symm

theorem trips0' : Scf.trips (0#32) (Scalar.addi 0#32 32#32) 1#32 = 32 := by decide +kernel

/-- The first point's maximum: over zeros. -/
theorem out0_A_1_eq (hc0 : cond0_0 i) (x0 : Vec F S1x32x128x192 .bf16) :
    out0_A_1 c i arg2 harg2 arg3 harg3 arg4 harg4 hc0 x0 = maxRun x0 (k0_pay1 (F := F)) 32 := by
  unfold out0_A_1
  refine (View.read_writes_of_cover VO0_1 _ arg3.view (arg3.view.junk) _ (cover0_A_1 c i arg2 harg2 arg3 harg3 arg4 harg4 hc0 x0)).trans ?_
  unfold kernelRun0_A
  dsimp only
  sl_unfold_run_names
  rw [View.writes_append, trips0', read_max (hn := le_refl _), read_whole, harg2.read_unread]

/-- The first point's sum: over zeros. -/
theorem out0_A_2_eq (hc0 : cond0_0 i) (x0 : Vec F S1x32x128x192 .bf16) :
    out0_A_2 c i arg2 harg2 arg3 harg3 arg4 harg4 hc0 x0 = sumRun x0 (k0_pay2 (F := F)) 32 := by
  unfold out0_A_2
  refine (View.read_writes_of_cover VO0_2 _ arg4.view (arg4.view.junk) _ (cover0_A_2 c i arg2 harg2 arg3 harg3 arg4 harg4 hc0 x0)).trans ?_
  unfold kernelRun0_A
  dsimp only
  sl_unfold_run_names
  rw [View.writes_append, trips0', read_sum (hn := le_refl _), read_whole, harg2.read_unread]

/-- A later point's maximum: over what the point before left. -/
theorem out0_B_1_eq (hc0 : ¬cond0_0 i) (x0 : Vec F S1x32x128x192 .bf16) (xo1 xo2 : Vec F S8x192 .f32) :
    out0_B_1 c i arg2 harg2 arg3 harg3 arg4 harg4 hc0 x0 xo1 xo2 = maxRun x0 xo1 32 := by
  unfold out0_B_1
  refine (View.read_writes_of_cover VO0_1 _ arg3.view (harg3.unread xo1) _ (cover0_B_1 c i arg2 harg2 arg3 harg3 arg4 harg4 hc0 x0 xo1 xo2)).trans ?_
  unfold kernelRun0_B
  dsimp only
  sl_unfold_run_names
  rw [trips0', read_max (hn := le_refl _), harg2.read_unread, harg3.read_unread]

/-- A later point's sum: over what the point before left. -/
theorem out0_B_2_eq (hc0 : ¬cond0_0 i) (x0 : Vec F S1x32x128x192 .bf16) (xo1 xo2 : Vec F S8x192 .f32) :
    out0_B_2 c i arg2 harg2 arg3 harg3 arg4 harg4 hc0 x0 xo1 xo2 = sumRun x0 xo2 32 := by
  unfold out0_B_2
  refine (View.read_writes_of_cover VO0_2 _ arg4.view (harg4.unread xo2) _ (cover0_B_2 c i arg2 harg2 arg3 harg3 arg4 harg4 hc0 x0 xo1 xo2)).trans ?_
  unfold kernelRun0_B
  dsimp only
  sl_unfold_run_names
  rw [trips0', read_sum (hn := le_refl _), harg2.read_unread, harg4.read_unread]

end Reads

/-! ## After each point -/

variable (V : (c : Dev nD) → (b : Ref sig .tc) → Buf (Elt F) ((c : Thread nD τ).loc b))

theorem outsAt0_zero (c : Dev nD) (hn : 0 < cfg0.N) :
    outsAt0 V c 0 hn = (maxRun (iblk0 V c 0 ⟨0, hn⟩) (k0_pay1 (F := F)) 32, sumRun (iblk0 V c 0 ⟨0, hn⟩) (k0_pay2 (F := F)) 32) :=
  (outsAt0_A V c ⟨0, hn⟩ rfl).trans (by rw [out0_A_1_eq, out0_A_2_eq])

theorem outsAt0_succ (c : Dev nD) (n : ℕ) (hn : n + 1 < cfg0.N) :
    outsAt0 V c (n + 1) hn = (maxRun (iblk0 V c 0 ⟨n + 1, hn⟩) (outsAt0 V c n (Nat.lt_of_succ_lt hn)).1 32,
      sumRun (iblk0 V c 0 ⟨n + 1, hn⟩) (outsAt0 V c n (Nat.lt_of_succ_lt hn)).2 32) :=
  (outsAt0_B V c ⟨n + 1, hn⟩ (by
    have hN : n + 1 < 60 := lt_of_lt_of_eq hn N_0
    show ¬(n + 1) % 60 = 0; omega)).trans (by rw [out0_B_1_eq, out0_B_2_eq]; rfl)

end Cert.KernelIdeal.Whole

end
-- ==== Proof.Value.Payloads.lean ====
/- What each stored value of the two calls is, at an index, over the reals. -/
module

public import proofs.«01_k».proof.Proof.KernelIdealRun.WgradLoops
public import Idealize.ShloMosaic.Lib.Pointwise
public import Idealize.ShloMosaic.Lib.Pipeline.ValueKit.Tiles

@[expose] public section

set_option maxRecDepth 16384

noncomputable section

namespace Cert.KernelIdeal.Whole

open Cert.KernelIdeal.Gen Cert.Pieces
open Idealize.ShloMosaic Idealize.ShloMosaic.TcCoe Idealize.ShloMosaic.Tactic

/-- A value scaled by `inv` and kept within the range of the codes. -/
def clip (v inv : EReal) : EReal := min (Ideal.ofBits .f32 0x47600000#32) (max (Ideal.ofBits .f32 0xC7600000#32) (v * inv))

theorem pay1_at (j : S3x3x96x192.Idx) : k1_pay1 (F := Ideal) j = 0 := by
  pointwise [k1_pay1]

theorem pay3_at (j : S1x3x96x128.Idx) : k1_pay3 (F := Ideal) j = 0 := by
  pointwise [k1_pay3, k1_pay2]
  exact Ideal.ofBits_zero .fp8e4m3

theorem pay11_at (v5 : EReal) (g : Vec Ideal S1x8x128x192 .bf16) (t : Fin 1024) (o : Fin 192) :
    k1_pay11 (F := Ideal) v5 g (ix2 t o) = clip (g (ix4 0 ⟨t.val / 128, by omega⟩ ⟨t.val % 128, by omega⟩ o)) v5 := by
  pointwise [k1_pay11, clip]

theorem pay12_at (v5 : EReal) (g : Vec Ideal S1x8x128x192 .bf16) (r : Fin 8) (w : Fin 128) (o : Fin 192) :
    k1_pay12 (F := Ideal) v5 g (ix4 0 r w o) = clip (g (ix4 0 r w o)) v5 := by
  pointwise [k1_pay12, k1_pay11, clip]

theorem pay8_at (x : Vec Ideal S1x1x128x96 .fp8e4m3) (q : Fin 96) (l : Fin 128) :
    k1_pay8 (F := Ideal) x (ix4 0 0 q l) = x (ix4 0 0 l q) := by
  pointwise [k1_pay8, k1_pay5]

theorem pay7_at (x : Vec Ideal S1x1x128x96 .fp8e4m3) (q : Fin 96) (l : Fin 128) :
    k1_pay7 (F := Ideal) x (ix4 0 0 q l) = if h : 1 ≤ l.val then x (ix4 0 0 ⟨l.val - 1, by omega⟩ q) else 0 := by
  pointwise [k1_pay7, k1_pay6, k1_pay5]
  by_cases h : 1 ≤ l.val
  · have hc : IntOp.cmpi CmpIPredicate.eq (BitVec.ofNat 32 l.val) 0#32 = 0#1 := by revert h; revert l; decide
    rw [hc, ValueIdx.select_zero, dif_pos h]
    exact congrArg (fun a => x (ix4 0 0 a q)) (Fin.ext (by show (l.val + 128 - 1) % 128 = l.val - 1; omega))
  · have hl : l = 0 := Fin.ext (by show l.val = 0; omega)
    subst hl
    rw [dif_neg h]
    exact Ideal.ofBits_zero .fp8e4m3

theorem pay9_at (x : Vec Ideal S1x1x128x96 .fp8e4m3) (q : Fin 96) (l : Fin 128) :
    k1_pay9 (F := Ideal) x (ix4 0 0 q l) = if h : l.val + 1 < 128 then x (ix4 0 0 ⟨l.val + 1, by omega⟩ q) else 0 := by
  pointwise [k1_pay9, k1_pay6, k1_pay5]
  by_cases h : l.val + 1 < 128
  · have hc : IntOp.cmpi CmpIPredicate.eq (BitVec.ofNat 32 l.val) 127#32 = 0#1 := by revert h; revert l; decide
    rw [hc, ValueIdx.select_zero, dif_pos h]
    exact congrArg (fun a => x (ix4 0 0 a q)) (Fin.ext (by show (l.val + 128 - 127) % 128 = l.val + 1; omega))
  · have hl : l = 127 := Fin.ext (by show l.val = 127; omega)
    subst hl
    rw [dif_neg h]
    exact Ideal.ofBits_zero .fp8e4m3

theorem pay10_at (g : FVec Ideal S1024x192 .fp8e5m2) (m : FVec Ideal S96x1024 .fp8e4m3) (b : FVec Ideal S96x192 .f32) (q : Fin 96) (o : Fin 192) :
    k1_pay10 (F := Ideal) g m b (ix4 0 0 q o) = b (ix2 q o) + ∑ t : Fin 1024, m (ix2 q t) * g (ix2 t o) := by
  pointwise [k1_pay10]

/-- The image with a border of zeros around it: position `(a, w)` of the bordered image. -/
def border (x1 : Vec Ideal S1x160x128x96 .fp8e4m3) (a w : ℕ) (q : Fin 96) : EReal :=
  if h : (1 ≤ a ∧ a ≤ 160) ∧ 1 ≤ w ∧ w ≤ 128 then x1 (ix4 0 ⟨a - 1, by omega⟩ ⟨w - 1, by omega⟩ q) else 0

/-- A block of a buffer of rank four, read at an index named by its four coordinates. -/
theorem ld4 {e : EltTy} {Val : EltTy → Type} {n0 n1 n2 n3 m0 m1 m2 m3 : ℕ} (X : (⟨4, ![n0, n1, n2, n3]⟩ : Shape).Idx → Val e) (off : Fin 4 → ℕ)
    (inb : ∀ x : Fin 4, off x + (![m0, m1, m2, m3] : Fin 4 → ℕ) x ≤ (![n0, n1, n2, n3] : Fin 4 → ℕ) x)
    {o0 o1 o2 o3 : ℕ} (h : off = ![o0, o1, o2, o3]) (a' : Fin m0) (b' : Fin m1) (q' : Fin m2) (l' : Fin m3) (a : Fin n0) (b : Fin n1) (q : Fin n2) (l : Fin n3)
    (h0 : a.val = o0 + a'.val) (h1 : b.val = o1 + b'.val) (h2 : q.val = o2 + q'.val) (h3 : l.val = o3 + l'.val) :
    View.ld X (Rect.unit (s := ⟨4, ![n0, n1, n2, n3]⟩) off ![m0, m1, m2, m3] inb) (ix4 a' b' q' l') = X (ix4 a b q l) := by
  subst h
  refine View.ld_unit_apply_of (S := ⟨4, ![n0, n1, n2, n3]⟩) X _ _ inb (ix4 a' b' q' l') (ix4 a b q l) fun x => ?_
  match x with
  | 0 => exact h0
  | 1 => exact h1
  | 2 => exact h2
  | 3 => exact h3

theorem chunk_at (x2 : Vec Ideal S1x160x128x192 .bf16) (k : Fin k1_t2_loop.trips) (j : Fin 8) (w : Fin 128) (o : Fin 192)
    (h : 8 * k.val + j.val < 160) :
    chunk x2 k (ix4 0 j w o) = x2 (ix4 0 ⟨8 * k.val + j.val, h⟩ w o) := by
  unfold chunk
  exact ld4 _ _ _ (k1_off5_eq k) _ _ _ _ _ _ _ _ rfl rfl (Nat.zero_add _).symm (Nat.zero_add _).symm

theorem inRow_at (x1 : Vec Ideal S1x160x128x96 .fp8e4m3) (k : Fin k1_t1_loop.trips) (l : Fin 128) (q : Fin 96) (h : k.val < 160) :
    inRow x1 k (ix4 0 0 l q) = x1 (ix4 0 ⟨k.val, h⟩ l q) := by
  unfold inRow
  exact ld4 _ _ _ (k1_off1_eq k) _ _ _ _ _ _ _ _ rfl rfl (Nat.zero_add _).symm (Nat.zero_add _).symm

/-- The shifted copies are the bordered image, its columns shifted by the tap's column. -/
theorem planes_at (x1 : Vec Ideal S1x160x128x96 .fp8e4m3) (a : Fin 162) (b : Fin 3) (q : Fin 96) (l : Fin 128) :
    planes (F := Ideal) x1 (ix4 a b q l) = border x1 a.val (l.val + b.val) q := by
  unfold border
  by_cases h : 1 ≤ a.val ∧ a.val ≤ 160
  · rw [planes_row _ _ _ _ _ h]
    have hr : a.val - 1 < 160 := by omega
    match b with
    | 0 =>
      refine (pay7_at _ _ _).trans ?_
      by_cases hw : 1 ≤ l.val
      · rw [dif_pos hw, dif_pos ⟨h, by show 1 ≤ l.val + 0; omega, by show l.val + 0 ≤ 128; omega⟩]
        exact inRow_at x1 _ _ _ hr
      · rw [dif_neg hw, dif_neg (by show ¬(_ ∧ 1 ≤ l.val + 0 ∧ _); omega)]
    | 1 =>
      refine (pay8_at _ _ _).trans ?_
      rw [dif_pos ⟨h, by show 1 ≤ l.val + 1; omega, by show l.val + 1 ≤ 128; omega⟩]
      exact inRow_at x1 _ _ _ hr
    | 2 =>
      refine (pay9_at _ _ _).trans ?_
      by_cases hw : l.val + 1 < 128
      · rw [dif_pos hw, dif_pos ⟨h, by show 1 ≤ l.val + 2; omega, by show l.val + 2 ≤ 128; omega⟩]
        exact inRow_at x1 _ _ _ hr
      · rw [dif_neg hw, dif_neg (by show ¬(_ ∧ _ ∧ l.val + 2 ≤ 128); omega)]
  · rw [planes_border _ _ _ _ _ h, dif_neg (fun hh => h hh.1)]
    exact pay3_at _

theorem tapRow_at (x6 : Vec Ideal S162x3x96x128 .fp8e4m3) (k : Fin k1_t2_loop.trips) (kh kw : Fin 3) (j : Fin 8) (q : Fin 96) (l : Fin 128)
    (h : 8 * k.val + j.val + kh.val < 162) :
    tapRow x6 k kh kw j (ix4 0 0 q l) = x6 (ix4 ⟨8 * k.val + j.val + kh.val, h⟩ kw q l) := by
  match kw with
  | 0 =>
    exact ld4 _ _ _ (k1_off6_eq k j kh) _ _ _ _ _ _ _ _ rfl rfl (Nat.zero_add _).symm (Nat.zero_add _).symm
  | 1 =>
    exact ld4 _ _ _ (k1_off7_eq k j kh) _ _ _ _ _ _ _ _ rfl rfl (Nat.zero_add _).symm (Nat.zero_add _).symm
  | 2 =>
    exact ld4 _ _ _ (k1_off8_eq k j kh) _ _ _ _ _ _ _ _ rfl rfl (Nat.zero_add _).symm (Nat.zero_add _).symm

theorem tapBlk_at (d : Vec Ideal S3x3x96x192 .f32) (kh kw : Fin 3) (q : Fin 96) (o : Fin 192) :
    tapBlk d kh kw (ix4 0 0 q o) = d (ix4 kh kw q o) := by
  unfold tapBlk
  exact ld4 _ _ _ rfl _ _ _ _ _ _ _ _ rfl rfl (Nat.zero_add _).symm (Nat.zero_add _).symm

theorem tapPay_at (g : FVec Ideal S1024x192 .fp8e5m2) (rows : Fin 8 → Vec Ideal S1x1x96x128 .fp8e4m3) (blk : Vec Ideal S1x1x96x192 .f32)
    (q : Fin 96) (o : Fin 192) :
    tapPay (F := Ideal) g rows blk (ix4 0 0 q o)
      = blk (ix4 0 0 q o) + ∑ t : Fin 1024, rows ⟨t.val / 128, by omega⟩ (ix4 0 0 q ⟨t.val % 128, by omega⟩) * g (ix2 t o) := by
  unfold tapPay
  refine (pay10_at _ _ _ _ _).trans ?_
  congr 1
  · pointwise
  · refine Finset.sum_congr rfl fun t _ => ?_
    congr 1
    refine (concatenate_ofFn_apply (t := S96x1024) (s₁ := S96x128) 1 (fun n : Fin 8 => (shapeCast S96x128 (rows n) shapeCasts_S1x1x96x128_S96x128 : Vec Ideal S96x128 .fp8e4m3)) _ rfl 128 rfl
      (ix2 q t) ⟨t.val / 128, by omega⟩ rfl (ix2 q ⟨t.val % 128, by omega⟩) rfl ?_).trans ?_
    · intro b hb
      fin_cases b
      · rfl
      · exact absurd rfl hb
    · pointwise

/-- One term of the gradient of the weights over one image: the bordered image against the codes, at one position. -/
def term (x1 : Vec Ideal S1x160x128x96 .fp8e4m3) (x2 : Vec Ideal S1x160x128x192 .bf16) (inv : EReal) (kh kw : Fin 3) (q : Fin 96) (o : Fin 192)
    (r : Fin 160) (w : Fin 128) : EReal :=
  border x1 (r.val + kh.val) (w.val + kw.val) q * clip (x2 (ix4 0 r w o)) inv

/-- One row's share of the gradient of the weights, zero past the image. -/
def rowSum (x1 : Vec Ideal S1x160x128x96 .fp8e4m3) (x2 : Vec Ideal S1x160x128x192 .bf16) (inv : EReal) (kh kw : Fin 3) (q : Fin 96) (o : Fin 192)
    (r : ℕ) : EReal :=
  if h : r < 160 then ∑ w : Fin 128, term x1 x2 inv kh kw q o ⟨r, h⟩ w else 0

theorem dwStep_at (v5 : EReal) (x1 : Vec Ideal S1x160x128x96 .fp8e4m3) (x2 : Vec Ideal S1x160x128x192 .bf16) (d : Vec Ideal S3x3x96x192 .f32)
    (k : Fin k1_t2_loop.trips) (kh kw : Fin 3) (q : Fin 96) (o : Fin 192) :
    dwStep (F := Ideal) v5 x2 (planes x1) d k (ix4 kh kw q o) = d (ix4 kh kw q o) + ∑ j : Fin 8, rowSum x1 x2 v5 kh kw q o (8 * k.val + j.val) := by
  have hk : k.val < 20 := lt_of_lt_of_eq k.isLt trips2
  unfold dwStep
  refine (tapPay_at _ _ _ _ _).trans ?_
  congr 1
  · exact tapBlk_at _ _ _ _ _
  · refine (Fin.sum_univ_tiles 8 128 rfl _).trans ?_
    refine Finset.sum_congr rfl fun j _ => ?_
    have hr : 8 * k.val + j.val < 160 := by omega
    unfold rowSum
    rw [dif_pos hr]
    refine Finset.sum_congr rfl fun w _ => ?_
    have e1 : (⟨(j.val * 128 + w.val) / 128, by omega⟩ : Fin 8) = j := Fin.ext (by show (j.val * 128 + w.val) / 128 = j.val; omega)
    have e2 : (⟨(j.val * 128 + w.val) % 128, by omega⟩ : Fin 128) = w := Fin.ext (by show (j.val * 128 + w.val) % 128 = w.val; omega)
    refine (congrArg₂ (· * ·) (?_ : _ = border x1 (8 * k.val + j.val + kh.val) (w.val + kw.val) q) (?_ : _ = clip (x2 (ix4 0 ⟨8 * k.val + j.val, hr⟩ w o)) v5))
    · show tapRow (planes x1) k kh kw ⟨(j.val * 128 + w.val) / 128, _⟩ (ix4 0 0 q ⟨(j.val * 128 + w.val) % 128, _⟩) = _
      rw [e1, e2, tapRow_at _ _ _ _ _ _ _ (by omega), planes_at]
    · refine (pay11_at _ _ _ _).trans ?_
      show clip (chunk x2 k (ix4 0 ⟨(j.val * 128 + w.val) / 128, _⟩ ⟨(j.val * 128 + w.val) % 128, _⟩ o)) v5 = _
      rw [e1, e2, chunk_at _ _ _ _ _ hr]

theorem dwRun_at (v5 : EReal) (x1 : Vec Ideal S1x160x128x96 .fp8e4m3) (x2 : Vec Ideal S1x160x128x192 .bf16) (d : Vec Ideal S3x3x96x192 .f32)
    (n : ℕ) (hn : n ≤ 20) (kh kw : Fin 3) (q : Fin 96) (o : Fin 192) :
    dwRun (F := Ideal) v5 x2 (planes x1) d n (ix4 kh kw q o) = d (ix4 kh kw q o) + ∑ r ∈ Finset.range (8 * n), rowSum x1 x2 v5 kh kw q o r := by
  induction n with
  | zero => simp [dwRun]
  | succ n ih =>
    have hk : n < k1_t2_loop.trips := by rw [trips2]; omega
    refine (congrFun (dwRun_succ v5 x2 (planes x1) d ⟨n, hk⟩) _).trans ?_
    rw [dwStep_at, ih (by omega), show 8 * (n + 1) = 8 * n + 8 by ring, Finset.sum_range_add, add_assoc, Finset.sum_range (n := 8)]

/-- One image adds its whole share. -/
theorem dwImage_at (v5 : EReal) (x1 : Vec Ideal S1x160x128x96 .fp8e4m3) (x2 : Vec Ideal S1x160x128x192 .bf16) (d : Vec Ideal S3x3x96x192 .f32)
    (kh kw : Fin 3) (q : Fin 96) (o : Fin 192) :
    dwImage (F := Ideal) v5 x2 (planes x1) d (ix4 kh kw q o) = d (ix4 kh kw q o) + ∑ r : Fin 160, ∑ w : Fin 128, term x1 x2 v5 kh kw q o r w := by
  unfold dwImage
  rw [dwRun_at _ _ _ _ _ (le_refl _), show 8 * 20 = 160 from rfl, Finset.sum_range]
  exact congrArg _ (Finset.sum_congr rfl fun r _ => dif_pos r.isLt)

theorem codesOf_at (v5 : EReal) (x2 : Vec Ideal S1x160x128x192 .bf16) (r : Fin 160) (w : Fin 128) (o : Fin 192) :
    codesOf (F := Ideal) v5 x2 (ix4 0 r w o) = clip (x2 (ix4 0 r w o)) v5 := by
  unfold codesOf
  refine (pay12_at _ _ _ _ _).trans ?_
  have hr : 8 * (r.val / 8) + r.val % 8 < 160 := by omega
  refine congrArg (clip · v5) ((chunk_at x2 ⟨r.val / 8, by rw [trips2]; omega⟩ ⟨r.val % 8, by omega⟩ w o hr).trans ?_)
  exact congrArg (fun a => x2 (ix4 0 a w o)) (Fin.ext (by show 8 * (r.val / 8) + r.val % 8 = r.val; omega))

end Cert.KernelIdeal.Whole
-- ==== Proof.Value.StatsValue.lean ====
/- The first call's two outputs over the reals: the greatest magnitude and the sum, told block of rows by block of rows. -/
module

public import proofs.«01_k».proof.Proof.Value.StatsLoop
public import proofs.«01_k».proof.Proof.Value.Payloads
public import Idealize.ShloMosaic.Lib.Pipeline.ValueKit

@[expose] public section

set_option maxRecDepth 16384

noncomputable section

namespace Cert.KernelIdeal.Whole

open Cert.KernelIdeal.Gen
open Idealize.ShloMosaic Idealize.ShloMosaic.TcCoe Idealize.ShloMosaic.Tactic

theorem statRow_at (x0 : Vec Ideal S1x32x128x192 .bf16) (k : Fin k0_t1_loop.trips) (w : Fin 128) (o : Fin 192) (h : k.val < 32) :
    statRow x0 k (ix4 0 0 w o) = x0 (ix4 0 ⟨k.val, h⟩ w o) := by
  unfold statRow
  exact ld4 _ _ _ (k0_off1_eq k) _ _ _ _ _ _ _ _ rfl rfl (Nat.zero_add _).symm (Nat.zero_add _).symm

theorem pay0_1_at (j : S8x192.Idx) : k0_pay1 (F := Ideal) j = 0 := by
  pointwise [k0_pay1]

theorem pay0_2_at (j : S8x192.Idx) : k0_pay2 (F := Ideal) j = 0 := by
  pointwise [k0_pay2]

theorem pay0_5_at (v : Vec Ideal S1x1x128x192 .bf16) (g : Vec Ideal S8x192 .f32) (s : Fin 8) (o : Fin 192) :
    k0_pay5 (F := Ideal) v g (ix2 s o) = g (ix2 s o) + ∑ k : Fin 16, v (ix4 0 0 ⟨k.val * 8 + s.val, by omega⟩ o) := by
  pointwise [k0_pay5, k0_pay3]

/-- The magnitude of a value. -/
def mag (x : EReal) : EReal := max x (-x)

theorem ofBits_bot : Ideal.ofBits .f32 0xFF800000#32 = ⊥ := by
  simp [Ideal.ofBits, Ideal.ieee]

theorem pay0_4_at (v : Vec Ideal S1x1x128x192 .bf16) (g : Vec Ideal S8x192 .f32) (s : Fin 8) (o : Fin 192) (z : EReal) :
    k0_pay4 (F := Ideal) v g (ix2 s o) ≤ z ↔ g (ix2 s o) ≤ z ∧ ∀ k : Fin 16, mag (v (ix4 0 0 ⟨k.val * 8 + s.val, by omega⟩ o)) ≤ z := by
  pointwise [k0_pay4, k0_pay3]
  rw [max_le_iff, Finset.fold_max_le]
  refine and_congr_right fun _ => ?_
  constructor
  · exact fun h k => h.2 k (Finset.mem_univ _)
  · exact fun h => ⟨by rw [ofBits_bot]; exact bot_le, fun k _ => h k⟩

theorem maxRun_le (x0 : Vec Ideal S1x32x128x192 .bf16) (g : Vec Ideal S8x192 .f32) (s : Fin 8) (o : Fin 192) (z : EReal) (n : ℕ) (hn : n ≤ 32) :
    maxRun (F := Ideal) x0 g n (ix2 s o) ≤ z ↔ g (ix2 s o) ≤ z ∧ ∀ r : Fin 32, r.val < n → ∀ k : Fin 16, mag (x0 (ix4 0 r ⟨k.val * 8 + s.val, by omega⟩ o)) ≤ z := by
  induction n with
  | zero => exact ⟨fun h => ⟨h, fun r hr => absurd hr (Nat.not_lt_zero _)⟩, fun h => h.1⟩
  | succ n ih =>
    have hk : n < k0_t1_loop.trips := by rw [trips0]; omega
    rw [show maxRun (F := Ideal) x0 g (n + 1) = _ from maxRun_succ x0 g ⟨n, hk⟩, pay0_4_at, ih (by omega), and_assoc]
    refine and_congr_right fun _ => ?_
    have hrow : ∀ w : Fin 128, statRow (F := Ideal) x0 ⟨n, hk⟩ (ix4 0 0 w o) = x0 (ix4 0 ⟨n, by omega⟩ w o) := fun w => statRow_at x0 ⟨n, hk⟩ w o (by show n < 32; omega)
    constructor
    · rintro ⟨h1, h2⟩ r hr k
      by_cases h : r.val < n
      · exact h1 r h k
      · have hr' : r = ⟨n, by omega⟩ := Fin.ext (by show r.val = n; omega)
        have := h2 k
        rw [hrow] at this
        rw [hr']
        exact this
    · refine fun h => ⟨fun r hr k => h r (by omega) k, fun k => ?_⟩
      rw [hrow]
      exact h ⟨n, by omega⟩ (by show n < n + 1; omega) k

theorem sumRun_at (x0 : Vec Ideal S1x32x128x192 .bf16) (g : Vec Ideal S8x192 .f32) (s : Fin 8) (o : Fin 192) (n : ℕ) (hn : n ≤ 32) :
    sumRun (F := Ideal) x0 g n (ix2 s o) = g (ix2 s o) + ∑ r ∈ Finset.range n, (if h : r < 32 then ∑ k : Fin 16, x0 (ix4 0 ⟨r, h⟩ ⟨k.val * 8 + s.val, by omega⟩ o) else 0) := by
  induction n with
  | zero => simp [sumRun]
  | succ n ih =>
    have hk : n < k0_t1_loop.trips := by rw [trips0]; omega
    have hn' : n < 32 := by omega
    rw [show sumRun (F := Ideal) x0 g (n + 1) = _ from sumRun_succ x0 g ⟨n, hk⟩, pay0_5_at, ih (by omega), Finset.sum_range_succ, add_assoc, dif_pos hn']
    refine congrArg _ (congrArg _ (Finset.sum_congr rfl fun k _ => ?_))
    exact statRow_at x0 ⟨n, hk⟩ _ o hn'

theorem sumRun_all (x0 : Vec Ideal S1x32x128x192 .bf16) (g : Vec Ideal S8x192 .f32) (s : Fin 8) (o : Fin 192) :
    sumRun (F := Ideal) x0 g 32 (ix2 s o) = g (ix2 s o) + ∑ r : Fin 32, ∑ k : Fin 16, x0 (ix4 0 r ⟨k.val * 8 + s.val, by omega⟩ o) := by
  rw [sumRun_at _ _ _ _ _ (le_refl _), Finset.sum_range]
  exact congrArg _ (Finset.sum_congr rfl fun r _ => dif_pos r.isLt)

/-! ## After each point -/

variable (V : (c : Dev nD) → (b : Ref sig .tc) → Buf (Elt Ideal) ((c : Thread nD τ).loc b))

/-- The gradient as the first call finds it. -/
abbrev dyAt (c : Dev nD) : Vec Ideal S12x160x128x192 .bf16 := V c main_arg2

theorem win0_0_index : ∀ t : Fin cfg0.N, win0_0.index t = ![t.val / 5, t.val % 5, 0, 0] := by decide +kernel

/-- Point `t`'s block: 32 rows of image `t / 5`. -/
theorem iblk0_at (c : Dev nD) (t : Fin cfg0.N) (r : Fin 32) (w : Fin 128) (o : Fin 192) (h1 : t.val / 5 < 12) (h2 : t.val % 5 * 32 + r.val < 160) :
    iblk0 V c 0 t (ix4 (n0 := 1) (n1 := 32) (n2 := 128) (n3 := 192) 0 r w o) = dyAt V c (ix4 ⟨t.val / 5, h1⟩ ⟨t.val % 5 * 32 + r.val, h2⟩ w o) := by
  unfold iblk0 dyAt
  blk_ext [win0_0_index t]

/-- The value at row `r` and column group `k` of point `t`'s block, at output row `s`. -/
def statAt (c : Dev nD) (s : Fin 8) (o : Fin 192) (t : Fin 60) (r : Fin 32) (k : Fin 16) : EReal :=
  dyAt V c (ix4 ⟨t.val / 5, by omega⟩ ⟨t.val % 5 * 32 + r.val, by omega⟩ ⟨k.val * 8 + s.val, by omega⟩ o)

/-- Point `n`'s block. -/
abbrev statBlk (c : Dev nD) (n : ℕ) (hn : n < cfg0.N) : Vec Ideal S1x32x128x192 .bf16 := iblk0 V c 0 ⟨n, hn⟩

theorem iblk0_stat (c : Dev nD) (n : ℕ) (hn : n < cfg0.N) (s : Fin 8) (o : Fin 192) (r : Fin 32) (k : Fin 16) (h : n < 60) :
    iblk0 V c 0 ⟨n, hn⟩ (ix4 (n0 := 1) (n1 := 32) (n2 := 128) (n3 := 192) 0 r ⟨k.val * 8 + s.val, by omega⟩ o) = statAt V c s o ⟨n, h⟩ r k :=
  iblk0_at V c ⟨n, hn⟩ r _ o _ _

theorem max_after (c : Dev nD) (s : Fin 8) (o : Fin 192) (z : EReal) (n : ℕ) (hn : n < cfg0.N) :
    (outsAt0 V c n hn).1 (ix2 s o) ≤ z ↔ 0 ≤ z ∧ ∀ t : Fin 60, t.val ≤ n → ∀ r k, mag (statAt V c s o t r k) ≤ z := by
  induction n with
  | zero =>
    rw [outsAt0_zero]
    show maxRun (F := Ideal) _ _ 32 (ix2 s o) ≤ z ↔ _
    rw [maxRun_le _ _ _ _ _ _ (le_refl _), pay0_1_at]
    refine and_congr_right fun _ => ?_
    constructor
    · intro h t ht r k
      have e : t = ⟨0, by omega⟩ := Fin.ext (by show t.val = 0; omega)
      rw [e, ← iblk0_stat V c 0 hn]
      exact h r r.isLt k
    · intro h r _ k
      rw [iblk0_stat V c 0 hn s o r k (by omega)]
      exact h _ (le_refl _) r k
  | succ n ih =>
    have hN : n + 1 < 60 := lt_of_lt_of_eq hn N_0
    rw [outsAt0_succ]
    show maxRun (F := Ideal) _ _ 32 (ix2 s o) ≤ z ↔ _
    rw [maxRun_le _ _ _ _ _ _ (le_refl _), ih, and_assoc]
    refine and_congr_right fun _ => ?_
    constructor
    · rintro ⟨h1, h2⟩ t ht r k
      by_cases h : t.val ≤ n
      · exact h1 t h r k
      · have e : t = ⟨n + 1, hN⟩ := Fin.ext (by show t.val = n + 1; omega)
        rw [e, ← iblk0_stat V c (n + 1) hn]
        exact h2 r r.isLt k
    · refine fun h => ⟨fun t ht => h t (by omega), fun r _ k => ?_⟩
      rw [iblk0_stat V c (n + 1) hn s o r k hN]
      exact h _ (le_refl _) r k

theorem statBlk_sum (c : Dev nD) (s : Fin 8) (o : Fin 192) (n : ℕ) (hn : n < cfg0.N) (h : n < 60) :
    (∑ r : Fin 32, ∑ k : Fin 16, statBlk V c n hn (ix4 (n0 := 1) (n1 := 32) (n2 := 128) (n3 := 192) 0 r ⟨k.val * 8 + s.val, by omega⟩ o))
      = ∑ r : Fin 32, ∑ k : Fin 16, statAt V c s o ⟨n, h⟩ r k :=
  Finset.sum_congr rfl fun r _ => Finset.sum_congr rfl fun k _ => iblk0_stat V c n hn s o r k h

theorem sum_after (c : Dev nD) (s : Fin 8) (o : Fin 192) (n : ℕ) (hn : n < cfg0.N) :
    (outsAt0 V c n hn).2 (ix2 s o) = ∑ t ∈ Finset.range (n + 1), (if h : t < 60 then ∑ r : Fin 32, ∑ k : Fin 16, statAt V c s o ⟨t, h⟩ r k else 0) := by
  induction n with
  | zero =>
    rw [outsAt0_zero]
    show sumRun (F := Ideal) _ _ 32 (ix2 s o) = _
    rw [sumRun_all, pay0_2_at, zero_add, Finset.sum_range_one, dif_pos (by omega)]
    exact statBlk_sum V c s o 0 hn (by omega)
  | succ n ih =>
    have hN : n + 1 < 60 := lt_of_lt_of_eq hn N_0
    rw [outsAt0_succ]
    show sumRun (F := Ideal) _ _ 32 (ix2 s o) = _
    rw [sumRun_all, ih, Finset.sum_range_succ _ (n + 1), dif_pos hN]
    exact congrArg _ (statBlk_sum V c s o (n + 1) hn hN)

/-! ## The two arrays after the call -/

/-- The last point. -/
abbrev last0 : Fin cfg0.N := ⟨59, by rw [show cfg0.N = 60 from N_0]; omega⟩

/-- The maxima after the call, -/
abbrev maxArr (c : Dev nD) : Vec Ideal S8x192 .f32 := (dat0 V c).arrAt 1 cfg0.N
/-- and the sums. -/
abbrev sumArr (c : Dev nD) : Vec Ideal S8x192 .f32 := (dat0 V c).arrAt 2 cfg0.N

theorem arr_max (c : Dev nD) : maxArr V c = (outsAt0 V c 59 last0.isLt).1 := by
  refine (dat0 V c).arrAt_eq_of_after_last 1 last0 (by decide +kernel) _ fun j => ?_
  blk_simp
  rw [after0_1]

theorem arr_sum (c : Dev nD) : sumArr V c = (outsAt0 V c 59 last0.isLt).2 := by
  refine (dat0 V c).arrAt_eq_of_after_last 2 last0 (by decide +kernel) _ fun j => ?_
  blk_simp
  rw [after0_2]

/-- Every place of the gradient is met once: by its point, its row in the block, its column group and its output row. -/
theorem stat_split (f : Fin 12 → Fin 160 → Fin 128 → EReal) :
    (∑ s : Fin 8, ∑ t : Fin 60, ∑ r : Fin 32, ∑ k : Fin 16, f ⟨t.val / 5, by omega⟩ ⟨t.val % 5 * 32 + r.val, by omega⟩ ⟨k.val * 8 + s.val, by omega⟩)
      = ∑ b : Fin 12, ∑ r : Fin 160, ∑ w : Fin 128, f b r w := by
  have hw : ∀ b r, (∑ w : Fin 128, f b r w) = ∑ k : Fin 16, ∑ s : Fin 8, f b r ⟨k.val * 8 + s.val, by omega⟩ := fun b r => Fin.sum_univ_tiles 16 8 rfl _
  have hr : ∀ b, (∑ r : Fin 160, ∑ w : Fin 128, f b r w) = ∑ u : Fin 5, ∑ r : Fin 32, ∑ w : Fin 128, f b ⟨u.val * 32 + r.val, by omega⟩ w := fun b => Fin.sum_univ_tiles 5 32 rfl _
  have ht : ∀ g : Fin 60 → EReal, (∑ t : Fin 60, g t) = ∑ b : Fin 12, ∑ u : Fin 5, g ⟨b.val * 5 + u.val, by omega⟩ := fun g => Fin.sum_univ_tiles 12 5 rfl _
  rw [Finset.sum_comm]
  rw [ht]
  refine Finset.sum_congr rfl fun b _ => ?_
  rw [hr]
  refine Finset.sum_congr rfl fun u _ => ?_
  rw [Finset.sum_comm]
  refine Finset.sum_congr rfl fun r _ => ?_
  rw [hw, Finset.sum_comm]
  refine Finset.sum_congr rfl fun k _ => Finset.sum_congr rfl fun s _ => ?_
  have e1 : (⟨(b.val * 5 + u.val) / 5, by omega⟩ : Fin 12) = b := Fin.ext (by show (b.val * 5 + u.val) / 5 = b.val; omega)
  have e2 : (⟨(b.val * 5 + u.val) % 5 * 32 + r.val, by omega⟩ : Fin 160) = ⟨u.val * 32 + r.val, by omega⟩ := Fin.ext (by show (b.val * 5 + u.val) % 5 * 32 + r.val = u.val * 32 + r.val; omega)
  exact congrArg₂ (fun b r => f b r ⟨k.val * 8 + s.val, by omega⟩) e1 e2

/-- The eight rows of the sums add up to the whole sum. -/
theorem arr_sum_total (c : Dev nD) (o : Fin 192) :
    (∑ s : Fin 8, sumArr V c (ix2 s o)) = ∑ b : Fin 12, ∑ r : Fin 160, ∑ w : Fin 128, dyAt V c (ix4 b r w o) := by
  rw [arr_sum, ← stat_split fun b r w => dyAt V c (ix4 b r w o)]
  refine Finset.sum_congr rfl fun s _ => ?_
  refine (sum_after V c s o 59 last0.isLt).trans ?_
  rw [Finset.sum_range]
  exact Finset.sum_congr rfl fun t _ => dif_pos t.isLt

/-- The greatest of the maxima is the greatest magnitude, or zero. -/
theorem arr_max_le (c : Dev nD) (z : EReal) :
    (∀ (s : Fin 8) (o : Fin 192), maxArr V c (ix2 s o) ≤ z) ↔ 0 ≤ z ∧ ∀ b r w o, mag (dyAt V c (ix4 b r w o)) ≤ z := by
  have h1 : ∀ (s : Fin 8) (o : Fin 192), maxArr V c (ix2 s o) ≤ z ↔ 0 ≤ z ∧ ∀ t : Fin 60, ∀ r k, mag (statAt V c s o t r k) ≤ z := by
    intro s o
    rw [arr_max]
    refine (max_after V c s o z 59 last0.isLt).trans (and_congr_right fun _ => ?_)
    exact ⟨fun h t => h t (by omega), fun h t _ => h t⟩
  constructor
  · intro h
    refine ⟨((h1 0 0).mp (h 0 0)).1, fun b r w o => ?_⟩
    have := ((h1 ⟨w.val % 8, by omega⟩ o).mp (h _ o)).2 ⟨b.val * 5 + r.val / 32, by omega⟩ ⟨r.val % 32, by omega⟩ ⟨w.val / 8, by omega⟩
    unfold statAt at this
    have e1 : (⟨(b.val * 5 + r.val / 32) / 5, by omega⟩ : Fin 12) = b := Fin.ext (by show (b.val * 5 + r.val / 32) / 5 = b.val; omega)
    have e2 : (⟨(b.val * 5 + r.val / 32) % 5 * 32 + r.val % 32, by omega⟩ : Fin 160) = r := Fin.ext (by show (b.val * 5 + r.val / 32) % 5 * 32 + r.val % 32 = r.val; omega)
    have e3 : (⟨w.val / 8 * 8 + w.val % 8, by omega⟩ : Fin 128) = w := Fin.ext (by show w.val / 8 * 8 + w.val % 8 = w.val; omega)
    rw [e1, e2, e3] at this
    exact this
  · exact fun h s o => (h1 s o).mpr ⟨h.1, fun t r k => h.2 _ _ _ _⟩

end Cert.KernelIdeal.Whole

end
-- ==== Proof.Value.WgradValue.lean ====
/- The second call's two outputs over the reals: the gradient of the weights, summed over every image, and the codes. -/
module

public import proofs.«01_k».proof.Proof.KernelIdealRun.Wgrad
public import proofs.«01_k».proof.Proof.Value.Payloads
public import Idealize.ShloMosaic.Lib.Pipeline.ValueKit

@[expose] public section

set_option maxRecDepth 16384

noncomputable section

namespace Cert.KernelIdeal.Whole

open Cert.KernelIdeal.Gen
open Idealize.ShloMosaic Idealize.ShloMosaic.TcCoe Idealize.ShloMosaic.Tactic

variable (V : (c : Dev nD) → (b : Ref sig .tc) → Buf (Elt Ideal) ((c : Thread nD τ).loc b))

/-- The input, the gradient and the factor as the second call finds them. -/
abbrev inX (c : Dev nD) : Vec Ideal S12x160x128x96 .fp8e4m3 := V c main_arg0
abbrev inDy (c : Dev nD) : Vec Ideal S12x160x128x192 .bf16 := V c main_arg2
abbrev inInv (c : Dev nD) : EReal := (show Vec Ideal S1 .f32 from V c main_v29) (ix1 0)

theorem win1_0_index : ∀ t : Fin cfg1.N, win1_0.index t = ![0] := by decide +kernel
theorem win1_1_index : ∀ t : Fin cfg1.N, win1_1.index t = ![t.val, 0, 0, 0] := by decide +kernel
theorem win1_2_index : ∀ t : Fin cfg1.N, win1_2.index t = ![t.val, 0, 0, 0] := by decide +kernel
theorem win1_4_index : ∀ t : Fin cfg1.N, win1_4.index t = ![t.val, 0, 0, 0] := by decide +kernel

/-- Image `t` of the input and of the gradient. -/
abbrev xImg (c : Dev nD) (t : Fin cfg1.N) : Vec Ideal S1x160x128x96 .fp8e4m3 := iblk1 V c 1 t
abbrev dyImg (c : Dev nD) (t : Fin cfg1.N) : Vec Ideal S1x160x128x192 .bf16 := iblk1 V c 2 t

theorem xImg_at (c : Dev nD) (t : Fin cfg1.N) (r : Fin 160) (w : Fin 128) (q : Fin 96) (h : t.val < 12) :
    xImg V c t (ix4 0 r w q) = inX V c (ix4 ⟨t.val, h⟩ r w q) := by
  unfold xImg inX iblk1
  blk_ext [win1_1_index t]

theorem dyImg_at (c : Dev nD) (t : Fin cfg1.N) (r : Fin 160) (w : Fin 128) (o : Fin 192) (h : t.val < 12) :
    dyImg V c t (ix4 0 r w o) = inDy V c (ix4 ⟨t.val, h⟩ r w o) := by
  unfold dyImg inDy iblk1
  blk_ext [win1_2_index t]

theorem invAt_eq (c : Dev nD) (t : Fin cfg1.N) : invAt V c t = inInv V c := by
  unfold invAt inInv iblk1
  blk_ext [win1_0_index t]

/-- The images with a border of zeros around each. -/
def bordered (x : Vec Ideal S12x160x128x96 .fp8e4m3) (b : Fin 12) (a w : ℕ) (q : Fin 96) : EReal :=
  if h : (1 ≤ a ∧ a ≤ 160) ∧ 1 ≤ w ∧ w ≤ 128 then x (ix4 b ⟨a - 1, by omega⟩ ⟨w - 1, by omega⟩ q) else 0

/-- One image's share of the gradient of the weights, told on the arrays. -/
def share (x : Vec Ideal S12x160x128x96 .fp8e4m3) (dy : Vec Ideal S12x160x128x192 .bf16) (inv : EReal) (kh kw : Fin 3) (q : Fin 96) (o : Fin 192) (b : Fin 12) : EReal :=
  ∑ r : Fin 160, ∑ w : Fin 128, bordered x b (r.val + kh.val) (w.val + kw.val) q * clip (dy (ix4 b r w o)) inv

theorem border_xImg (c : Dev nD) (t : Fin cfg1.N) (a w : ℕ) (q : Fin 96) (h : t.val < 12) :
    border (xImg V c t) a w q = bordered (inX V c) ⟨t.val, h⟩ a w q := by
  unfold border bordered
  by_cases hh : (1 ≤ a ∧ a ≤ 160) ∧ 1 ≤ w ∧ w ≤ 128
  · rw [dif_pos hh, dif_pos hh]; exact xImg_at V c t _ _ q h
  · rw [dif_neg hh, dif_neg hh]

theorem dwImage_share (c : Dev nD) (t : Fin cfg1.N) (d : Vec Ideal S3x3x96x192 .f32) (kh kw : Fin 3) (q : Fin 96) (o : Fin 192) (h : t.val < 12) :
    dwImage (F := Ideal) (invAt V c t) (dyImg V c t) (planes (xImg V c t)) d (ix4 kh kw q o)
      = d (ix4 kh kw q o) + share (inX V c) (inDy V c) (inInv V c) kh kw q o ⟨t.val, h⟩ := by
  refine (dwImage_at _ _ _ _ kh kw q o).trans (congrArg _ ?_)
  refine Finset.sum_congr rfl fun r _ => Finset.sum_congr rfl fun w _ => ?_
  unfold term
  rw [border_xImg V c t _ _ q h, dyImg_at V c t r w o h, invAt_eq]

theorem dwAt_at (c : Dev nD) (n : ℕ) (hn : n < cfg1.N) (kh kw : Fin 3) (q : Fin 96) (o : Fin 192) :
    dwAt V c n hn (ix4 kh kw q o) = ∑ b ∈ Finset.range (n + 1), (if h : b < 12 then share (inX V c) (inDy V c) (inInv V c) kh kw q o ⟨b, h⟩ else 0) := by
  induction n with
  | zero =>
    have hN : 0 < 12 := by omega
    refine (dwImage_share V c ⟨0, hn⟩ (k1_pay1 (F := Ideal)) kh kw q o hN).trans ?_
    rw [pay1_at, zero_add, Finset.sum_range_one, dif_pos hN]
  | succ n ih =>
    have hN : n + 1 < 12 := lt_of_lt_of_eq hn N_1
    refine (dwImage_share V c ⟨n + 1, hn⟩ (dwAt V c n (Nat.lt_of_succ_lt hn)) kh kw q o hN).trans ?_
    rw [ih, Finset.sum_range_succ _ (n + 1), dif_pos hN]

/-! ## The two arrays after the call -/

/-- The last point. -/
abbrev last1 : Fin cfg1.N := ⟨11, by rw [show cfg1.N = 12 from N_1]; omega⟩

/-- The gradient of the weights after the call, -/
abbrev dwArr (c : Dev nD) : Vec Ideal S3x3x96x192 .f32 := (dat1 V c).arrAt 3 cfg1.N
/-- and the codes. -/
abbrev codeArr (c : Dev nD) : Vec Ideal S12x160x128x192 .fp8e5m2 := (dat1 V c).arrAt 4 cfg1.N

theorem dwArr_eq (c : Dev nD) : dwArr V c = dwAt V c 11 last1.isLt := by
  refine (dat1 V c).arrAt_eq_of_after_last 3 last1 (by decide +kernel) _ fun j => ?_
  blk_simp
  rw [after1_3]
  rfl

theorem dwArr_at (c : Dev nD) (kh kw : Fin 3) (q : Fin 96) (o : Fin 192) :
    dwArr V c (ix4 kh kw q o) = ∑ b : Fin 12, share (inX V c) (inDy V c) (inInv V c) kh kw q o b := by
  rw [dwArr_eq, dwAt_at, Finset.sum_range]
  exact Finset.sum_congr rfl fun b _ => dif_pos b.isLt

theorem codeArr_eq (c : Dev nD) : codeArr V c = fun i => clip (inDy V c i) (inInv V c) := by
  refine (dat1 V c).arrAt_eq_of_covers 4 _ (by decide +kernel) fun t hf y => ?_
  blk_simp
  rw [after1_4]
  refine Eq.trans (?_ : _ = codesOf (F := Ideal) (invAt V c t) (dyImg V c t) y) ?_
  · cases t; rename_i n hn; cases n <;> rfl
  · obtain ⟨a, r, w, o, rfl⟩ : ∃ (a : Fin 1) (r : Fin 160) (w : Fin 128) (o : Fin 192), y = ix4 a r w o := ⟨y 0, y 1, y 2, y 3, eq_ix4 y⟩
    obtain rfl : a = 0 := by omega
    refine (codesOf_at _ _ r w o).trans ?_
    rw [invAt_eq]
    refine congrArg (fun z => clip z (inInv V c)) ?_
    unfold dyImg inDy iblk1
    blk_ext [win1_2_index t, win1_4_index t]

end Cert.KernelIdeal.Whole

end
-- ==== Proof.Value.KernelResults.lean ====
/- The kernel's four results over the reals, of its arguments. -/
module

public import proofs.«01_k».proof.Proof.Value.ScaleKernel
public import proofs.«01_k».proof.Proof.Value.StatsValue
public import proofs.«01_k».proof.Proof.Value.WgradValue

@[expose] public section

set_option maxRecDepth 16384

noncomputable section

namespace Cert.KernelIdeal.Whole

open Cert.KernelIdeal.Gen Cert.Scale
open Idealize.ShloMosaic Idealize.ShloMosaic.TcCoe Idealize.ShloMosaic.Tactic Idealize.ShloMosaic.StableHlo

variable (m : (ℓ : Loc nD τ sig) → Buf (Elt Ideal) ℓ) (ρ : Dev nD → PrngReg)

/-- The images and the gradient, as @main is given them. -/
def argX (c : Dev nD) : Vec Ideal S12x160x128x96 .fp8e4m3 := m ((c.tc : Thread nD τ).loc main_arg0)
def argDy (c : Dev nD) : Vec Ideal S12x160x128x192 .bf16 := m ((c.tc : Thread nD τ).loc main_arg2)

/-- The greatest magnitude. -/
theorem amaxK_le (c : Dev nD) (z : EReal) : amaxK (F := Ideal) m ρ c ix0 ≤ z ↔ 0 ≤ z ∧ ∀ b r w o, mag (argDy m c (ix4 b r w o)) ≤ z :=
  (amaxV_le (maxArr (V0 m ρ) c) z).trans (arr_max_le (V0 m ρ) c z)

/-- The factor the second call is given. -/
theorem inInv_eq (c : Dev nD) : inInv (V10 m ρ) c = down (ratio (amaxK (F := Ideal) m ρ c ix0)) := by
  have h : (show Vec Ideal S1 .f32 from V10 m ρ c main_v29) = shapeCast S1 (invV (amaxK (F := Ideal) m ρ c)) shapeCasts_S_S1 := W10_v29 m ρ c
  unfold inInv
  rw [h]
  refine Eq.trans ?_ (invV_at _)
  pointwise

theorem inX_eq (c : Dev nD) : inX (V10 m ρ) c = argX m c := W10_args m ρ c main_arg0 (by decide)
theorem inDy_eq (c : Dev nD) : inDy (V10 m ρ) c = argDy m c := W10_args m ρ c main_arg2 (by decide)

theorem dwK_at (c : Dev nD) (kh kw : Fin 3) (q : Fin 96) (o : Fin 192) :
    (show Vec Ideal S3x3x96x192 .f32 from dwK (F := Ideal) m ρ c) (ix4 kh kw q o) = ∑ b : Fin 12, share (argX m c) (argDy m c) (down (ratio (amaxK (F := Ideal) m ρ c ix0))) kh kw q o b := by
  refine (dwArr_at (V10 m ρ) c kh kw q o).trans ?_
  rw [inInv_eq, inX_eq, inDy_eq]

theorem codeK_at (c : Dev nD) (i : S12x160x128x192.Idx) :
    (show Vec Ideal S12x160x128x192 .fp8e5m2 from codeK (F := Ideal) m ρ c) i = clip (argDy m c i) (down (ratio (amaxK (F := Ideal) m ρ c ix0))) := by
  refine (congrFun (codeArr_eq (V10 m ρ) c) i).trans ?_
  rw [inInv_eq, inDy_eq]

/-- The sums over everything but the channels. -/
theorem dbK_at (c : Dev nD) (o : Fin 192) :
    Host.reduceAdd (F := Ideal) (sumArr (V0 m ρ) c) (constant S_ .f32 0x00000000#32) reducesTo_S8x192_S192_d0 h_S_ (ix1 o) = ∑ b : Fin 12, ∑ r : Fin 160, ∑ w : Fin 128, argDy m c (ix4 b r w o) := by
  refine Eq.trans ?_ (arr_sum_total (V0 m ρ) c o)
  pointwise

end Cert.KernelIdeal.Whole

end
-- ==== Proof.Value.RefBlocks.lean ====
/- The reference's call over the reals: its payloads and its two outputs, entry by entry. -/
module

public import proofs.«01_k».proof.Proof.Gen.ReferenceIdeal.Run
public import proofs.«01_k».proof.Proof.Pieces
public import Idealize.ShloMosaic.Lib.Pointwise
public import Idealize.ShloMosaic.Lib.Pipeline.ValueKit
public import Idealize.ShloMosaic.Lib.Pipeline.ValueKit.Tiles

@[expose] public section

set_option maxRecDepth 16384

noncomputable section

namespace Cert.ReferenceIdeal.Whole

open Cert.ReferenceIdeal.Gen
open Idealize.ShloMosaic Idealize.ShloMosaic.TcCoe Idealize.ShloMosaic.Tactic
open Cert.Pieces

/-- A value by the factor, clipped at the greatest code. -/
def clip (v inv : EReal) : EReal := min (Ideal.ofBits .f32 0x47600000#32) (max (Ideal.ofBits .f32 0xC7600000#32) (v * inv))

/-- The images with a border of zeros around each. -/
def bordered (x : Vec Ideal S12x160x128x96 .fp8e4m3) (b : Fin 12) (a w : ℕ) (q : Fin 96) : EReal :=
  if h : (1 ≤ a ∧ a ≤ 160) ∧ 1 ≤ w ∧ w ≤ 128 then x (ix4 b ⟨a - 1, by omega⟩ ⟨w - 1, by omega⟩ q) else 0

theorem pay4_at (dy : Vec Ideal S12x160x128x192 .bf16) (inv : EReal) (b : Fin 12) (r : Fin 160) (w : Fin 128) (o : Fin 192) :
    k0_pay4 (F := Ideal) dy inv (ix4 b r w o) = clip (dy (ix4 b r w o)) inv := by
  unfold clip
  pointwise [k0_pay4]

theorem zero8 : Ideal.ofBits .fp8e4m3 0#8 = 0 := Ideal.ofBits_zero .fp8e4m3

theorem pay6_at (x : Vec Ideal S12x160x128x96 .fp8e4m3) (b : Fin 12) (a : Fin 162) (w : Fin 130) (q : Fin 96) :
    k0_pay6 (F := Ideal) x (ix4 b a w q) = bordered x b a.val w.val q := by
  unfold bordered k0_pay6
  pointwise
  simp only [zero8]
  by_cases h : (1 ≤ a.val ∧ a.val ≤ 160) ∧ 1 ≤ w.val ∧ w.val ≤ 128
  · rw [dif_pos h, dif_pos (by omega), dif_neg (by omega), dif_pos (by omega), dif_neg (by omega)]
  · rw [dif_neg h]
    by_cases h1 : w.val < 129
    · rw [dif_pos h1]
      by_cases h2 : w.val < 1
      · rw [dif_pos h2]
      · rw [dif_neg h2]
        by_cases h3 : a.val < 161
        · rw [dif_pos h3, dif_pos (by omega)]
        · rw [dif_neg h3]
    · rw [dif_neg h1]

theorem pay5_at (dy : Vec Ideal S12x160x128x192 .bf16) (inv : EReal) (b : Fin 12) (r : Fin 160) (w : Fin 128) (o : Fin 192) :
    k0_pay5 (F := Ideal) dy inv (ix2 ⟨(b.val * 160 + r.val) * 128 + w.val, by omega⟩ o) = clip (dy (ix4 b r w o)) inv := by
  refine Eq.trans ?_ (pay4_at dy inv b r w o)
  unfold k0_pay5
  pointwise

/-! ## The nine taps -/

/-- The gradient of one weight before it is scaled. -/
def acc (x : Vec Ideal S12x160x128x96 .fp8e4m3) (dy : Vec Ideal S12x160x128x192 .bf16) (inv : EReal) (kh kw : Fin 3) (q : Fin 96) (o : Fin 192) : EReal :=
  ∑ b : Fin 12, ∑ r : Fin 160, ∑ w : Fin 128, bordered x b (r.val + kh.val) (w.val + kw.val) q * clip (dy (ix4 b r w o)) inv

/-- A sum over the rows of the flattened images is a sum over images, rows and columns. -/
theorem sum_rows (f : Fin 245760 → EReal) :
    ∑ k, f k = ∑ b : Fin 12, ∑ r : Fin 160, ∑ w : Fin 128, f ⟨(b.val * 160 + r.val) * 128 + w.val, by omega⟩ := by
  rw [Fin.sum_univ_tiles 1920 128 rfl f]
  exact Fin.sum_univ_tiles 12 160 rfl fun j : Fin 1920 => ∑ w : Fin 128, f ⟨j.val * 128 + w.val, by omega⟩

/-- One tap's product of the flattened window with the flattened codes. -/
theorem tap_sum (x : Vec Ideal S12x160x128x96 .fp8e4m3) (dy : Vec Ideal S12x160x128x192 .bf16) (inv : EReal) (kh kw : Fin 3) (q : Fin 96) (o : Fin 192)
    (i : Fin 245760 → Fin 12) (j : Fin 245760 → Fin 162) (l : Fin 245760 → Fin 130)
    (hi : ∀ k, (i k).val = k.val / 20480) (hj : ∀ k, (j k).val = kh.val + k.val / 128 % 160) (hl : ∀ k, (l k).val = kw.val + k.val % 128) :
    ∑ k : Fin 245760, k0_pay6 (F := Ideal) x (ix4 (i k) (j k) (l k) q) * k0_pay5 (F := Ideal) dy inv (ix2 k o) = acc x dy inv kh kw q o := by
  rw [sum_rows]
  refine Finset.sum_congr rfl fun b _ => Finset.sum_congr rfl fun r _ => Finset.sum_congr rfl fun w _ => ?_
  rw [pay5_at dy inv b r w o, pay6_at]
  have h0 : i ⟨(b.val * 160 + r.val) * 128 + w.val, by omega⟩ = b := by apply Fin.ext; rw [hi]; show ((b.val * 160 + r.val) * 128 + w.val) / 20480 = b.val; omega
  have h1 : (j ⟨(b.val * 160 + r.val) * 128 + w.val, by omega⟩).val = r.val + kh.val := by rw [hj]; show kh.val + ((b.val * 160 + r.val) * 128 + w.val) / 128 % 160 = _; omega
  have h2 : (l ⟨(b.val * 160 + r.val) * 128 + w.val, by omega⟩).val = w.val + kw.val := by rw [hl]; show kw.val + ((b.val * 160 + r.val) * 128 + w.val) % 128 = _; omega
  rw [h0, h1, h2]

section Taps

variable (x : Vec Ideal S12x160x128x96 .fp8e4m3) (dy : Vec Ideal S12x160x128x192 .bf16) (inv : EReal) (q : Fin 96) (o : Fin 192)

theorem pay7_at : k0_pay7 (F := Ideal) dy inv x (ix4 0 0 q o) = acc x dy inv 0 0 q o := by
  unfold k0_pay7
  pointwise
  exact tap_sum x dy inv 0 0 q o _ _ _ (fun k => rfl) (fun k => by show _ = (0 : ℕ) + _; first | exact (Nat.zero_add _).symm | rfl) (fun k => by show _ = (0 : ℕ) + _; first | exact (Nat.zero_add _).symm | rfl)

theorem pay9_at : k0_pay9 (F := Ideal) (k0_pay8 dy inv x) (ix4 0 0 q o) = acc x dy inv 0 1 q o := by
  unfold k0_pay9 k0_pay8
  pointwise
  exact tap_sum x dy inv 0 1 q o _ _ _ (fun k => rfl) (fun k => by show _ = (0 : ℕ) + _; first | exact (Nat.zero_add _).symm | rfl) (fun k => by show _ = (1 : ℕ) + _; first | exact (Nat.zero_add _).symm | rfl)

theorem pay10_at : k0_pay10 (F := Ideal) (k0_pay5 dy inv) (k0_pay6 x) (ix4 0 0 q o) = acc x dy inv 0 2 q o := by
  unfold k0_pay10
  pointwise
  exact tap_sum x dy inv 0 2 q o _ _ _ (fun k => rfl) (fun k => by show _ = (0 : ℕ) + _; first | exact (Nat.zero_add _).symm | rfl) (fun k => by show _ = (2 : ℕ) + _; first | exact (Nat.zero_add _).symm | rfl)

theorem pay11_at : k0_pay11 (F := Ideal) (k0_pay5 dy inv) (k0_pay6 x) (ix4 0 0 q o) = acc x dy inv 1 0 q o := by
  unfold k0_pay11
  pointwise
  exact tap_sum x dy inv 1 0 q o _ _ _ (fun k => rfl) (fun k => by show _ = (1 : ℕ) + _; first | exact (Nat.zero_add _).symm | rfl) (fun k => by show _ = (0 : ℕ) + _; first | exact (Nat.zero_add _).symm | rfl)

theorem pay12_at : k0_pay12 (F := Ideal) (k0_pay5 dy inv) (k0_pay6 x) (ix4 0 0 q o) = acc x dy inv 1 1 q o := by
  unfold k0_pay12
  pointwise
  exact tap_sum x dy inv 1 1 q o _ _ _ (fun k => rfl) (fun k => by show _ = (1 : ℕ) + _; first | exact (Nat.zero_add _).symm | rfl) (fun k => by show _ = (1 : ℕ) + _; first | exact (Nat.zero_add _).symm | rfl)

theorem pay13_at : k0_pay13 (F := Ideal) (k0_pay5 dy inv) (k0_pay6 x) (ix4 0 0 q o) = acc x dy inv 1 2 q o := by
  unfold k0_pay13
  pointwise
  exact tap_sum x dy inv 1 2 q o _ _ _ (fun k => rfl) (fun k => by show _ = (1 : ℕ) + _; first | exact (Nat.zero_add _).symm | rfl) (fun k => by show _ = (2 : ℕ) + _; first | exact (Nat.zero_add _).symm | rfl)

theorem pay1_at : k0_pay1 (F := Ideal) (k0_pay14 (k0_pay5 dy inv) (k0_pay6 x)) (ix4 0 0 q o) = acc x dy inv 2 0 q o := by
  unfold k0_pay1 k0_pay14
  pointwise
  exact tap_sum x dy inv 2 0 q o _ _ _ (fun k => rfl) (fun k => by show _ = (2 : ℕ) + _; first | exact (Nat.zero_add _).symm | rfl) (fun k => by show _ = (0 : ℕ) + _; first | exact (Nat.zero_add _).symm | rfl)

theorem pay2_at : k0_pay2 (F := Ideal) (k0_pay5 dy inv) (k0_pay6 x) (ix4 0 0 q o) = acc x dy inv 2 1 q o := by
  unfold k0_pay2
  pointwise
  exact tap_sum x dy inv 2 1 q o _ _ _ (fun k => rfl) (fun k => by show _ = (2 : ℕ) + _; first | exact (Nat.zero_add _).symm | rfl) (fun k => by show _ = (1 : ℕ) + _; first | exact (Nat.zero_add _).symm | rfl)

theorem pay3_at : k0_pay3 (F := Ideal) (k0_pay5 dy inv) (k0_pay6 x) (ix4 0 0 q o) = acc x dy inv 2 2 q o := by
  unfold k0_pay3
  pointwise
  exact tap_sum x dy inv 2 2 q o _ _ _ (fun k => rfl) (fun k => by show _ = (2 : ℕ) + _; first | exact (Nat.zero_add _).symm | rfl) (fun k => by show _ = (2 : ℕ) + _; first | exact (Nat.zero_add _).symm | rfl)

end Taps

/-! ## The two outputs -/

theorem ld_dy (X : Vec Ideal S12x160x128x192 .bf16) : View.ld X (Rect.unit (s := S12x160x128x192) ![0, 0, 0, 0] S12x160x128x192.size inb_S12x160x128x192_S12x160x128x192_0_0_0_0) = X :=
  View.ld_unit_zero (by decide) _ X
theorem ld_x (X : Vec Ideal S12x160x128x96 .fp8e4m3) : View.ld X (Rect.unit (s := S12x160x128x96) ![0, 0, 0, 0] S12x160x128x96.size inb_S12x160x128x96_S12x160x128x96_0_0_0_0) = X :=
  View.ld_unit_zero (by decide) _ X
theorem ld_inv (X : Vec Ideal S1 .f32) : View.ld X (Rect.unit (s := S1) ![0] S1.size inb_S1_S1_0) = X :=
  View.ld_unit_zero (by decide) _ X

section Outs

variable (c : Dev nD)
    (arg0 : Memref sig .tc .smem S1 .f32) (harg0 : arg0.IsWhole) (arg1 : Memref sig .tc .vmem S12x160x128x96 .fp8e4m3) (harg1 : arg1.IsWhole) (arg2 : Memref sig .tc .vmem S12x160x128x192 .bf16) (harg2 : arg2.IsWhole) (arg3 : Memref sig .tc .vmem S3x3x96x192 .f32) (harg3 : arg3.IsWhole) (arg4 : Memref sig .tc .vmem S12x160x128x192 .fp8e5m2) (harg4 : arg4.IsWhole)
    (i0 : Vec Ideal S1 .f32) (x : Vec Ideal S12x160x128x96 .fp8e4m3) (dy : Vec Ideal S12x160x128x192 .bf16)

theorem rd_dy : View.readAt (Elt Ideal) arg2.view (Rect.unit (s := S12x160x128x192) ![0, 0, 0, 0] S12x160x128x192.size inb_S12x160x128x192_S12x160x128x192_0_0_0_0).toLoadRect (harg2.unread dy) = dy := by
  rw [View.readAt_eq_ld, harg2.read_unread]; exact ld_dy dy
theorem rd_x : View.readAt (Elt Ideal) arg1.view (Rect.unit (s := S12x160x128x96) ![0, 0, 0, 0] S12x160x128x96.size inb_S12x160x128x96_S12x160x128x96_0_0_0_0).toLoadRect (harg1.unread x) = x := by
  rw [View.readAt_eq_ld, harg1.read_unread]; exact ld_x x
theorem rd_inv : View.readAt (Elt Ideal) arg0.view (Rect.unit (s := S1) ![0] S1.size inb_S1_S1_0).toLoadRect (harg0.unread i0) = i0 := by
  rw [View.readAt_eq_ld, harg0.read_unread]; exact ld_inv i0

/-- The codes. -/
theorem code_eq : out0_A_4 (F := Ideal) c arg0 harg0 arg1 harg1 arg2 harg2 arg3 harg3 arg4 harg4 i0 x dy = k0_pay4 (F := Ideal) dy (i0 (ix1 0)) := by
  unfold out0_A_4 kernelRun0_A
  dsimp only
  sl_unfold_run_names
  funext y
  obtain ⟨b, r, w, o, rfl⟩ : ∃ (b : Fin 12) (r : Fin 160) (w : Fin 128) (o : Fin 192), y = ix4 b r w o := ⟨y 0, y 1, y 2, y 3, eq_ix4 y⟩
  refine (hit4 _ _ _ _ _ _ rfl b r w o b r w o (Nat.zero_add _).symm (Nat.zero_add _).symm (Nat.zero_add _).symm (Nat.zero_add _).symm).trans ?_
  refine congrFun (congrArg₂ (k0_pay4 (F := Ideal)) (rd_dy arg2 harg2 dy) ?_) _
  exact (congrFun (rd_inv arg0 harg0 i0) _).trans (congrArg i0 (by funext a; match a with | 0 => rfl))

set_option maxHeartbeats 2000000 in
/-- The gradient of the weights. -/
theorem acc_at (kh kw : Fin 3) (q : Fin 96) (o : Fin 192) :
    out0_A_3 (F := Ideal) c arg0 harg0 arg1 harg1 arg2 harg2 arg3 harg3 arg4 harg4 i0 x dy (ix4 kh kw q o) = acc x dy (i0 (ix1 0)) kh kw q o := by
  have hinv : View.readAt (Elt Ideal) arg0.view (Rect.unit (s := S1) ![0] S1.size inb_S1_S1_0).toLoadRect (harg0.unread i0) = i0 := rd_inv arg0 harg0 i0
  have hdy := rd_dy arg2 harg2 dy
  have hx := rd_x arg1 harg1 x
  unfold out0_A_3 kernelRun0_A
  dsimp only
  sl_unfold_run_names
  have hs : ∀ h, View.readAt (Elt Ideal) arg0.view (Rect.unit (s := S1) ![0] S1.size inb_S1_S1_0).toLoadRect (harg0.unread i0) (Shape.Idx.first h) = i0 (ix1 0) := fun h =>
    (congrFun hinv _).trans (congrArg i0 (by funext a; match a with | 0 => rfl))
  rw [hs]
  erw [hdy, hx]
  match kh, kw with
  | 0, 0 =>
    refine (miss4_0 _ _ _ _ _ _ rfl _ _ _ _ (by decide)).trans ?_
    refine (miss4_0 _ _ _ _ _ _ rfl _ _ _ _ (by decide)).trans ?_
    refine (miss4_0 _ _ _ _ _ _ rfl _ _ _ _ (by decide)).trans ?_
    refine (miss4_0 _ _ _ _ _ _ rfl _ _ _ _ (by decide)).trans ?_
    refine (miss4_0 _ _ _ _ _ _ rfl _ _ _ _ (by decide)).trans ?_
    refine (miss4_0 _ _ _ _ _ _ rfl _ _ _ _ (by decide)).trans ?_
    refine (miss4_1 _ _ _ _ _ _ rfl _ _ _ _ (by decide)).trans ?_
    refine (miss4_1 _ _ _ _ _ _ rfl _ _ _ _ (by decide)).trans ?_
    refine (hit4 _ _ _ _ _ _ rfl _ _ _ _ 0 0 q o rfl rfl (Nat.zero_add _).symm (Nat.zero_add _).symm).trans ?_
    exact pay7_at x dy _ q o
  | 0, 1 =>
    refine (miss4_0 _ _ _ _ _ _ rfl _ _ _ _ (by decide)).trans ?_
    refine (miss4_0 _ _ _ _ _ _ rfl _ _ _ _ (by decide)).trans ?_
    refine (miss4_0 _ _ _ _ _ _ rfl _ _ _ _ (by decide)).trans ?_
    refine (miss4_0 _ _ _ _ _ _ rfl _ _ _ _ (by decide)).trans ?_
    refine (miss4_0 _ _ _ _ _ _ rfl _ _ _ _ (by decide)).trans ?_
    refine (miss4_0 _ _ _ _ _ _ rfl _ _ _ _ (by decide)).trans ?_
    refine (miss4_1 _ _ _ _ _ _ rfl _ _ _ _ (by decide)).trans ?_
    refine (hit4 _ _ _ _ _ _ rfl _ _ _ _ 0 0 q o rfl rfl (Nat.zero_add _).symm (Nat.zero_add _).symm).trans ?_
    exact pay9_at x dy _ q o
  | 0, 2 =>
    refine (miss4_0 _ _ _ _ _ _ rfl _ _ _ _ (by decide)).trans ?_
    refine (miss4_0 _ _ _ _ _ _ rfl _ _ _ _ (by decide)).trans ?_
    refine (miss4_0 _ _ _ _ _ _ rfl _ _ _ _ (by decide)).trans ?_
    refine (miss4_0 _ _ _ _ _ _ rfl _ _ _ _ (by decide)).trans ?_
    refine (miss4_0 _ _ _ _ _ _ rfl _ _ _ _ (by decide)).trans ?_
    refine (miss4_0 _ _ _ _ _ _ rfl _ _ _ _ (by decide)).trans ?_
    refine (hit4 _ _ _ _ _ _ rfl _ _ _ _ 0 0 q o rfl rfl (Nat.zero_add _).symm (Nat.zero_add _).symm).trans ?_
    exact pay10_at x dy _ q o
  | 1, 0 =>
    refine (miss4_0 _ _ _ _ _ _ rfl _ _ _ _ (by decide)).trans ?_
    refine (miss4_0 _ _ _ _ _ _ rfl _ _ _ _ (by decide)).trans ?_
    refine (miss4_0 _ _ _ _ _ _ rfl _ _ _ _ (by decide)).trans ?_
    refine (miss4_1 _ _ _ _ _ _ rfl _ _ _ _ (by decide)).trans ?_
    refine (miss4_1 _ _ _ _ _ _ rfl _ _ _ _ (by decide)).trans ?_
    refine (hit4 _ _ _ _ _ _ rfl _ _ _ _ 0 0 q o rfl rfl (Nat.zero_add _).symm (Nat.zero_add _).symm).trans ?_
    exact pay11_at x dy _ q o
  | 1, 1 =>
    refine (miss4_0 _ _ _ _ _ _ rfl _ _ _ _ (by decide)).trans ?_
    refine (miss4_0 _ _ _ _ _ _ rfl _ _ _ _ (by decide)).trans ?_
    refine (miss4_0 _ _ _ _ _ _ rfl _ _ _ _ (by decide)).trans ?_
    refine (miss4_1 _ _ _ _ _ _ rfl _ _ _ _ (by decide)).trans ?_
    refine (hit4 _ _ _ _ _ _ rfl _ _ _ _ 0 0 q o rfl rfl (Nat.zero_add _).symm (Nat.zero_add _).symm).trans ?_
    exact pay12_at x dy _ q o
  | 1, 2 =>
    refine (miss4_0 _ _ _ _ _ _ rfl _ _ _ _ (by decide)).trans ?_
    refine (miss4_0 _ _ _ _ _ _ rfl _ _ _ _ (by decide)).trans ?_
    refine (miss4_0 _ _ _ _ _ _ rfl _ _ _ _ (by decide)).trans ?_
    refine (hit4 _ _ _ _ _ _ rfl _ _ _ _ 0 0 q o rfl rfl (Nat.zero_add _).symm (Nat.zero_add _).symm).trans ?_
    exact pay13_at x dy _ q o
  | 2, 0 =>
    refine (miss4_1 _ _ _ _ _ _ rfl _ _ _ _ (by decide)).trans ?_
    refine (miss4_1 _ _ _ _ _ _ rfl _ _ _ _ (by decide)).trans ?_
    refine (hit4 _ _ _ _ _ _ rfl _ _ _ _ 0 0 q o rfl rfl (Nat.zero_add _).symm (Nat.zero_add _).symm).trans ?_
    exact pay1_at x dy _ q o
  | 2, 1 =>
    refine (miss4_1 _ _ _ _ _ _ rfl _ _ _ _ (by decide)).trans ?_
    refine (hit4 _ _ _ _ _ _ rfl _ _ _ _ 0 0 q o rfl rfl (Nat.zero_add _).symm (Nat.zero_add _).symm).trans ?_
    exact pay2_at x dy _ q o
  | 2, 2 =>
    refine (hit4 _ _ _ _ _ _ rfl _ _ _ _ 0 0 q o rfl rfl (Nat.zero_add _).symm (Nat.zero_add _).symm).trans ?_
    exact pay3_at x dy _ q o

end Outs

end Cert.ReferenceIdeal.Whole

end
-- ==== Proof.Value.RefValue.lean ====
/- The reference over the reals: its scale and factor found by searching the powers of two, its region's outputs, its sums. -/
module

public import proofs.«01_k».proof.Proof.Value.RefBlocks
public import proofs.«01_k».proof.Proof.Value.ScaleMath

@[expose] public section

set_option maxRecDepth 16384

noncomputable section

namespace Cert.ReferenceIdeal.Whole

open Cert.ReferenceIdeal.Gen Cert.Scale
open Idealize.ShloMosaic Idealize.ShloMosaic.TcCoe Idealize.ShloMosaic.Tactic Idealize.ShloMosaic.StableHlo
open Idealize.ShloMosaic.Pipeline (Dat)

variable {F : FTy → Type} [FloatOps F]

/-- The greatest magnitude, -/
def amaxR (dy : Vec F S12x160x128x192 .bf16) : Vec F S_ .f32 :=
  Host.reduce FloatOps.maximumf (Host.absf (extf .f32 dy bitsLt_bf16_f32)) (constant S_ .f32 0xFF800000#32) reducesTo_S12x160x128x192_S_d0_1_2_3 h_S_
/-- its ratio to the greatest code, -/
def ratioR (a : Vec F S_ .f32) : Vec F S_ .f32 := mulf a (constant S_ .f32 0x37924925#32)
/-- f32's normal powers of two, -/
def powersR : Vec F S254 .f32 :=
  Host.powf (broadcastInDim S254 ![] bcast_S_S254 (constant S_ .f32 0x40000000#32)) (sitofp .f32 (addi (broadcastInDim S254 ![] bcast_S_S254 (constantI S_ 32 4294967170#32)) (iotaInDim S254 32 0)))
/-- whether the ratio is a normal number, -/
def liveR (a : Vec F S_ .f32) : Vec F S_ .i1 :=
  andi (cmpf .oge (ratioR a) (constant S_ .f32 0x00800000#32)) (cmpf .olt (ratioR a) (constant S_ .f32 0x7F800000#32))
/-- the scale, -/
def scaleR (a : Vec F S_ .f32) : Vec F S_ .f32 :=
  select (liveR a) (Host.reduce FloatOps.minimumf (select (cmpf .ogt powersR (broadcastInDim S254 ![] bcast_S_S254 (ratioR a))) powersR (broadcastInDim S254 ![] bcast_S_S254 (id (constant S_ .f32 0x7F800000#32)))) (constant S_ .f32 0x7F800000#32) reducesTo_S254_S_d0 h_S_) (id (constant S_ .f32 0x3F800000#32))
/-- and the factor. -/
def invR (a : Vec F S_ .f32) : Vec F S_ .f32 :=
  select (liveR a) (Host.reduce FloatOps.maximumf (select (cmpf .olt (mulf powersR (broadcastInDim S254 ![] bcast_S_S254 (ratioR a))) (broadcastInDim S254 ![] bcast_S_S254 (constant S_ .f32 0x3F800000#32))) powersR (broadcastInDim S254 ![] bcast_S_S254 (id (constant S_ .f32 0x00000000#32)))) (constant S_ .f32 0xFF800000#32) reducesTo_S254_S_d0 h_S_) (id (constant S_ .f32 0x3F800000#32))

section Entry

variable (m : (ℓ : Loc nD τ sig) → Buf (Elt F) ℓ)

set_option maxHeartbeats 2000000 in
/-- The factor as the region finds it. -/
theorem V_main_v25 (c : Dev nD) : Gen.V m c main_v25 = shapeCast S1 (invR (amaxR (m ((c.tc : Thread nD τ).loc main_arg2)))) shapeCasts_S_S1 := by
  show Gen.V0 m c (Proc.devRef .tc main_v25) = _
  simp only [Gen.V0, Gen.hostOps0, Gen.hostOps0_1, Gen.hostOps0_2, Gen.hostOps0_3, Gen.hostOps0_4, Gen.hostOps0_5, Gen.hostOps0_6, Gen.hostOps0_7, Gen.hostOps0_8, TRef.ternary, TRef.unary, TRef.toBuf, TRef.ofBuf, cast_eq, List.flatten_cons, List.flatten_nil, List.append_nil, List.cons_append, List.nil_append]
  after_results_simp <;> rfl

end Entry

/-! ## The scale and the factor over the reals -/

abbrev ratio (a : EReal) : EReal := a * Ideal.ofBits .f32 0x37924925#32

theorem exponent_bits : ∀ k : Fin 254, (IntOp.addi (4294967170#32) (BitVec.ofNat 32 k.val)).toInt = (k.val : ℤ) - 126 := by
  decide +kernel

theorem powersR_at (k : Fin 254) : powersR (F := Ideal) (ix1 k) = Cert.Scale.T (k.val + 1) := by
  have h2 : Ideal.ofBits .f32 1073741824#32 = ((2 : ℝ) : EReal) := by
    have := T_eq 128 (by omega) (by omega)
    unfold Cert.Scale.T at this
    rw [show (1073741824#32 : BitVec 32) = BitVec.ofNat 32 128 <<< 23 from rfl, this]
    norm_num
  unfold powersR
  pointwise
  rw [show FloatOps.sitofp (F := Ideal) FTy.f32 (IntOp.addi (4294967170#32) (BitVec.ofNat 32 k.val)) = ((((IntOp.addi (4294967170#32) (BitVec.ofNat 32 k.val)).toInt : ℤ) : ℝ) : EReal) from rfl,
    exponent_bits k, h2, Ideal.pow_coe_coe, T_eq (k.val + 1) (by omega) (by omega)]
  refine congrArg (fun r : ℝ => (r : EReal)) ?_
  refine (Real.rpow_intCast (2 : ℝ) ((k.val : ℤ) - 126)).trans ?_
  exact congrArg (fun z : ℤ => (2 : ℝ) ^ z) (by push_cast; ring)

theorem inf_bits : Ideal.ofBits .f32 2139095040#32 = ⊤ := by simp [Ideal.ofBits, Ideal.ieee]
theorem ofBits_bot : Ideal.ofBits .f32 4286578688#32 = ⊥ := by simp [Ideal.ofBits, Ideal.ieee]

theorem liveR_at (a : Vec Ideal S_ .f32) : liveR (F := Ideal) a ix0 = BitVec.ofBool (decide (Live (ratio (a ix0)))) := by
  unfold liveR ratioR
  pointwise
  have h1 : Ideal.ofBits .f32 8388608#32 = Cert.Scale.T 1 := rfl
  rw [inf_bits, h1]
  by_cases h2 : Cert.Scale.T 1 ≤ ratio (a ix0) <;> by_cases h3 : ratio (a ix0) < ⊤
  · rw [decide_eq_true h2, decide_eq_true h3, decide_eq_true (show Live (ratio (a ix0)) from ⟨h2, h3⟩)]; rfl
  · rw [decide_eq_true h2, decide_eq_false h3, decide_eq_false (show ¬ Live (ratio (a ix0)) from fun hh => h3 hh.2)]; rfl
  · rw [decide_eq_false h2, decide_eq_true h3, decide_eq_false (show ¬ Live (ratio (a ix0)) from fun hh => h2 hh.1)]; rfl
  · rw [decide_eq_false h2, decide_eq_false h3, decide_eq_false (show ¬ Live (ratio (a ix0)) from fun hh => h2 hh.1)]; rfl

theorem scaleR_at (a : Vec Ideal S_ .f32) : scaleR (F := Ideal) a ix0 = up (ratio (a ix0)) := by
  unfold scaleR ratioR
  pointwise
  simp only [powersR_at]
  rw [liveR_at, inf_bits, show id (constant (F := Ideal) S_ .f32 2139095040#32) ix0 = ⊤ from inf_bits]
  unfold up
  by_cases hl : Live (ratio (a ix0))
  · rw [decide_eq_true hl, if_pos hl]
    exact search_up _
  · rw [decide_eq_false hl, if_neg hl]
    rfl

theorem invR_at (a : Vec Ideal S_ .f32) : invR (F := Ideal) a ix0 = down (ratio (a ix0)) := by
  unfold invR ratioR
  pointwise
  simp only [powersR_at]
  rw [liveR_at, ofBits_bot, show id (constant (F := Ideal) S_ .f32 0#32) ix0 = 0 from Ideal.ofBits_zero .f32]
  unfold down
  by_cases hl : Live (ratio (a ix0))
  · rw [decide_eq_true hl, if_pos hl]
    exact search_down hl
  · rw [decide_eq_false hl, if_neg hl]
    rfl

/-- The magnitude. -/
def mag (x : EReal) : EReal := max x (-x)

theorem amaxR_le (dy : Vec Ideal S12x160x128x192 .bf16) (z : EReal) :
    amaxR (F := Ideal) dy ix0 ≤ z ↔ ∀ (b : Fin 12) (r : Fin 160) (w : Fin 128) (o : Fin 192), mag (dy (ix4 b r w o)) ≤ z := by
  unfold amaxR
  pointwise
  rw [ofBits_bot, Finset.fold_max_le]
  constructor
  · intro h b r w o
    exact h.2 _ (Finset.mem_filter.mpr ⟨Finset.mem_univ _, funext fun i => i.elim0⟩)
  · intro h
    refine ⟨bot_le, fun i _ => ?_⟩
    obtain ⟨b, r, w, o, rfl⟩ : ∃ b r w o, i = ix4 b r w o := ⟨i 0, i 1, i 2, i 3, eq_ix4 i⟩
    exact h b r w o

/-- The sums of the gradient over everything but the channels. -/
theorem db_at (dy : Vec Ideal S12x160x128x192 .bf16) (o : Fin 192) :
    Host.reduceAdd (F := Ideal) (extf .f32 dy bitsLt_bf16_f32) (constant S_ .f32 0x00000000#32) reducesTo_S12x160x128x192_S192_d0_1_2 h_S_ (ix1 o)
      = ∑ b : Fin 12, ∑ r : Fin 160, ∑ w : Fin 128, dy (ix4 b r w o) := by
  pointwise
  rw [Ideal.hostReduceAdd, zero_add, Finset.sum_filter, sum_idx4]
  refine Finset.sum_congr rfl fun b _ => Finset.sum_congr rfl fun r _ => Finset.sum_congr rfl fun w _ => ?_
  have hd : ∀ o' : Fin 192, reducesTo_S12x160x128x192_S192_d0_1_2.drop (ix4 b r w o') = ix1 o' := by
    intro o'
    funext k
    match k with
    | ⟨0, _⟩ => exact Fin.ext (Shape.ReducesTo.drop_apply_val_of_eq reducesTo_S12x160x128x192_S192_d0_1_2 (ix4 b r w o') 0 3)
  simp only [hd]
  rw [Finset.sum_eq_single o]
  · rw [if_pos rfl]; rfl
  · intro o' _ hne
    exact if_neg fun h => hne (congrFun h 0)
  · exact fun h => absurd (Finset.mem_univ _) h

end Cert.ReferenceIdeal.Whole

end
-- ==== Proof.Value.RefRegion.lean ====
/- The reference's region over the reals: the gradient of the weights and the codes, of the arguments. -/
module

public import proofs.«01_k».proof.Proof.Value.RefValue
public import proofs.«01_k».proof.Proof.Gen.ReferenceIdeal.Read

@[expose] public section

set_option maxRecDepth 16384

noncomputable section

namespace Cert.ReferenceIdeal.Whole

open Cert.ReferenceIdeal.Gen Cert.Scale
open Idealize.ShloMosaic Idealize.ShloMosaic.TcCoe Idealize.ShloMosaic.Tactic Idealize.ShloMosaic.StableHlo
open Idealize.ShloMosaic.Pipeline (Dat)

variable (m : (ℓ : Loc nD τ sig) → Buf (Elt Ideal) ℓ)

/-- The images and the gradient, as @main is given them. -/
def argX (c : Dev nD) : Vec Ideal S12x160x128x96 .fp8e4m3 := m ((c.tc : Thread nD τ).loc main_arg0)
def argDy (c : Dev nD) : Vec Ideal S12x160x128x192 .bf16 := m ((c.tc : Thread nD τ).loc main_arg2)

def winX (c : Dev nD) (t : Fin cfg0.N) : Vec Ideal S12x160x128x96 .fp8e4m3 := iblk m c 1 t
def winDy (c : Dev nD) (t : Fin cfg0.N) : Vec Ideal S12x160x128x192 .bf16 := iblk m c 2 t
def winInv (c : Dev nD) (t : Fin cfg0.N) : Vec Ideal S1 .f32 := iblk m c 0 t

section Windows

variable (V : (b : Ref sig .tc) → b.ty.Contents (Elt Ideal)) (t : Fin cfg0.N)

theorem index0 (a : Fin 1) : win0_0.index t a = 0 := rfl
theorem index1 (a : Fin 4) : win0_1.index t a = 0 := rfl
theorem index2 (a : Fin 4) : win0_2.index t a = 0 := rfl

/-- Each input's one block is its whole array. -/
theorem read_x (b : Fin 12) (r : Fin 160) (w : Fin 128) (q : Fin 96) :
    (show Vec Ideal S12x160x128x96 .fp8e4m3 from ((cfg0.win 1).blk t).view.read (Elt Ideal) (V (Pipeline.arrRef spec0 1))) (ix4 b r w q) = (show Vec Ideal S12x160x128x96 .fp8e4m3 from V main_arg0) (ix4 b r w q) := by
  blk_ext [index1 t]
theorem read_dy (b : Fin 12) (r : Fin 160) (w : Fin 128) (o : Fin 192) :
    (show Vec Ideal S12x160x128x192 .bf16 from ((cfg0.win 2).blk t).view.read (Elt Ideal) (V (Pipeline.arrRef spec0 2))) (ix4 b r w o) = (show Vec Ideal S12x160x128x192 .bf16 from V main_arg2) (ix4 b r w o) := by
  blk_ext [index2 t]
theorem read_inv :
    (show Vec Ideal S1 .f32 from ((cfg0.win 0).blk t).view.read (Elt Ideal) (V (Pipeline.arrRef spec0 0))) (ix1 0) = (show Vec Ideal S1 .f32 from V main_v25) (ix1 0) := by
  blk_ext [index0 t]

end Windows

theorem winX_eq (c : Dev nD) (t : Fin cfg0.N) : winX m c t = argX m c := by
  funext j
  obtain ⟨b, r, w, q, rfl⟩ : ∃ (b : Fin 12) (r : Fin 160) (w : Fin 128) (q : Fin 96), j = ix4 b r w q := ⟨j 0, j 1, j 2, j 3, eq_ix4 j⟩
  exact (read_x (Gen.V m c) t b r w q).trans (congrFun (Gen.V_main_arg0 m c) _)

theorem winDy_eq (c : Dev nD) (t : Fin cfg0.N) : winDy m c t = argDy m c := by
  funext j
  obtain ⟨b, r, w, o, rfl⟩ : ∃ (b : Fin 12) (r : Fin 160) (w : Fin 128) (o : Fin 192), j = ix4 b r w o := ⟨j 0, j 1, j 2, j 3, eq_ix4 j⟩
  exact (read_dy (Gen.V m c) t b r w o).trans (congrFun (Gen.V_main_arg2 m c) _)

/-- The factor, laid out as the region takes it. -/
theorem factor_at (a : Vec Ideal S_ .f32) : shapeCast S1 a shapeCasts_S_S1 (ix1 0) = a ix0 := by
  pointwise

/-- The factor the region is given. -/
theorem winInv_eq (c : Dev nD) (t : Fin cfg0.N) : winInv m c t (ix1 0) = down (ratio (amaxR (F := Ideal) (argDy m c) ix0)) :=
  (read_inv (Gen.V m c) t).trans ((congrFun (V_main_v25 m c) _).trans ((factor_at _).trans (invR_at _)))

theorem outs_dw (c : Dev nD) (t : Fin cfg0.N) : (outsAt0 m c t).1 = out0_A_3 (F := Ideal) c (ms0_0 t) (hs0_0 t) (ms0_1 t) (hs0_1 t) (ms0_2 t) (hs0_2 t) (ms0_3 t) (hs0_3 t) (ms0_4 t) (hs0_4 t) (winInv m c t) (winX m c t) (winDy m c t) := by
  unfold outsAt0 winInv winX winDy
  with_reducible rfl
theorem outs_code (c : Dev nD) (t : Fin cfg0.N) : (outsAt0 m c t).2 = out0_A_4 (F := Ideal) c (ms0_0 t) (hs0_0 t) (ms0_1 t) (hs0_1 t) (ms0_2 t) (hs0_2 t) (ms0_3 t) (hs0_3 t) (ms0_4 t) (hs0_4 t) (winInv m c t) (winX m c t) (winDy m c t) := by
  unfold outsAt0 winInv winX winDy
  with_reducible rfl

/-- The gradient of the weights and the codes, as the region leaves them. -/
def dwR (c : Dev nD) : Vec Ideal S3x3x96x192 .f32 := Value.reg_main_v26_0 m c
def codeR (c : Dev nD) : Vec Ideal S12x160x128x192 .fp8e5m2 := Value.reg_main_v26_1 m c

abbrev only : Fin cfg0.N := ⟨0, by decide⟩

theorem dwR_at (c : Dev nD) (kh kw : Fin 3) (q : Fin 96) (o : Fin 192) :
    dwR m c (ix4 kh kw q o) = acc (argX m c) (argDy m c) (down (ratio (amaxR (F := Ideal) (argDy m c) ix0))) kh kw q o := by
  have h : dwR m c = (outsAt0 m c only).1 := by
    refine (dats m 0 c).arrAt_eq_of_after_last 3 only (by decide +kernel) _ fun j => ?_
    blk_simp
    rw [after0_3]
  rw [h, outs_dw, acc_at]
  rw [winInv_eq, winX_eq, winDy_eq]

theorem codeR_at (c : Dev nD) (b : Fin 12) (r : Fin 160) (w : Fin 128) (o : Fin 192) :
    codeR m c (ix4 b r w o) = clip (argDy m c (ix4 b r w o)) (down (ratio (amaxR (F := Ideal) (argDy m c) ix0))) := by
  have h : codeR m c = (outsAt0 m c only).2 := by
    refine (dats m 0 c).arrAt_eq_of_after_last 4 only (by decide +kernel) _ fun j => ?_
    blk_simp
    rw [after0_4]
  rw [h, outs_code, code_eq]
  refine (pay4_at _ _ b r w o).trans ?_
  rw [winInv_eq, winDy_eq]

end Cert.ReferenceIdeal.Whole

end
-- ==== Proof.Value.Equation.lean ====
/- The kernel's and the reference's results are equal over the reals, argument for argument. -/
module

public import proofs.«01_k».proof.Proof.Value.KernelResults
public import proofs.«01_k».proof.Proof.Value.RefRegion

@[expose] public section

set_option maxRecDepth 16384

noncomputable section

namespace Cert.Equation

open Idealize.ShloMosaic Idealize.ShloMosaic.TcCoe Idealize.ShloMosaic.Tactic Idealize.ShloMosaic.StableHlo Idealize.SL.Sem

abbrev KMem := (ℓ : Loc KernelIdeal.nD KernelIdeal.τ KernelIdeal.sig) → Buf (Elt Ideal) ℓ
abbrev RMem := (ℓ : Loc ReferenceIdeal.nD ReferenceIdeal.τ ReferenceIdeal.sig) → Buf (Elt Ideal) ℓ

variable (m : KMem) (ρ : Dev KernelIdeal.nD → PrngReg) (m' : RMem) (c : Dev KernelIdeal.nD)

/-- The greatest magnitude: the kernel's running maxima start at zero, which no magnitude is below. -/
theorem amax_eq (hdy : ReferenceIdeal.Whole.argDy m' c = KernelIdeal.Whole.argDy m c) :
    ReferenceIdeal.Whole.amaxR (F := Ideal) (ReferenceIdeal.Whole.argDy m' c) ix0 = KernelIdeal.Whole.amaxK (F := Ideal) m ρ c ix0 := by
  have hk := KernelIdeal.Whole.amaxK_le m ρ c
  have hr := ReferenceIdeal.Whole.amaxR_le (ReferenceIdeal.Whole.argDy m' c)
  rw [hdy] at hr ⊢
  refine le_antisymm ((hr _).mpr ((hk _).mp le_rfl).2) ((hk _).mpr ⟨?_, (hr _).mp le_rfl⟩)
  refine le_trans ?_ ((hr _).mp le_rfl 0 0 0 0)
  show (0 : EReal) ≤ max _ _
  rcases le_total 0 (KernelIdeal.Whole.argDy m c (ix4 0 0 0 0)) with h | h
  · exact h.trans (le_max_left _ _)
  · exact (EReal.neg_nonneg.mpr h).trans (le_max_right _ _)

/-- One place's product, summed image by image or all at once. -/
theorem acc_eq (x : Vec Ideal KernelIdeal.S12x160x128x96 .fp8e4m3) (dy : Vec Ideal KernelIdeal.S12x160x128x192 .bf16) (inv : EReal) (kh kw : Fin 3) (q : Fin 96) (o : Fin 192) :
    ReferenceIdeal.Whole.acc x dy inv kh kw q o = ∑ b : Fin 12, KernelIdeal.Whole.share x dy inv kh kw q o b := rfl

theorem dw_eq (hx : ReferenceIdeal.Whole.argX m' c = KernelIdeal.Whole.argX m c) (hdy : ReferenceIdeal.Whole.argDy m' c = KernelIdeal.Whole.argDy m c) :
    ReferenceIdeal.Whole.dwR m' c = (show Vec Ideal KernelIdeal.S3x3x96x192 .f32 from KernelIdeal.Whole.dwK (F := Ideal) m ρ c) := by
  funext j
  obtain ⟨kh, kw, q, o, rfl⟩ : ∃ (kh : Fin 3) (kw : Fin 3) (q : Fin 96) (o : Fin 192), j = ix4 kh kw q o := ⟨j 0, j 1, j 2, j 3, eq_ix4 j⟩
  refine (ReferenceIdeal.Whole.dwR_at m' c kh kw q o).trans (Eq.trans ?_ (KernelIdeal.Whole.dwK_at m ρ c kh kw q o).symm)
  rw [amax_eq m ρ m' c hdy, hx, hdy]
  exact acc_eq _ _ _ kh kw q o

theorem code_eq (hdy : ReferenceIdeal.Whole.argDy m' c = KernelIdeal.Whole.argDy m c) :
    ReferenceIdeal.Whole.codeR m' c = (show Vec Ideal KernelIdeal.S12x160x128x192 .fp8e5m2 from KernelIdeal.Whole.codeK (F := Ideal) m ρ c) := by
  funext j
  obtain ⟨b, r, w, o, rfl⟩ : ∃ (b : Fin 12) (r : Fin 160) (w : Fin 128) (o : Fin 192), j = ix4 b r w o := ⟨j 0, j 1, j 2, j 3, eq_ix4 j⟩
  refine (ReferenceIdeal.Whole.codeR_at m' c b r w o).trans (Eq.trans ?_ (KernelIdeal.Whole.codeK_at m ρ c (ix4 b r w o)).symm)
  rw [amax_eq m ρ m' c hdy, hdy]
  rfl

theorem scale_eq (hdy : ReferenceIdeal.Whole.argDy m' c = KernelIdeal.Whole.argDy m c) :
    ReferenceIdeal.Whole.scaleR (F := Ideal) (ReferenceIdeal.Whole.amaxR (ReferenceIdeal.Whole.argDy m' c)) = KernelIdeal.Whole.scaleV (F := Ideal) (KernelIdeal.Whole.amaxK m ρ c) := by
  funext j
  obtain rfl : j = ix0 := funext fun a => a.elim0
  refine (ReferenceIdeal.Whole.scaleR_at _).trans (Eq.trans ?_ (KernelIdeal.Whole.scaleV_at _).symm)
  rw [amax_eq m ρ m' c hdy]

theorem db_eq (hdy : ReferenceIdeal.Whole.argDy m' c = KernelIdeal.Whole.argDy m c) :
    Host.reduceAdd (F := Ideal) (extf .f32 (ReferenceIdeal.Whole.argDy m' c) ReferenceIdeal.Gen.bitsLt_bf16_f32) (constant ReferenceIdeal.S_ .f32 0x00000000#32) ReferenceIdeal.Gen.reducesTo_S12x160x128x192_S192_d0_1_2 ReferenceIdeal.Gen.h_S_
      = Host.reduceAdd (F := Ideal) (KernelIdeal.Whole.sumArr (KernelIdeal.Whole.V0 m ρ) c) (constant KernelIdeal.S_ .f32 0x00000000#32) KernelIdeal.Gen.reducesTo_S8x192_S192_d0 KernelIdeal.Gen.h_S_ := by
  funext j
  obtain ⟨o, rfl⟩ : ∃ o : Fin 192, j = ix1 o := ⟨j 0, eq_ix1 j⟩
  refine (ReferenceIdeal.Whole.db_at _ o).trans (Eq.trans ?_ (KernelIdeal.Whole.dbK_at m ρ c o).symm)
  rw [hdy]

/-- Everything the algebraic claim says. -/
theorem algebraic (m : KMem) (g : Dev KernelIdeal.nD → PrngReg) (m' : RMem) (g' : Dev ReferenceIdeal.nD → PrngReg)
    (h : ∀ c : Dev KernelIdeal.nD,
      m' ((c.tc : Thread ReferenceIdeal.nD ReferenceIdeal.τ).loc ReferenceIdeal.main_arg0) = m ((c.tc : Thread KernelIdeal.nD KernelIdeal.τ).loc KernelIdeal.main_arg0)
      ∧ m' ((c.tc : Thread ReferenceIdeal.nD ReferenceIdeal.τ).loc ReferenceIdeal.main_arg1) = m ((c.tc : Thread KernelIdeal.nD KernelIdeal.τ).loc KernelIdeal.main_arg1)
      ∧ m' ((c.tc : Thread ReferenceIdeal.nD ReferenceIdeal.τ).loc ReferenceIdeal.main_arg2) = m ((c.tc : Thread KernelIdeal.nD KernelIdeal.τ).loc KernelIdeal.main_arg2)) :
    ∃ (v0 : (c : Dev KernelIdeal.nD) → Buf (Elt Ideal) ((c.tc : Thread KernelIdeal.nD KernelIdeal.τ).loc KernelIdeal.main_v33)) (v1 : (c : Dev KernelIdeal.nD) → Buf (Elt Ideal) ((c.tc : Thread KernelIdeal.nD KernelIdeal.τ).loc KernelIdeal.main_v34)) (v2 : (c : Dev KernelIdeal.nD) → Buf (Elt Ideal) ((c.tc : Thread KernelIdeal.nD KernelIdeal.τ).loc KernelIdeal.main_v30_1)) (v3 : (c : Dev KernelIdeal.nD) → Buf (Elt Ideal) ((c.tc : Thread KernelIdeal.nD KernelIdeal.τ).loc KernelIdeal.main_v23)),
      θ_run (KernelIdeal.defs (F := Ideal)) (onTc (τ := KernelIdeal.τ) (KernelIdeal.main (F := Ideal))) ⟨m, fun _ => 0, g⟩ (fun r => ∀ c : Dev KernelIdeal.nD,
          r.2.mem ((c.tc : Thread KernelIdeal.nD KernelIdeal.τ).loc KernelIdeal.main_v33) = v0 c
          ∧ r.2.mem ((c.tc : Thread KernelIdeal.nD KernelIdeal.τ).loc KernelIdeal.main_v34) = v1 c
          ∧ r.2.mem ((c.tc : Thread KernelIdeal.nD KernelIdeal.τ).loc KernelIdeal.main_v30_1) = v2 c
          ∧ r.2.mem ((c.tc : Thread KernelIdeal.nD KernelIdeal.τ).loc KernelIdeal.main_v23) = v3 c
          ∧ r.2.mem ((c.tc : Thread KernelIdeal.nD KernelIdeal.τ).loc KernelIdeal.main_arg0) = m ((c.tc : Thread KernelIdeal.nD KernelIdeal.τ).loc KernelIdeal.main_arg0)
          ∧ r.2.mem ((c.tc : Thread KernelIdeal.nD KernelIdeal.τ).loc KernelIdeal.main_arg1) = m ((c.tc : Thread KernelIdeal.nD KernelIdeal.τ).loc KernelIdeal.main_arg1)
          ∧ r.2.mem ((c.tc : Thread KernelIdeal.nD KernelIdeal.τ).loc KernelIdeal.main_arg2) = m ((c.tc : Thread KernelIdeal.nD KernelIdeal.τ).loc KernelIdeal.main_arg2))
      ∧ θ_run (ReferenceIdeal.defs (F := Ideal)) (onTc (τ := ReferenceIdeal.τ) (ReferenceIdeal.main (F := Ideal))) ⟨m', fun _ => 0, g'⟩ (fun r => ∀ c : Dev ReferenceIdeal.nD,
          r.2.mem ((c.tc : Thread ReferenceIdeal.nD ReferenceIdeal.τ).loc ReferenceIdeal.main_v29) = v0 c
          ∧ r.2.mem ((c.tc : Thread ReferenceIdeal.nD ReferenceIdeal.τ).loc ReferenceIdeal.main_v30) = v1 c
          ∧ r.2.mem ((c.tc : Thread ReferenceIdeal.nD ReferenceIdeal.τ).loc ReferenceIdeal.main_v26_1) = v2 c
          ∧ r.2.mem ((c.tc : Thread ReferenceIdeal.nD ReferenceIdeal.τ).loc ReferenceIdeal.main_v17) = v3 c
          ∧ r.2.mem ((c.tc : Thread ReferenceIdeal.nD ReferenceIdeal.τ).loc ReferenceIdeal.main_arg0) = m' ((c.tc : Thread ReferenceIdeal.nD ReferenceIdeal.τ).loc ReferenceIdeal.main_arg0)
          ∧ r.2.mem ((c.tc : Thread ReferenceIdeal.nD ReferenceIdeal.τ).loc ReferenceIdeal.main_arg1) = m' ((c.tc : Thread ReferenceIdeal.nD ReferenceIdeal.τ).loc ReferenceIdeal.main_arg1)
          ∧ r.2.mem ((c.tc : Thread ReferenceIdeal.nD ReferenceIdeal.τ).loc ReferenceIdeal.main_arg2) = m' ((c.tc : Thread ReferenceIdeal.nD ReferenceIdeal.τ).loc ReferenceIdeal.main_arg2)) := by
  have hx : ∀ c : Dev KernelIdeal.nD, ReferenceIdeal.Whole.argX m' c = KernelIdeal.Whole.argX m c := fun c => (h c).1
  have hdy : ∀ c : Dev KernelIdeal.nD, ReferenceIdeal.Whole.argDy m' c = KernelIdeal.Whole.argDy m c := fun c => (h c).2.2
  refine ⟨fun c => mulf (KernelIdeal.Whole.dwK m g c) (broadcastInDim KernelIdeal.S3x3x96x192 ![] KernelIdeal.Gen.bcast_S_S3x3x96x192 (mulf (m ((c.tc : Thread KernelIdeal.nD KernelIdeal.τ).loc KernelIdeal.main_arg1)) (KernelIdeal.Whole.scaleV (KernelIdeal.Whole.amaxK m g c)))),
    fun c => Host.reduceAdd (F := Ideal) (KernelIdeal.Whole.sumArr (KernelIdeal.Whole.V0 m g) c) (constant KernelIdeal.S_ .f32 0x00000000#32) KernelIdeal.Gen.reducesTo_S8x192_S192_d0 KernelIdeal.Gen.h_S_,
    fun c => KernelIdeal.Whole.codeK m g c, fun c => KernelIdeal.Whole.scaleV (KernelIdeal.Whole.amaxK m g c), ?_, ?_⟩
  · refine (θ_run KernelIdeal.defs _ _).mono (fun r hr c => ?_) (KernelIdeal.Whole.run m g)
    exact ⟨(hr.1 c _ (KernelIdeal.Whole.mem_uc KernelIdeal.main_v33 (by decide))).trans (KernelIdeal.Whole.W12_v33 m g c),
      (hr.1 c _ (KernelIdeal.Whole.mem_uc KernelIdeal.main_v34 (by decide))).trans (KernelIdeal.Whole.W12_v34 m g c),
      (hr.1 c _ (KernelIdeal.Whole.mem_uc KernelIdeal.main_v30_1 (by decide))).trans (KernelIdeal.Whole.W12_v30_1 m g c),
      (hr.1 c _ (KernelIdeal.Whole.mem_uc KernelIdeal.main_v23 (by decide))).trans (KernelIdeal.Whole.W12_v23 m g c),
      (hr.1 c _ (KernelIdeal.Whole.mem_uc KernelIdeal.main_arg0 (by decide))).trans (KernelIdeal.Whole.W12_main_arg0 m g c),
      (hr.1 c _ (KernelIdeal.Whole.mem_uc KernelIdeal.main_arg1 (by decide))).trans (KernelIdeal.Whole.W12_main_arg1 m g c),
      (hr.1 c _ (KernelIdeal.Whole.mem_uc KernelIdeal.main_arg2 (by decide))).trans (KernelIdeal.Whole.W12_main_arg2 m g c)⟩
  · refine (θ_run ReferenceIdeal.defs _ _).mono (fun r hr c => ?_) (ReferenceIdeal.Value.run m' g')
    obtain ⟨h0, h1, h2, h3, h4, h5, h6⟩ := hr c
    refine ⟨h0.trans ?_, h1.trans (db_eq m g m' c (hdy c)), h2.trans (code_eq m g m' c (hdy c)), h3.trans (scale_eq m g m' c (hdy c)), h4, h5, h6⟩
    refine congrArg₂ (fun (a : Vec Ideal KernelIdeal.S3x3x96x192 .f32) (s : Vec Ideal KernelIdeal.S_ .f32) => mulf (F := Ideal) (φ := .f32) a (broadcastInDim (s := KernelIdeal.S_) KernelIdeal.S3x3x96x192 ![] KernelIdeal.Gen.bcast_S_S3x3x96x192 s)) (dw_eq m g m' c (hx c) (hdy c)) ?_
    exact congrArg₂ (fun (a s : Vec Ideal KernelIdeal.S_ .f32) => mulf (F := Ideal) (φ := .f32) a s) (h c).2.1 (scale_eq m g m' c (hdy c))

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.KernelRun.Main
public import proofs.«01_k».proof.Proof.KernelIdealRun.Main
public import proofs.«01_k».proof.Proof.Value.Equation
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    fun m ρ _ => Cert.Kernel.Whole.frame m ρ, fun m ρ _ => Cert.KernelIdeal.Whole.frame m ρ,
    fun m ρ _ => Cert.ReferenceIdeal.Gen.frame m ρ, trivial,
    fun m g m' g' _ h => Cert.Equation.algebraic m g m' g' h⟩

end Cert.Proof

end
